-- ==== Defs.lean ====
def Pre_Kernel [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v2_0) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v2_2) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lens_in_range : Cert.Pre_lens_in_range.Facts) (hPre_in_range : Cert.Pre_in_range.Facts),
    quiescent_Kernel (hKernel := hKernel) (hPre_lens_in_range := hPre_lens_in_range)
    ∧ quiescent_KernelIdeal (hKernelIdeal := hKernelIdeal) (hPre_lens_in_range := hPre_lens_in_range)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x1x32x64 : Shape := ⟨4, ![2, 1, 32, 64]⟩
abbrev S2x1x4x64 : Shape := ⟨4, ![2, 1, 4, 64]⟩
abbrev S2x131072x4x64 : Shape := ⟨4, ![2, 131072, 4, 64]⟩
abbrev S2 : Shape := ⟨1, ![2]⟩
abbrev S4x64 : Shape := ⟨2, ![4, 64]⟩
abbrev S4 : Shape := ⟨1, ![4]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v5 : IVec S_ 1) (main_v11 : IVec S_ 1) (main_v13 : IVec S4 1) (main_v15 : IVec S4 1) : IVec S_ 1 :=
  let main_v16 : IVec S4 1 := andi main_v13 main_v15
  let main_c_7 : IVec S_ 1 := constantI S_ 1 1#1
  let main_v17 : IVec S_ 1 := (fun x v => Host.reduce IntOp.andi x v reducesTo_S4_S_d0 h_S_) main_v16 main_c_7
  let main_v18 : IVec S_ 1 := andi main_v5 main_v11
  let main_v19 : IVec S_ 1 := andi main_v18 main_v17
  main_v19

def fn {F : FTy → Type} [FloatOps F] (main_arg0 : FVec F S2x1x32x64 .bf16) (main_arg1 : FVec F S2x1x4x64 .bf16) (main_arg2 : FVec F S2x1x4x64 .bf16) (main_arg3 : FVec F S2x131072x4x64 .fp8e4m3) (main_arg4 : FVec F S2x131072x4x64 .fp8e4m3) (main_arg5 : IVec S2 32) (main_arg6 : IVec S4x64 32) (main_arg7 : IVec S4 32) : IVec S_ 1 :=
  let main_c : IVec S_ 32 := constantI S_ 32 1#32
  let main_v0 : IVec S2 32 := broadcastInDim S2 ![] bcast_S_S2 main_c
  let main_v1 : IVec S2 1 := cmpi .sge main_arg5 main_v0
  let main_c_0 : IVec S_ 32 := constantI S_ 32 131072#32
  let main_v2 : IVec S2 32 := broadcastInDim S2 ![] bcast_S_S2 main_c_0
  let main_v3 : IVec S2 1 := cmpi .sle main_arg5 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  let main_c_2 : IVec S_ 32 := constantI S_ 32 4294967170#32
  let main_v6 : IVec S4x64 32 := broadcastInDim S4x64 ![] bcast_S_S4x64 main_c_2
  let main_v7 : IVec S4x64 1 := cmpi .sge main_arg6 main_v6
  let main_c_3 : IVec S_ 32 := constantI S_ 32 126#32
  let main_v8 : IVec S4x64 32 := broadcastInDim S4x64 ![] bcast_S_S4x64 main_c_3
  let main_v9 : IVec S4x64 1 := cmpi .sle main_arg6 main_v8
  let main_v10 : IVec S4x64 1 := andi main_v7 main_v9
  let main_c_4 : IVec S_ 1 := constantI S_ 1 1#1
  let main_v11 : IVec S_ 1 := (fun x v => Host.reduce IntOp.andi x v reducesTo_S4x64_S_d0_1 h_S_) main_v10 main_c_4
  let main_c_5 : IVec S_ 32 := constantI S_ 32 4294967170#32
  let main_v12 : IVec S4 32 := broadcastInDim S4 ![] bcast_S_S4 main_c_5
  let main_v13 : IVec S4 1 := cmpi .sge main_arg7 main_v12
  let main_c_6 : IVec S_ 32 := constantI S_ 32 126#32
  let main_v14 : IVec S4 32 := broadcastInDim S4 ![] bcast_S_S4 main_c_6
  let main_v15 : IVec S4 1 := cmpi .sle main_arg7 main_v14
  fn_part1 (F := F) main_v5 main_v11 main_v13 main_v15
-- ==== Pre_lens_in_range.lean ====
abbrev S2x1x32x64 : Shape := ⟨4, ![2, 1, 32, 64]⟩
abbrev S2x1x4x64 : Shape := ⟨4, ![2, 1, 4, 64]⟩
abbrev S2x131072x4x64 : Shape := ⟨4, ![2, 131072, 4, 64]⟩
abbrev S2 : Shape := ⟨1, ![2]⟩
abbrev S4x64 : Shape := ⟨2, ![4, 64]⟩
abbrev S4 : Shape := ⟨1, ![4]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x1x32x64 .bf16) (main_arg1 : FVec F S2x1x4x64 .bf16) (main_arg2 : FVec F S2x1x4x64 .bf16) (main_arg3 : FVec F S2x131072x4x64 .fp8e4m3) (main_arg4 : FVec F S2x131072x4x64 .fp8e4m3) (main_arg5 : IVec S2 32) (main_arg6 : IVec S4x64 32) (main_arg7 : IVec S4 32) : IVec S_ 1 :=
  let main_c : IVec S_ 32 := constantI S_ 32 0#32
  let main_v0 : IVec S2 32 := broadcastInDim S2 ![] bcast_S_S2 main_c
  let main_v1 : IVec S2 1 := cmpi .sge main_arg5 main_v0
  let main_c_0 : IVec S_ 32 := constantI S_ 32 131072#32
  let main_v2 : IVec S2 32 := broadcastInDim S2 ![] bcast_S_S2 main_c_0
  let main_v3 : IVec S2 1 := cmpi .sle main_arg5 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Kernel.lean ====
abbrev S2x1x32x64 : Shape := ⟨4, ![2, 1, 32, 64]⟩
abbrev S2x1x4x64 : Shape := ⟨4, ![2, 1, 4, 64]⟩
abbrev S2x131072x4x64 : Shape := ⟨4, ![2, 131072, 4, 64]⟩
abbrev S2 : Shape := ⟨1, ![2]⟩
abbrev S4x64 : Shape := ⟨2, ![4, 64]⟩
abbrev S4 : Shape := ⟨1, ![4]⟩
abbrev S2x32x64 : Shape := ⟨3, ![2, 32, 64]⟩
abbrev S4x1 : Shape := ⟨2, ![4, 1]⟩
abbrev S2x4x64x131072 : Shape := ⟨4, ![2, 4, 64, 131072]⟩
abbrev S2x256x131072 : Shape := ⟨3, ![2, 256, 131072]⟩
abbrev S4x256x4096 : Shape := ⟨3, ![4, 256, 4096]⟩
abbrev S4x2 : Shape := ⟨2, ![4, 2]⟩
abbrev S1 : Shape := ⟨1, ![1]⟩
abbrev S1x1 : Shape := ⟨2, ![1, 1]⟩
abbrev S_ : Shape := ⟨0, ![]⟩
abbrev S1x256x4096 : Shape := ⟨3, ![1, 256, 4096]⟩
abbrev S256x4096 : Shape := ⟨2, ![256, 4096]⟩
abbrev S32x256 : Shape := ⟨2, ![32, 256]⟩
abbrev S1x1x4x64 : Shape := ⟨4, ![1, 1, 4, 64]⟩
abbrev S1x32x64 : Shape := ⟨3, ![1, 32, 64]⟩
abbrev S32x64 : Shape := ⟨2, ![32, 64]⟩
abbrev S1x64 : Shape := ⟨2, ![1, 64]⟩
abbrev S8x64 : Shape := ⟨2, ![8, 64]⟩
abbrev S32 : Shape := ⟨1, ![32]⟩
abbrev S32x1 : Shape := ⟨2, ![32, 1]⟩
abbrev S32x4096 : Shape := ⟨2, ![32, 4096]⟩
abbrev S8x1 : Shape := ⟨2, ![8, 1]⟩

abbrev nBuf : Space → Nat
  | .hbm => 20
  | .vmem => 11
  | .smem => 3
  | _ => 0

abbrev bufTy : (tb : Table) → Fin (tcTables nBuf tb) → BufTy
  | .hbm, ⟨0, _⟩ => ⟨S2x1x32x64, .bf16⟩
  | .hbm, ⟨1, _⟩ => ⟨S2x1x4x64, .bf16⟩
  | .hbm, ⟨2, _⟩ => ⟨S2x1x4x64, .bf16⟩
  | .hbm, ⟨3, _⟩ => ⟨S2x131072x4x64, .fp8e4m3⟩
  | .hbm, ⟨4, _⟩ => ⟨S2x131072x4x64, .fp8e4m3⟩
  | .hbm, ⟨5, _⟩ => ⟨S2, .i32⟩
  | .hbm, ⟨6, _⟩ => ⟨S4x64, .i32⟩
  | .hbm, ⟨7, _⟩ => ⟨S4, .i32⟩
  | .hbm, ⟨8, _⟩ => ⟨S2x32x64, .bf16⟩
  | .hbm, ⟨9, _⟩ => ⟨S4x1, .i32⟩
  | .hbm, ⟨10, _⟩ => ⟨S2x4x64x131072, .fp8e4m3⟩
  | .hbm, ⟨11, _⟩ => ⟨S2x256x131072, .fp8e4m3⟩
  | .hbm, ⟨12, _⟩ => ⟨S2x4x64x131072, .fp8e4m3⟩
  | .hbm, ⟨13, _⟩ => ⟨S2x256x131072, .fp8e4m3⟩
  | .hbm, ⟨14, _⟩ => ⟨S2x32x64, .bf16⟩
  | .hbm, ⟨15, _⟩ => ⟨S2x1x4x64, .fp8e4m3⟩
  | .hbm, ⟨16, _⟩ => ⟨S4x64, .f32⟩
  | .hbm, ⟨17, _⟩ => ⟨S2x1x4x64, .fp8e4m3⟩
  | .hbm, ⟨18, _⟩ => ⟨S4, .f32⟩
  | .hbm, ⟨19, _⟩ => ⟨S2x1x32x64, .bf16⟩
  | .local _ .vmem, ⟨0, _⟩ => ⟨S2x32x64, .bf16⟩
  | .local _ .vmem, ⟨1, _⟩ => ⟨S2x1x4x64, .bf16⟩
  | .local _ .vmem, ⟨2, _⟩ => ⟨S2x1x4x64, .bf16⟩
  | .local _ .vmem, ⟨3, _⟩ => ⟨S4x64, .i32⟩
  | .local _ .vmem, ⟨4, _⟩ => ⟨S4x1, .i32⟩
  | .local _ .vmem, ⟨5, _⟩ => ⟨S2x32x64, .bf16⟩
  | .local _ .vmem, ⟨6, _⟩ => ⟨S2x1x4x64, .fp8e4m3⟩
  | .local _ .vmem, ⟨7, _⟩ => ⟨S4x64, .f32⟩
  | .local _ .vmem, ⟨8, _⟩ => ⟨S2x1x4x64, .fp8e4m3⟩
  | .local _ .vmem, ⟨9, _⟩ => ⟨S4x256x4096, .fp8e4m3⟩
  | .local _ .vmem, ⟨10, _⟩ => ⟨S4x256x4096, .fp8e4m3⟩
  | .local _ .smem, ⟨0, _⟩ => ⟨S2, .i32⟩
  | .local _ .smem, ⟨1, _⟩ => ⟨S4, .i32⟩
  | .local _ .smem, ⟨2, _⟩ => ⟨S4, .f32⟩
  | _, _ => ⟨S2x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v7 : Ref sig .tc := ⟨.hbm, 19, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_stg1_0 : Ref sig .tc := ⟨.smem, 1, rfl⟩
abbrev cc0_stg11_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

def k0_off1 : Fin 2 → Nat :=
  let c0_i32_142 : BitVec 32 := 0#32
  let c4_i32 : BitVec 32 := 4#32
  let v413 : BitVec 32 := Scalar.remsi c0_i32_142 c4_i32
  let c0_i32_148 : BitVec 32 := 0#32
  ![v413.toNat, 0]
def k0_off2 : Fin 3 → Nat :=
  let c0_i32_142 : BitVec 32 := 0#32
  let c4_i32 : BitVec 32 := 4#32
  let v413 : BitVec 32 := Scalar.remsi c0_i32_142 c4_i32
  let c0_i32_149 : BitVec 32 := 0#32
  let c0_i32_150 : BitVec 32 := 0#32
  ![v413.toNat, 0, 0]
def k0_off3 (v0 : BitVec 32) : Fin 3 → Nat :=
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let c0_i32_143 : BitVec 32 := 0#32
  let v414 : BitVec 1 := Scalar.cmpi .sle v18 c0_i32_143
  let c1_i32_144 : BitVec 32 := 1#32
  let c0_i32_145 : BitVec 32 := 0#32
  let v415 : BitVec 32 := Scalar.select v414 c1_i32_144 c0_i32_145
  let c0_i32_151 : BitVec 32 := 0#32
  let c0_i32_146 : BitVec 32 := 0#32
  let v416 : BitVec 32 := Scalar.muli v415 v18
  let v417 : BitVec 32 := Scalar.subi c0_i32_146 v416
  let c4096_i32_147 : BitVec 32 := 4096#32
  let v418 : BitVec 32 := Scalar.muli v417 c4096_i32_147
  ![v415.toNat, 0, v418.toNat]
def k0_cond1 (v0 : BitVec 32) (v19 : BitVec 32) : BitVec 1 :=
  let c0_i32_12 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let c0_i32_13 : BitVec 32 := 0#32
  let v40 : BitVec 1 := Scalar.cmpi .sgt v39 c0_i32_13
  let v41 : BitVec 32 := Scalar.extui v40
  let c0_i32_14 : BitVec 32 := 0#32
  let v42 : BitVec 1 := Scalar.cmpi .ne v41 c0_i32_14
  v42

def k0_off4 : Fin 2 → Nat :=
  let c0_i32_142 : BitVec 32 := 0#32
  let c4_i32 : BitVec 32 := 4#32
  let v413 : BitVec 32 := Scalar.remsi c0_i32_142 c4_i32
  let c1_i32_152 : BitVec 32 := 1#32
  ![v413.toNat, 1]
def k0_off5 : Fin 2 → Nat :=
  let c1_i32_142 : BitVec 32 := 1#32
  let c4_i32 : BitVec 32 := 4#32
  let v413 : BitVec 32 := Scalar.remsi c1_i32_142 c4_i32
  let c0_i32_148 : BitVec 32 := 0#32
  ![v413.toNat, 0]
def k0_off6 : Fin 3 → Nat :=
  let c1_i32_142 : BitVec 32 := 1#32
  let c4_i32 : BitVec 32 := 4#32
  let v413 : BitVec 32 := Scalar.remsi c1_i32_142 c4_i32
  let c0_i32_149 : BitVec 32 := 0#32
  let c0_i32_150 : BitVec 32 := 0#32
  ![v413.toNat, 0, 0]
def k0_off7 (v0 : BitVec 32) : Fin 3 → Nat :=
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let c1_i32_143 : BitVec 32 := 1#32
  let v414 : BitVec 1 := Scalar.cmpi .sle v18 c1_i32_143
  let c1_i32_144 : BitVec 32 := 1#32
  let c0_i32_145 : BitVec 32 := 0#32
  let v415 : BitVec 32 := Scalar.select v414 c1_i32_144 c0_i32_145
  let c0_i32_151 : BitVec 32 := 0#32
  let c1_i32_146 : BitVec 32 := 1#32
  let v416 : BitVec 32 := Scalar.muli v415 v18
  let v417 : BitVec 32 := Scalar.subi c1_i32_146 v416
  let c4096_i32_147 : BitVec 32 := 4096#32
  let v418 : BitVec 32 := Scalar.muli v417 c4096_i32_147
  ![v415.toNat, 0, v418.toNat]
def k0_cond2 (v0 : BitVec 32) (v19 : BitVec 32) : BitVec 1 :=
  let c0_i32_12 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let c1_i32_15 : BitVec 32 := 1#32
  let v43 : BitVec 1 := Scalar.cmpi .sgt v39 c1_i32_15
  let v44 : BitVec 32 := Scalar.extui v43
  let c0_i32_16 : BitVec 32 := 0#32
  let v45 : BitVec 1 := Scalar.cmpi .ne v44 c0_i32_16
  v45

def k0_off8 : Fin 2 → Nat :=
  let c1_i32_142 : BitVec 32 := 1#32
  let c4_i32 : BitVec 32 := 4#32
  let v413 : BitVec 32 := Scalar.remsi c1_i32_142 c4_i32
  let c1_i32_152 : BitVec 32 := 1#32
  ![v413.toNat, 1]
def k0_off9 : Fin 2 → Nat :=
  let c2_i32_142 : BitVec 32 := 2#32
  let c4_i32 : BitVec 32 := 4#32
  let v413 : BitVec 32 := Scalar.remsi c2_i32_142 c4_i32
  let c0_i32_148 : BitVec 32 := 0#32
  ![v413.toNat, 0]
def k0_off10 : Fin 3 → Nat :=
  let c2_i32_142 : BitVec 32 := 2#32
  let c4_i32 : BitVec 32 := 4#32
  let v413 : BitVec 32 := Scalar.remsi c2_i32_142 c4_i32
  let c0_i32_149 : BitVec 32 := 0#32
  let c0_i32_150 : BitVec 32 := 0#32
  ![v413.toNat, 0, 0]
def k0_off11 (v0 : BitVec 32) : Fin 3 → Nat :=
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let c2_i32_143 : BitVec 32 := 2#32
  let v414 : BitVec 1 := Scalar.cmpi .sle v18 c2_i32_143
  let c1_i32_144 : BitVec 32 := 1#32
  let c0_i32_145 : BitVec 32 := 0#32
  let v415 : BitVec 32 := Scalar.select v414 c1_i32_144 c0_i32_145
  let c0_i32_151 : BitVec 32 := 0#32
  let c2_i32_146 : BitVec 32 := 2#32
  let v416 : BitVec 32 := Scalar.muli v415 v18
  let v417 : BitVec 32 := Scalar.subi c2_i32_146 v416
  let c4096_i32_147 : BitVec 32 := 4096#32
  let v418 : BitVec 32 := Scalar.muli v417 c4096_i32_147
  ![v415.toNat, 0, v418.toNat]
def k0_cond3 (v0 : BitVec 32) (v19 : BitVec 32) : BitVec 1 :=
  let c0_i32_12 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let c2_i32 : BitVec 32 := 2#32
  let v46 : BitVec 1 := Scalar.cmpi .sgt v39 c2_i32
  let v47 : BitVec 32 := Scalar.extui v46
  let c0_i32_17 : BitVec 32 := 0#32
  let v48 : BitVec 1 := Scalar.cmpi .ne v47 c0_i32_17
  v48

def k0_off12 : Fin 2 → Nat :=
  let c2_i32_142 : BitVec 32 := 2#32
  let c4_i32 : BitVec 32 := 4#32
  let v413 : BitVec 32 := Scalar.remsi c2_i32_142 c4_i32
  let c1_i32_152 : BitVec 32 := 1#32
  ![v413.toNat, 1]
@[reducible] def k0_t1_loop (v0 : BitVec 32) : Scf.Loop 32 :=
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_88 : BitVec 32 := 1#32
  ⟨c0_i32_86, v238, c1_i32_88⟩

def k0_off13 (v0 : BitVec 32) (k0_t1 : Fin (k0_t1_loop v0).trips) : Fin 2 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c0_i32_172 : BitVec 32 := 0#32
  ![v470.toNat, 0]
def k0_cond4 (v0 : BitVec 32) (v19 : BitVec 32) (k0_t1 : Fin (k0_t1_loop v0).trips) : BitVec 1 :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c0_i32_12 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let v417 : BitVec 1 := Scalar.cmpi .slt v416 v39
  let v418 : BitVec 32 := Scalar.extui v417
  let c0_i32_145 : BitVec 32 := 0#32
  let v419 : BitVec 1 := Scalar.cmpi .ne v418 c0_i32_145
  v419

def k0_off14 (v0 : BitVec 32) (k0_t1 : Fin (k0_t1_loop v0).trips) : Fin 3 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c0_i32_173 : BitVec 32 := 0#32
  let c0_i32_174 : BitVec 32 := 0#32
  ![v470.toNat, 0, 0]
def k0_off15 (v0 : BitVec 32) (k0_t1 : Fin (k0_t1_loop v0).trips) : Fin 3 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v471 : BitVec 1 := Scalar.cmpi .sge v416 v18
  let c1_i32_169 : BitVec 32 := 1#32
  let c0_i32_170 : BitVec 32 := 0#32
  let v472 : BitVec 32 := Scalar.select v471 c1_i32_169 c0_i32_170
  let c0_i32_175 : BitVec 32 := 0#32
  let v473 : BitVec 32 := Scalar.muli v472 v18
  let v474 : BitVec 32 := Scalar.subi v416 v473
  let c4096_i32_171 : BitVec 32 := 4096#32
  let v475 : BitVec 32 := Scalar.muli v474 c4096_i32_171
  ![v472.toNat, 0, v475.toNat]
def k0_off16 (v0 : BitVec 32) (k0_t1 : Fin (k0_t1_loop v0).trips) : Fin 2 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c1_i32_176 : BitVec 32 := 1#32
  ![v470.toNat, 1]
def k0_off17 (v0 : BitVec 32) (k0_t1 : Fin (k0_t1_loop v0).trips) : Fin 2 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32 : BitVec 32 := 4#32
  let v414 : BitVec 32 := Scalar.remsi v413 c4_i32
  let c0_i32_149 : BitVec 32 := 0#32
  ![v414.toNat, 0]
def k0_off18 (v0 : BitVec 32) (k0_t1 : Fin (k0_t1_loop v0).trips) : Fin 3 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32 : BitVec 32 := 4#32
  let v414 : BitVec 32 := Scalar.remsi v413 c4_i32
  let c0_i32_150 : BitVec 32 := 0#32
  let c0_i32_151 : BitVec 32 := 0#32
  ![v414.toNat, 0, 0]
def k0_off19 (v0 : BitVec 32) (k0_t1 : Fin (k0_t1_loop v0).trips) : Fin 3 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v420 : BitVec 1 := Scalar.cmpi .sge v413 v18
  let c1_i32_146 : BitVec 32 := 1#32
  let c0_i32_147 : BitVec 32 := 0#32
  let v421 : BitVec 32 := Scalar.select v420 c1_i32_146 c0_i32_147
  let c0_i32_152 : BitVec 32 := 0#32
  let v422 : BitVec 32 := Scalar.muli v421 v18
  let v423 : BitVec 32 := Scalar.subi v413 v422
  let c4096_i32_148 : BitVec 32 := 4096#32
  let v424 : BitVec 32 := Scalar.muli v423 c4096_i32_148
  ![v421.toNat, 0, v424.toNat]
def k0_off20 (v0 : BitVec 32) (k0_t1 : Fin (k0_t1_loop v0).trips) : Fin 2 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32 : BitVec 32 := 4#32
  let v414 : BitVec 32 := Scalar.remsi v413 c4_i32
  let c1_i32_153 : BitVec 32 := 1#32
  ![v414.toNat, 1]
def k0_off21 (v0 : BitVec 32) (k0_t1 : Fin (k0_t1_loop v0).trips) : Fin 3 → Nat :=
  let c0_i32_142 : BitVec 32 := 0#32
  let c0_i32_86 : BitVec 32 := 0#32
  let c1_i32_88 : BitVec 32 := 1#32
  let arg17 : BitVec 32 := Scf.iv c0_i32_86 c1_i32_88 k0_t1
  let v413 : BitVec 32 := Scalar.addi c0_i32_142 arg17
  let c4_i32 : BitVec 32 := 4#32
  let v414 : BitVec 32 := Scalar.remsi v413 c4_i32
  let v437 : Index := Scalar.indexCast v414
  let c0_157 : Index := 0#32
  let c0_158 : Index := 0#32
  ![v437.toNat, 0, 0]
@[reducible] def k0_t2_loop (v0 : BitVec 32) : Scf.Loop 32 :=
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let v235 : BitVec 32 := Scalar.addi c0_i32_86 v234
  let c1_i32_89 : BitVec 32 := 1#32
  ⟨v238, v235, c1_i32_89⟩
def k0_off22 (v0 : BitVec 32) (k0_t2 : Fin (k0_t2_loop v0).trips) : Fin 2 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c0_i32_172 : BitVec 32 := 0#32
  ![v470.toNat, 0]
def k0_cond5 (v0 : BitVec 32) (v19 : BitVec 32) (k0_t2 : Fin (k0_t2_loop v0).trips) : BitVec 1 :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c0_i32_12 : BitVec 32 := 0#32
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let v417 : BitVec 1 := Scalar.cmpi .slt v416 v39
  let v418 : BitVec 32 := Scalar.extui v417
  let c0_i32_145 : BitVec 32 := 0#32
  let v419 : BitVec 1 := Scalar.cmpi .ne v418 c0_i32_145
  v419

def k0_off23 (v0 : BitVec 32) (k0_t2 : Fin (k0_t2_loop v0).trips) : Fin 3 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c0_i32_173 : BitVec 32 := 0#32
  let c0_i32_174 : BitVec 32 := 0#32
  ![v470.toNat, 0, 0]
def k0_off24 (v0 : BitVec 32) (k0_t2 : Fin (k0_t2_loop v0).trips) : Fin 3 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let v471 : BitVec 1 := Scalar.cmpi .sge v416 v18
  let c1_i32_169 : BitVec 32 := 1#32
  let c0_i32_170 : BitVec 32 := 0#32
  let v472 : BitVec 32 := Scalar.select v471 c1_i32_169 c0_i32_170
  let c0_i32_175 : BitVec 32 := 0#32
  let v473 : BitVec 32 := Scalar.muli v472 v18
  let v474 : BitVec 32 := Scalar.subi v416 v473
  let c4096_i32_171 : BitVec 32 := 4096#32
  let v475 : BitVec 32 := Scalar.muli v474 c4096_i32_171
  ![v472.toNat, 0, v475.toNat]
def k0_off25 (v0 : BitVec 32) (k0_t2 : Fin (k0_t2_loop v0).trips) : Fin 2 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32_143 : BitVec 32 := 4#32
  let v415 : BitVec 32 := Scalar.addi v413 c4_i32_143
  let c1_i32_144 : BitVec 32 := 1#32
  let v416 : BitVec 32 := Scalar.subi v415 c1_i32_144
  let c4_i32_168 : BitVec 32 := 4#32
  let v470 : BitVec 32 := Scalar.remsi v416 c4_i32_168
  let c1_i32_176 : BitVec 32 := 1#32
  ![v470.toNat, 1]
def k0_off26 (v0 : BitVec 32) (k0_t2 : Fin (k0_t2_loop v0).trips) : Fin 2 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32 : BitVec 32 := 4#32
  let v414 : BitVec 32 := Scalar.remsi v413 c4_i32
  let c0_i32_149 : BitVec 32 := 0#32
  ![v414.toNat, 0]
def k0_off27 (v0 : BitVec 32) (k0_t2 : Fin (k0_t2_loop v0).trips) : Fin 3 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32 : BitVec 32 := 4#32
  let v414 : BitVec 32 := Scalar.remsi v413 c4_i32
  let c0_i32_150 : BitVec 32 := 0#32
  let c0_i32_151 : BitVec 32 := 0#32
  ![v414.toNat, 0, 0]
def k0_off28 (v0 : BitVec 32) (k0_t2 : Fin (k0_t2_loop v0).trips) : Fin 3 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let v420 : BitVec 1 := Scalar.cmpi .sge v413 v18
  let c1_i32_146 : BitVec 32 := 1#32
  let c0_i32_147 : BitVec 32 := 0#32
  let v421 : BitVec 32 := Scalar.select v420 c1_i32_146 c0_i32_147
  let c0_i32_152 : BitVec 32 := 0#32
  let v422 : BitVec 32 := Scalar.muli v421 v18
  let v423 : BitVec 32 := Scalar.subi v413 v422
  let c4096_i32_148 : BitVec 32 := 4096#32
  let v424 : BitVec 32 := Scalar.muli v423 c4096_i32_148
  ![v421.toNat, 0, v424.toNat]
def k0_off29 (v0 : BitVec 32) (k0_t2 : Fin (k0_t2_loop v0).trips) : Fin 2 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32 : BitVec 32 := 4#32
  let v414 : BitVec 32 := Scalar.remsi v413 c4_i32
  let c1_i32_153 : BitVec 32 := 1#32
  ![v414.toNat, 1]
def k0_off30 (v0 : BitVec 32) (k0_t2 : Fin (k0_t2_loop v0).trips) : Fin 3 → Nat :=
  let c0_i32_142 : BitVec 32 := 0#32
  let c0_i32_86 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v234 : BitVec 32 := Scalar.subi v18 c0_i32_86
  let c1_i32_87 : BitVec 32 := 1#32
  let v236 : BitVec 32 := Scalar.divsi v234 c1_i32_87
  let v237 : BitVec 32 := Scalar.muli v236 c1_i32_87
  let v238 : BitVec 32 := Scalar.addi c0_i32_86 v237
  let c1_i32_89 : BitVec 32 := 1#32
  let arg17 : BitVec 32 := Scf.iv v238 c1_i32_89 k0_t2
  let v413 : BitVec 32 := Scalar.addi c0_i32_142 arg17
  let c4_i32 : BitVec 32 := 4#32
  let v414 : BitVec 32 := Scalar.remsi v413 c4_i32
  let v437 : Index := Scalar.indexCast v414
  let c0_157 : Index := 0#32
  let c0_158 : Index := 0#32
  ![v437.toNat, 0, 0]

def k0_chk2 (v0 : BitVec 32) : Prop :=
  ((k0_t1_loop v0).OK) ∧
  (∀ k0_t1 : Fin (k0_t1_loop v0).trips, ∀ a, (k0_off17 v0 k0_t1) a + S1x1.size a ≤ S4x2.size a) ∧
  (∀ k0_t1 : Fin (k0_t1_loop v0).trips, ∀ a, (k0_off18 v0 k0_t1) a + S1x256x4096.size a ≤ S4x256x4096.size a) ∧
  (∀ k0_t1 : Fin (k0_t1_loop v0).trips, ∀ a, (k0_off19 v0 k0_t1) a + S1x256x4096.size a ≤ S2x256x131072.size a) ∧
  (∀ k0_t1 : Fin (k0_t1_loop v0).trips, ∀ (hinb : ∀ a, (k0_off19 v0 k0_t1) a + S1x256x4096.size a ≤ S2x256x131072.size a), (Rect.unit (s := S2x256x131072) (k0_off19 v0 k0_t1) S1x256x4096.size hinb).WholeWords (EltTy.packing .fp8e4m3)) ∧
  (∀ k0_t1 : Fin (k0_t1_loop v0).trips, ∀ (hinb : ∀ a, (k0_off18 v0 k0_t1) a + S1x256x4096.size a ≤ S4x256x4096.size a), (Rect.unit (s := S4x256x4096) (k0_off18 v0 k0_t1) S1x256x4096.size hinb).WholeWords (EltTy.packing .fp8e4m3)) ∧
  (∀ k0_t1 : Fin (k0_t1_loop v0).trips, ∀ a, (k0_off20 v0 k0_t1) a + S1x1.size a ≤ S4x2.size a) ∧
  (∀ k0_t1 : Fin (k0_t1_loop v0).trips, ∀ a, (k0_off21 v0 k0_t1) a + S1x256x4096.size a ≤ S4x256x4096.size a) ∧
  ((k0_t2_loop v0).OK) ∧
  (∀ k0_t2 : Fin (k0_t2_loop v0).trips, ∀ a, (k0_off26 v0 k0_t2) a + S1x1.size a ≤ S4x2.size a) ∧
  (∀ k0_t2 : Fin (k0_t2_loop v0).trips, ∀ a, (k0_off27 v0 k0_t2) a + S1x256x4096.size a ≤ S4x256x4096.size a) ∧
  (∀ k0_t2 : Fin (k0_t2_loop v0).trips, ∀ a, (k0_off28 v0 k0_t2) a + S1x256x4096.size a ≤ S2x256x131072.size a) ∧
  (∀ k0_t2 : Fin (k0_t2_loop v0).trips, ∀ (hinb : ∀ a, (k0_off28 v0 k0_t2) a + S1x256x4096.size a ≤ S2x256x131072.size a), (Rect.unit (s := S2x256x131072) (k0_off28 v0 k0_t2) S1x256x4096.size hinb).WholeWords (EltTy.packing .fp8e4m3)) ∧
  (∀ k0_t2 : Fin (k0_t2_loop v0).trips, ∀ (hinb : ∀ a, (k0_off27 v0 k0_t2) a + S1x256x4096.size a ≤ S4x256x4096.size a), (Rect.unit (s := S4x256x4096) (k0_off27 v0 k0_t2) S1x256x4096.size hinb).WholeWords (EltTy.packing .fp8e4m3)) ∧
  (∀ k0_t2 : Fin (k0_t2_loop v0).trips, ∀ a, (k0_off29 v0 k0_t2) a + S1x1.size a ≤ S4x2.size a) ∧
  (∀ k0_t2 : Fin (k0_t2_loop v0).trips, ∀ a, (k0_off30 v0 k0_t2) a + S1x256x4096.size a ≤ S4x256x4096.size a)
theorem k0_t1_ok : ∀ (v0 : BitVec 32) (k0_hw2 : k0_chk2 v0), (k0_t1_loop v0).OK := fun v0 k0_hw2 => k0_hw2.1
theorem k0_off17_inb : ∀ (v0 : BitVec 32) (k0_hw2 : k0_chk2 v0) (k0_t1 : Fin (k0_t1_loop v0).trips), ∀ a, (k0_off17 v0 k0_t1) a + S1x1.size a ≤ S4x2.size a := fun v0 k0_hw2 k0_t1 => k0_hw2.2.1 k0_t1
theorem k0_off18_inb : ∀ (v0 : BitVec 32) (k0_hw2 : k0_chk2 v0) (k0_t1 : Fin (k0_t1_loop v0).trips), ∀ a, (k0_off18 v0 k0_t1) a + S1x256x4096.size a ≤ S4x256x4096.size a := fun v0 k0_hw2 k0_t1 => k0_hw2.2.2.1 k0_t1
theorem k0_off19_inb : ∀ (v0 : BitVec 32) (k0_hw2 : k0_chk2 v0) (k0_t1 : Fin (k0_t1_loop v0).trips), ∀ a, (k0_off19 v0 k0_t1) a + S1x256x4096.size a ≤ S2x256x131072.size a := fun v0 k0_hw2 k0_t1 => k0_hw2.2.2.2.1 k0_t1
theorem k0_off19_wordsfp8e4m3 : ∀ (v0 : BitVec 32) (k0_hw2 : k0_chk2 v0) (k0_t1 : Fin (k0_t1_loop v0).trips), (Rect.unit (s := S2x256x131072) (k0_off19 v0 k0_t1) S1x256x4096.size (k0_off19_inb v0 k0_hw2 k0_t1)).WholeWords (EltTy.packing .fp8e4m3) := fun v0 k0_hw2 k0_t1 => k0_hw2.2.2.2.2.1 k0_t1 (k0_off19_inb v0 k0_hw2 k0_t1)
theorem k0_off18_wordsfp8e4m3 : ∀ (v0 : BitVec 32) (k0_hw2 : k0_chk2 v0) (k0_t1 : Fin (k0_t1_loop v0).trips), (Rect.unit (s := S4x256x4096) (k0_off18 v0 k0_t1) S1x256x4096.size (k0_off18_inb v0 k0_hw2 k0_t1)).WholeWords (EltTy.packing .fp8e4m3) := fun v0 k0_hw2 k0_t1 => k0_hw2.2.2.2.2.2.1 k0_t1 (k0_off18_inb v0 k0_hw2 k0_t1)
theorem k0_off20_inb : ∀ (v0 : BitVec 32) (k0_hw2 : k0_chk2 v0) (k0_t1 : Fin (k0_t1_loop v0).trips), ∀ a, (k0_off20 v0 k0_t1) a + S1x1.size a ≤ S4x2.size a := fun v0 k0_hw2 k0_t1 => k0_hw2.2.2.2.2.2.2.1 k0_t1
theorem k0_off21_inb : ∀ (v0 : BitVec 32) (k0_hw2 : k0_chk2 v0) (k0_t1 : Fin (k0_t1_loop v0).trips), ∀ a, (k0_off21 v0 k0_t1) a + S1x256x4096.size a ≤ S4x256x4096.size a := fun v0 k0_hw2 k0_t1 => k0_hw2.2.2.2.2.2.2.2.1 k0_t1
theorem k0_t2_ok : ∀ (v0 : BitVec 32) (k0_hw2 : k0_chk2 v0), (k0_t2_loop v0).OK := fun v0 k0_hw2 => k0_hw2.2.2.2.2.2.2.2.2.1
theorem k0_off26_inb : ∀ (v0 : BitVec 32) (k0_hw2 : k0_chk2 v0) (k0_t2 : Fin (k0_t2_loop v0).trips), ∀ a, (k0_off26 v0 k0_t2) a + S1x1.size a ≤ S4x2.size a := fun v0 k0_hw2 k0_t2 => k0_hw2.2.2.2.2.2.2.2.2.2.1 k0_t2
theorem k0_off27_inb : ∀ (v0 : BitVec 32) (k0_hw2 : k0_chk2 v0) (k0_t2 : Fin (k0_t2_loop v0).trips), ∀ a, (k0_off27 v0 k0_t2) a + S1x256x4096.size a ≤ S4x256x4096.size a := fun v0 k0_hw2 k0_t2 => k0_hw2.2.2.2.2.2.2.2.2.2.2.1 k0_t2
theorem k0_off28_inb : ∀ (v0 : BitVec 32) (k0_hw2 : k0_chk2 v0) (k0_t2 : Fin (k0_t2_loop v0).trips), ∀ a, (k0_off28 v0 k0_t2) a + S1x256x4096.size a ≤ S2x256x131072.size a := fun v0 k0_hw2 k0_t2 => k0_hw2.2.2.2.2.2.2.2.2.2.2.2.1 k0_t2
theorem k0_off28_wordsfp8e4m3 : ∀ (v0 : BitVec 32) (k0_hw2 : k0_chk2 v0) (k0_t2 : Fin (k0_t2_loop v0).trips), (Rect.unit (s := S2x256x131072) (k0_off28 v0 k0_t2) S1x256x4096.size (k0_off28_inb v0 k0_hw2 k0_t2)).WholeWords (EltTy.packing .fp8e4m3) := fun v0 k0_hw2 k0_t2 => k0_hw2.2.2.2.2.2.2.2.2.2.2.2.2.1 k0_t2 (k0_off28_inb v0 k0_hw2 k0_t2)
theorem k0_off27_wordsfp8e4m3 : ∀ (v0 : BitVec 32) (k0_hw2 : k0_chk2 v0) (k0_t2 : Fin (k0_t2_loop v0).trips), (Rect.unit (s := S4x256x4096) (k0_off27 v0 k0_t2) S1x256x4096.size (k0_off27_inb v0 k0_hw2 k0_t2)).WholeWords (EltTy.packing .fp8e4m3) := fun v0 k0_hw2 k0_t2 => k0_hw2.2.2.2.2.2.2.2.2.2.2.2.2.2.1 k0_t2 (k0_off27_inb v0 k0_hw2 k0_t2)
theorem k0_off29_inb : ∀ (v0 : BitVec 32) (k0_hw2 : k0_chk2 v0) (k0_t2 : Fin (k0_t2_loop v0).trips), ∀ a, (k0_off29 v0 k0_t2) a + S1x1.size a ≤ S4x2.size a := fun v0 k0_hw2 k0_t2 => k0_hw2.2.2.2.2.2.2.2.2.2.2.2.2.2.2.1 k0_t2
theorem k0_off30_inb : ∀ (v0 : BitVec 32) (k0_hw2 : k0_chk2 v0) (k0_t2 : Fin (k0_t2_loop v0).trips), ∀ a, (k0_off30 v0 k0_t2) a + S1x256x4096.size a ≤ S4x256x4096.size a := fun v0 k0_hw2 k0_t2 => k0_hw2.2.2.2.2.2.2.2.2.2.2.2.2.2.2.2 k0_t2

@[reducible] def k0_t3_loop (v19 : BitVec 32) : Scf.Loop 32 :=
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_136 : BitVec 32 := 1#32
  ⟨c0_i32_134, v381, c1_i32_136⟩
def k0_off31 (v0 : BitVec 32) (v19 : BitVec 32) (k0_t3 : Fin (k0_t3_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c0_i32_171 : BitVec 32 := 0#32
  ![v470.toNat, 0]
def k0_cond6 (v0 : BitVec 32) (v19 : BitVec 32) (k0_t3 : Fin (k0_t3_loop v19).trips) : BitVec 1 :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c0_i32_12 : BitVec 32 := 0#32
  let v38 : BitVec 32 := Scalar.addi c0_i32_12 v18
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v39 : BitVec 32 := Scalar.addi v38 v37
  let v417 : BitVec 1 := Scalar.cmpi .slt v416 v39
  let v418 : BitVec 32 := Scalar.extui v417
  let c0_i32_144 : BitVec 32 := 0#32
  let v419 : BitVec 1 := Scalar.cmpi .ne v418 c0_i32_144
  v419

def k0_off32 (v0 : BitVec 32) (v19 : BitVec 32) (k0_t3 : Fin (k0_t3_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c0_i32_172 : BitVec 32 := 0#32
  let c0_i32_173 : BitVec 32 := 0#32
  ![v470.toNat, 0, 0]
def k0_off33 (v0 : BitVec 32) (v19 : BitVec 32) (k0_t3 : Fin (k0_t3_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let v471 : BitVec 1 := Scalar.cmpi .sge v416 v18
  let c1_i32_168 : BitVec 32 := 1#32
  let c0_i32_169 : BitVec 32 := 0#32
  let v472 : BitVec 32 := Scalar.select v471 c1_i32_168 c0_i32_169
  let c0_i32_174 : BitVec 32 := 0#32
  let v473 : BitVec 32 := Scalar.muli v472 v18
  let v474 : BitVec 32 := Scalar.subi v416 v473
  let c4096_i32_170 : BitVec 32 := 4096#32
  let v475 : BitVec 32 := Scalar.muli v474 c4096_i32_170
  ![v472.toNat, 0, v475.toNat]
def k0_off34 (v0 : BitVec 32) (v19 : BitVec 32) (k0_t3 : Fin (k0_t3_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c1_i32_175 : BitVec 32 := 1#32
  ![v470.toNat, 1]
def k0_off35 (v0 : BitVec 32) (v19 : BitVec 32) (k0_t3 : Fin (k0_t3_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32 : BitVec 32 := 4#32
  let v414 : BitVec 32 := Scalar.remsi v413 c4_i32
  let c0_i32_148 : BitVec 32 := 0#32
  ![v414.toNat, 0]
def k0_off36 (v0 : BitVec 32) (v19 : BitVec 32) (k0_t3 : Fin (k0_t3_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32 : BitVec 32 := 4#32
  let v414 : BitVec 32 := Scalar.remsi v413 c4_i32
  let c0_i32_149 : BitVec 32 := 0#32
  let c0_i32_150 : BitVec 32 := 0#32
  ![v414.toNat, 0, 0]
def k0_off37 (v0 : BitVec 32) (v19 : BitVec 32) (k0_t3 : Fin (k0_t3_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let v420 : BitVec 1 := Scalar.cmpi .sge v413 v18
  let c1_i32_145 : BitVec 32 := 1#32
  let c0_i32_146 : BitVec 32 := 0#32
  let v421 : BitVec 32 := Scalar.select v420 c1_i32_145 c0_i32_146
  let c0_i32_151 : BitVec 32 := 0#32
  let v422 : BitVec 32 := Scalar.muli v421 v18
  let v423 : BitVec 32 := Scalar.subi v413 v422
  let c4096_i32_147 : BitVec 32 := 4096#32
  let v424 : BitVec 32 := Scalar.muli v423 c4096_i32_147
  ![v421.toNat, 0, v424.toNat]
def k0_off38 (v0 : BitVec 32) (v19 : BitVec 32) (k0_t3 : Fin (k0_t3_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32 : BitVec 32 := 4#32
  let v414 : BitVec 32 := Scalar.remsi v413 c4_i32
  let c1_i32_152 : BitVec 32 := 1#32
  ![v414.toNat, 1]
def k0_off39 (v0 : BitVec 32) (v19 : BitVec 32) (k0_t3 : Fin (k0_t3_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c1_i32_136 : BitVec 32 := 1#32
  let arg17 : BitVec 32 := Scf.iv c0_i32_134 c1_i32_136 k0_t3
  let v413 : BitVec 32 := Scalar.addi v241 arg17
  let c4_i32 : BitVec 32 := 4#32
  let v414 : BitVec 32 := Scalar.remsi v413 c4_i32
  let v437 : Index := Scalar.indexCast v414
  let c0_156 : Index := 0#32
  let c0_157 : Index := 0#32
  ![v437.toNat, 0, 0]
@[reducible] def k0_t4_loop (v19 : BitVec 32) : Scf.Loop 32 :=
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let v378 : BitVec 32 := Scalar.addi c0_i32_134 v377
  let c1_i32_137 : BitVec 32 := 1#32
  ⟨v381, v378, c1_i32_137⟩
def k0_off40 (v0 : BitVec 32) (v19 : BitVec 32) (k0_t4 : Fin (k0_t4_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c0_i32_171 : BitVec 32 := 0#32
  ![v470.toNat, 0]
def k0_cond7 (v0 : BitVec 32) (v19 : BitVec 32) (k0_t4 : Fin (k0_t4_loop v19).trips) : BitVec 1 :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c0_i32_12 : BitVec 32 := 0#32
  let v38 : BitVec 32 := Scalar.addi c0_i32_12 v18
  let v39 : BitVec 32 := Scalar.addi v38 v37
  let v417 : BitVec 1 := Scalar.cmpi .slt v416 v39
  let v418 : BitVec 32 := Scalar.extui v417
  let c0_i32_144 : BitVec 32 := 0#32
  let v419 : BitVec 1 := Scalar.cmpi .ne v418 c0_i32_144
  v419

def k0_off41 (v0 : BitVec 32) (v19 : BitVec 32) (k0_t4 : Fin (k0_t4_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c0_i32_172 : BitVec 32 := 0#32
  let c0_i32_173 : BitVec 32 := 0#32
  ![v470.toNat, 0, 0]
def k0_off42 (v0 : BitVec 32) (v19 : BitVec 32) (k0_t4 : Fin (k0_t4_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let v471 : BitVec 1 := Scalar.cmpi .sge v416 v18
  let c1_i32_168 : BitVec 32 := 1#32
  let c0_i32_169 : BitVec 32 := 0#32
  let v472 : BitVec 32 := Scalar.select v471 c1_i32_168 c0_i32_169
  let c0_i32_174 : BitVec 32 := 0#32
  let v473 : BitVec 32 := Scalar.muli v472 v18
  let v474 : BitVec 32 := Scalar.subi v416 v473
  let c4096_i32_170 : BitVec 32 := 4096#32
  let v475 : BitVec 32 := Scalar.muli v474 c4096_i32_170
  ![v472.toNat, 0, v475.toNat]
def k0_off43 (v0 : BitVec 32) (v19 : BitVec 32) (k0_t4 : Fin (k0_t4_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32_142 : BitVec 32 := 4#32
  let v415 : BitVec 32 := Scalar.addi v413 c4_i32_142
  let c1_i32_143 : BitVec 32 := 1#32
  let v416 : BitVec 32 := Scalar.subi v415 c1_i32_143
  let c4_i32_167 : BitVec 32 := 4#32
  let v470 : BitVec 32 := Scalar.remsi v416 c4_i32_167
  let c1_i32_175 : BitVec 32 := 1#32
  ![v470.toNat, 1]
def k0_off44 (v0 : BitVec 32) (v19 : BitVec 32) (k0_t4 : Fin (k0_t4_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32 : BitVec 32 := 4#32
  let v414 : BitVec 32 := Scalar.remsi v413 c4_i32
  let c0_i32_148 : BitVec 32 := 0#32
  ![v414.toNat, 0]
def k0_off45 (v0 : BitVec 32) (v19 : BitVec 32) (k0_t4 : Fin (k0_t4_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32 : BitVec 32 := 4#32
  let v414 : BitVec 32 := Scalar.remsi v413 c4_i32
  let c0_i32_149 : BitVec 32 := 0#32
  let c0_i32_150 : BitVec 32 := 0#32
  ![v414.toNat, 0, 0]
def k0_off46 (v0 : BitVec 32) (v19 : BitVec 32) (k0_t4 : Fin (k0_t4_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let v420 : BitVec 1 := Scalar.cmpi .sge v413 v18
  let c1_i32_145 : BitVec 32 := 1#32
  let c0_i32_146 : BitVec 32 := 0#32
  let v421 : BitVec 32 := Scalar.select v420 c1_i32_145 c0_i32_146
  let c0_i32_151 : BitVec 32 := 0#32
  let v422 : BitVec 32 := Scalar.muli v421 v18
  let v423 : BitVec 32 := Scalar.subi v413 v422
  let c4096_i32_147 : BitVec 32 := 4096#32
  let v424 : BitVec 32 := Scalar.muli v423 c4096_i32_147
  ![v421.toNat, 0, v424.toNat]
def k0_off47 (v0 : BitVec 32) (v19 : BitVec 32) (k0_t4 : Fin (k0_t4_loop v19).trips) : Fin 2 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32 : BitVec 32 := 4#32
  let v414 : BitVec 32 := Scalar.remsi v413 c4_i32
  let c1_i32_152 : BitVec 32 := 1#32
  ![v414.toNat, 1]
def k0_off48 (v0 : BitVec 32) (v19 : BitVec 32) (k0_t4 : Fin (k0_t4_loop v19).trips) : Fin 3 → Nat :=
  let c0_i32_90 : BitVec 32 := 0#32
  let c4095_i32 : BitVec 32 := 4095#32
  let v1 : BitVec 32 := Scalar.addi v0 c4095_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4096_i32 : BitVec 32 := 4096#32
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let v2 : BitVec 32 := Scalar.divsi v1 c4096_i32
  let c1_i32 : BitVec 32 := 1#32
  let v17 : BitVec 32 := Scalar.subi v2 c1_i32
  let v18 : BitVec 32 := Scalar.select v16 v17 v2
  let v241 : BitVec 32 := Scalar.addi c0_i32_90 v18
  let c0_i32_134 : BitVec 32 := 0#32
  let c4095_i32_4 : BitVec 32 := 4095#32
  let v20 : BitVec 32 := Scalar.addi v19 c4095_i32_4
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c4096_i32_5 : BitVec 32 := 4096#32
  let c0_i32_8 : BitVec 32 := 0#32
  let v27 : BitVec 1 := Scalar.cmpi .sgt c4096_i32_5 c0_i32_8
  let v28 : BitVec 32 := Scalar.extui v27
  let c0_i32_9 : BitVec 32 := 0#32
  let v29 : BitVec 1 := Scalar.cmpi .slt c4096_i32_5 c0_i32_9
  let v30 : BitVec 32 := Scalar.extui v29
  let v31 : BitVec 32 := Scalar.subi v28 v30
  let v32 : BitVec 1 := Scalar.cmpi .ne v26 v31
  let v33 : BitVec 32 := Scalar.remsi v20 c4096_i32_5
  let c0_i32_10 : BitVec 32 := 0#32
  let v34 : BitVec 1 := Scalar.cmpi .ne v33 c0_i32_10
  let v35 : BitVec 1 := Scalar.andi v32 v34
  let v21 : BitVec 32 := Scalar.divsi v20 c4096_i32_5
  let c1_i32_11 : BitVec 32 := 1#32
  let v36 : BitVec 32 := Scalar.subi v21 c1_i32_11
  let v37 : BitVec 32 := Scalar.select v35 v36 v21
  let v377 : BitVec 32 := Scalar.subi v37 c0_i32_134
  let c1_i32_135 : BitVec 32 := 1#32
  let v379 : BitVec 32 := Scalar.divsi v377 c1_i32_135
  let v380 : BitVec 32 := Scalar.muli v379 c1_i32_135
  let v381 : BitVec 32 := Scalar.addi c0_i32_134 v380
  let c1_i32_137 : BitVec 32 := 1#32
  let arg17 : BitVec 32 := Scf.iv v381 c1_i32_137 k0_t4
  let v413 : BitVec 32 := Scalar.addi v241 arg17
  let c4_i32 : BitVec 32 := 4#32
  let v414 : BitVec 32 := Scalar.remsi v413 c4_i32
  let v437 : Index := Scalar.indexCast v414
  let c0_156 : Index := 0#32
  let c0_157 : Index := 0#32
  ![v437.toNat, 0, 0]

def k0_chk1_0 (v0 : BitVec 32) (v19 : BitVec 32) : Prop :=
  (∀ (k0_h1 : k0_cond1 v0 v19 = 1#1), ∀ a, (k0_off3 v0) a + S1x256x4096.size a ≤ S2x256x131072.size a) ∧
  (∀ (k0_h1 : k0_cond1 v0 v19 = 1#1), ∀ (hinb : ∀ a, (k0_off3 v0) a + S1x256x4096.size a ≤ S2x256x131072.size a), (Rect.unit (s := S2x256x131072) (k0_off3 v0) S1x256x4096.size hinb).WholeWords (EltTy.packing .fp8e4m3)) ∧
  (∀ (k0_h2 : k0_cond2 v0 v19 = 1#1), ∀ a, (k0_off7 v0) a + S1x256x4096.size a ≤ S2x256x131072.size a) ∧
  (∀ (k0_h2 : k0_cond2 v0 v19 = 1#1), ∀ (hinb : ∀ a, (k0_off7 v0) a + S1x256x4096.size a ≤ S2x256x131072.size a), (Rect.unit (s := S2x256x131072) (k0_off7 v0) S1x256x4096.size hinb).WholeWords (EltTy.packing .fp8e4m3)) ∧
  (∀ (k0_h3 : k0_cond3 v0 v19 = 1#1), ∀ a, (k0_off11 v0) a + S1x256x4096.size a ≤ S2x256x131072.size a) ∧
  (∀ (k0_h3 : k0_cond3 v0 v19 = 1#1), ∀ (hinb : ∀ a, (k0_off11 v0) a + S1x256x4096.size a ≤ S2x256x131072.size a), (Rect.unit (s := S2x256x131072) (k0_off11 v0) S1x256x4096.size hinb).WholeWords (EltTy.packing .fp8e4m3)) ∧
  (∀ k0_t1 : Fin (k0_t1_loop v0).trips, ∀ (k0_h4 : k0_cond4 v0 v19 k0_t1 = 1#1), ∀ a, (k0_off13 v0 k0_t1) a + S1x1.size a ≤ S4x2.size a) ∧
  (∀ k0_t1 : Fin (k0_t1_loop v0).trips, ∀ (k0_h4 : k0_cond4 v0 v19 k0_t1 = 1#1), ∀ a, (k0_off14 v0 k0_t1) a + S1x256x4096.size a ≤ S4x256x4096.size a) ∧
  (∀ k0_t1 : Fin (k0_t1_loop v0).trips, ∀ (k0_h4 : k0_cond4 v0 v19 k0_t1 = 1#1), ∀ a, (k0_off15 v0 k0_t1) a + S1x256x4096.size a ≤ S2x256x131072.size a) ∧
  (∀ k0_t1 : Fin (k0_t1_loop v0).trips, ∀ (k0_h4 : k0_cond4 v0 v19 k0_t1 = 1#1), ∀ (hinb : ∀ a, (k0_off15 v0 k0_t1) a + S1x256x4096.size a ≤ S2x256x131072.size a), (Rect.unit (s := S2x256x131072) (k0_off15 v0 k0_t1) S1x256x4096.size hinb).WholeWords (EltTy.packing .fp8e4m3)) ∧
  (∀ k0_t1 : Fin (k0_t1_loop v0).trips, ∀ (k0_h4 : k0_cond4 v0 v19 k0_t1 = 1#1), ∀ (hinb : ∀ a, (k0_off14 v0 k0_t1) a + S1x256x4096.size a ≤ S4x256x4096.size a), (Rect.unit (s := S4x256x4096) (k0_off14 v0 k0_t1) S1x256x4096.size hinb).WholeWords (EltTy.packing .fp8e4m3)) ∧
  (∀ k0_t1 : Fin (k0_t1_loop v0).trips, ∀ (k0_h4 : k0_cond4 v0 v19 k0_t1 = 1#1), ∀ a, (k0_off16 v0 k0_t1) a + S1x1.size a ≤ S4x2.size a) ∧
  (∀ k0_t2 : Fin (k0_t2_loop v0).trips, ∀ (k0_h5 : k0_cond5 v0 v19 k0_t2 = 1#1), ∀ a, (k0_off22 v0 k0_t2) a + S1x1.size a ≤ S4x2.size a) ∧
  (∀ k0_t2 : Fin (k0_t2_loop v0).trips, ∀ (k0_h5 : k0_cond5 v0 v19 k0_t2 = 1#1), ∀ a, (k0_off23 v0 k0_t2) a + S1x256x4096.size a ≤ S4x256x4096.size a) ∧
  (∀ k0_t2 : Fin (k0_t2_loop v0).trips, ∀ (k0_h5 : k0_cond5 v0 v19 k0_t2 = 1#1), ∀ a, (k0_off24 v0 k0_t2) a + S1x256x4096.size a ≤ S2x256x131072.size a) ∧
  (∀ k0_t2 : Fin (k0_t2_loop v0).trips, ∀ (k0_h5 : k0_cond5 v0 v19 k0_t2 = 1#1), ∀ (hinb : ∀ a, (k0_off24 v0 k0_t2) a + S1x256x4096.size a ≤ S2x256x131072.size a), (Rect.unit (s := S2x256x131072) (k0_off24 v0 k0_t2) S1x256x4096.size hinb).WholeWords (EltTy.packing .fp8e4m3)) ∧
  (∀ k0_t2 : Fin (k0_t2_loop v0).trips, ∀ (k0_h5 : k0_cond5 v0 v19 k0_t2 = 1#1), ∀ (hinb : ∀ a, (k0_off23 v0 k0_t2) a + S1x256x4096.size a ≤ S4x256x4096.size a), (Rect.unit (s := S4x256x4096) (k0_off23 v0 k0_t2) S1x256x4096.size hinb).WholeWords (EltTy.packing .fp8e4m3)) ∧
  (∀ k0_t2 : Fin (k0_t2_loop v0).trips, ∀ (k0_h5 : k0_cond5 v0 v19 k0_t2 = 1#1), ∀ a, (k0_off25 v0 k0_t2) a + S1x1.size a ≤ S4x2.size a) ∧
  ((k0_t3_loop v19).OK) ∧
  (∀ k0_t3 : Fin (k0_t3_loop v19).trips, ∀ (k0_h6 : k0_cond6 v0 v19 k0_t3 = 1#1), ∀ a, (k0_off31 v0 v19 k0_t3) a + S1x1.size a ≤ S4x2.size a) ∧
  (∀ k0_t3 : Fin (k0_t3_loop v19).trips, ∀ (k0_h6 : k0_cond6 v0 v19 k0_t3 = 1#1), ∀ a, (k0_off32 v0 v19 k0_t3) a + S1x256x4096.size a ≤ S4x256x4096.size a) ∧
  (∀ k0_t3 : Fin (k0_t3_loop v19).trips, ∀ (k0_h6 : k0_cond6 v0 v19 k0_t3 = 1#1), ∀ a, (k0_off33 v0 v19 k0_t3) a + S1x256x4096.size a ≤ S2x256x131072.size a) ∧
  (∀ k0_t3 : Fin (k0_t3_loop v19).trips, ∀ (k0_h6 : k0_cond6 v0 v19 k0_t3 = 1#1), ∀ (hinb : ∀ a, (k0_off33 v0 v19 k0_t3) a + S1x256x4096.size a ≤ S2x256x131072.size a), (Rect.unit (s := S2x256x131072) (k0_off33 v0 v19 k0_t3) S1x256x4096.size hinb).WholeWords (EltTy.packing .fp8e4m3)) ∧
  (∀ k0_t3 : Fin (k0_t3_loop v19).trips, ∀ (k0_h6 : k0_cond6 v0 v19 k0_t3 = 1#1), ∀ (hinb : ∀ a, (k0_off32 v0 v19 k0_t3) a + S1x256x4096.size a ≤ S4x256x4096.size a), (Rect.unit (s := S4x256x4096) (k0_off32 v0 v19 k0_t3) S1x256x4096.size hinb).WholeWords (EltTy.packing .fp8e4m3)) ∧
  (∀ k0_t3 : Fin (k0_t3_loop v19).trips, ∀ (k0_h6 : k0_cond6 v0 v19 k0_t3 = 1#1), ∀ a, (k0_off34 v0 v19 k0_t3) a + S1x1.size a ≤ S4x2.size a) ∧
  (∀ k0_t3 : Fin (k0_t3_loop v19).trips, ∀ a, (k0_off35 v0 v19 k0_t3) a + S1x1.size a ≤ S4x2.size a) ∧
  (∀ k0_t3 : Fin (k0_t3_loop v19).trips, ∀ a, (k0_off36 v0 v19 k0_t3) a + S1x256x4096.size a ≤ S4x256x4096.size a) ∧
  (∀ k0_t3 : Fin (k0_t3_loop v19).trips, ∀ a, (k0_off37 v0 v19 k0_t3) a + S1x256x4096.size a ≤ S2x256x131072.size a) ∧
  (∀ k0_t3 : Fin (k0_t3_loop v19).trips, ∀ (hinb : ∀ a, (k0_off37 v0 v19 k0_t3) a + S1x256x4096.size a ≤ S2x256x131072.size a), (Rect.unit (s := S2x256x131072) (k0_off37 v0 v19 k0_t3) S1x256x4096.size hinb).WholeWords (EltTy.packing .fp8e4m3)) ∧
  (∀ k0_t3 : Fin (k0_t3_loop v19).trips, ∀ (hinb : ∀ a, (k0_off36 v0 v19 k0_t3) a + S1x256x4096.size a ≤ S4x256x4096.size a), (Rect.unit (s := S4x256x4096) (k0_off36 v0 v19 k0_t3) S1x256x4096.size hinb).WholeWords (EltTy.packing .fp8e4m3)) ∧
  (∀ k0_t3 : Fin (k0_t3_loop v19).trips, ∀ a, (k0_off38 v0 v19 k0_t3) a + S1x1.size a ≤ S4x2.size a) ∧
  (∀ k0_t3 : Fin (k0_t3_loop v19).trips, ∀ a, (k0_off39 v0 v19 k0_t3) a + S1x256x4096.size a ≤ S4x256x4096.size a)
def k0_chk1_1 (v0 : BitVec 32) (v19 : BitVec 32) : Prop :=
  ((k0_t4_loop v19).OK) ∧
  (∀ k0_t4 : Fin (k0_t4_loop v19).trips, ∀ (k0_h7 : k0_cond7 v0 v19 k0_t4 = 1#1), ∀ a, (k0_off40 v0 v19 k0_t4) a + S1x1.size a ≤ S4x2.size a) ∧
  (∀ k0_t4 : Fin (k0_t4_loop v19).trips, ∀ (k0_h7 : k0_cond7 v0 v19 k0_t4 = 1#1), ∀ a, (k0_off41 v0 v19 k0_t4) a + S1x256x4096.size a ≤ S4x256x4096.size a) ∧
  (∀ k0_t4 : Fin (k0_t4_loop v19).trips, ∀ (k0_h7 : k0_cond7 v0 v19 k0_t4 = 1#1), ∀ a, (k0_off42 v0 v19 k0_t4) a + S1x256x4096.size a ≤ S2x256x131072.size a) ∧
  (∀ k0_t4 : Fin (k0_t4_loop v19).trips, ∀ (k0_h7 : k0_cond7 v0 v19 k0_t4 = 1#1), ∀ (hinb : ∀ a, (k0_off42 v0 v19 k0_t4) a + S1x256x4096.size a ≤ S2x256x131072.size a), (Rect.unit (s := S2x256x131072) (k0_off42 v0 v19 k0_t4) S1x256x4096.size hinb).WholeWords (EltTy.packing .fp8e4m3)) ∧
  (∀ k0_t4 : Fin (k0_t4_loop v19).trips, ∀ (k0_h7 : k0_cond7 v0 v19 k0_t4 = 1#1), ∀ (hinb : ∀ a, (k0_off41 v0 v19 k0_t4) a + S1x256x4096.size a ≤ S4x256x4096.size a), (Rect.unit (s := S4x256x4096) (k0_off41 v0 v19 k0_t4) S1x256x4096.size hinb).WholeWords (EltTy.packing .fp8e4m3)) ∧
  (∀ k0_t4 : Fin (k0_t4_loop v19).trips, ∀ (k0_h7 : k0_cond7 v0 v19 k0_t4 = 1#1), ∀ a, (k0_off43 v0 v19 k0_t4) a + S1x1.size a ≤ S4x2.size a) ∧
  (∀ k0_t4 : Fin (k0_t4_loop v19).trips, ∀ a, (k0_off44 v0 v19 k0_t4) a + S1x1.size a ≤ S4x2.size a) ∧
  (∀ k0_t4 : Fin (k0_t4_loop v19).trips, ∀ a, (k0_off45 v0 v19 k0_t4) a + S1x256x4096.size a ≤ S4x256x4096.size a) ∧
  (∀ k0_t4 : Fin (k0_t4_loop v19).trips, ∀ a, (k0_off46 v0 v19 k0_t4) a + S1x256x4096.size a ≤ S2x256x131072.size a) ∧
  (∀ k0_t4 : Fin (k0_t4_loop v19).trips, ∀ (hinb : ∀ a, (k0_off46 v0 v19 k0_t4) a + S1x256x4096.size a ≤ S2x256x131072.size a), (Rect.unit (s := S2x256x131072) (k0_off46 v0 v19 k0_t4) S1x256x4096.size hinb).WholeWords (EltTy.packing .fp8e4m3)) ∧
  (∀ k0_t4 : Fin (k0_t4_loop v19).trips, ∀ (hinb : ∀ a, (k0_off45 v0 v19 k0_t4) a + S1x256x4096.size a ≤ S4x256x4096.size a), (Rect.unit (s := S4x256x4096) (k0_off45 v0 v19 k0_t4) S1x256x4096.size hinb).WholeWords (EltTy.packing .fp8e4m3)) ∧
  (∀ k0_t4 : Fin (k0_t4_loop v19).trips, ∀ a, (k0_off47 v0 v19 k0_t4) a + S1x1.size a ≤ S4x2.size a) ∧
  (∀ k0_t4 : Fin (k0_t4_loop v19).trips, ∀ a, (k0_off48 v0 v19 k0_t4) a + S1x256x4096.size a ≤ S4x256x4096.size a)
def k0_chk1 (v0 : BitVec 32) (v19 : BitVec 32) : Prop :=
  k0_chk1_0 v0 v19 ∧
  k0_chk1_1 v0 v19
theorem k0_off3_inb : ∀ (v0 : BitVec 32) (v19 : BitVec 32) (k0_hw1 : k0_chk1 v0 v19), ∀ (k0_h1 : k0_cond1 v0 v19 = 1#1), ∀ a, (k0_off3 v0) a + S1x256x4096.size a ≤ S2x256x131072.size a := fun v0 v19 k0_hw1 k0_h1 => k0_hw1.1.1 k0_h1
theorem k0_off3_wordsfp8e4m3 : ∀ (v0 : BitVec 32) (v19 : BitVec 32) (k0_hw1 : k0_chk1 v0 v19), ∀ (k0_h1 : k0_cond1 v0 v19 = 1#1), (Rect.unit (s := S2x256x131072) (k0_off3 v0) S1x256x4096.size (k0_off3_inb v0 v19 k0_hw1 k0_h1)).WholeWords (EltTy.packing .fp8e4m3) := fun v0 v19 k0_hw1 k0_h1 => k0_hw1.1.2.1 k0_h1 (k0_off3_inb v0 v19 k0_hw1 k0_h1)
theorem k0_off7_inb : ∀ (v0 : BitVec 32) (v19 : BitVec 32) (k0_hw1 : k0_chk1 v0 v19), ∀ (k0_h2 : k0_cond2 v0 v19 = 1#1), ∀ a, (k0_off7 v0) a + S1x256x4096.size a ≤ S2x256x131072.size a := fun v0 v19 k0_hw1 k0_h2 => k0_hw1.1.2.2.1 k0_h2
theorem k0_off7_wordsfp8e4m3 : ∀ (v0 : BitVec 32) (v19 : BitVec 32) (k0_hw1 : k0_chk1 v0 v19), ∀ (k0_h2 : k0_cond2 v0 v19 = 1#1), (Rect.unit (s := S2x256x131072) (k0_off7 v0) S1x256x4096.size (k0_off7_inb v0 v19 k0_hw1 k0_h2)).WholeWords (EltTy.packing .fp8e4m3) := fun v0 v19 k0_hw1 k0_h2 => k0_hw1.1.2.2.2.1 k0_h2 (k0_off7_inb v0 v19 k0_hw1 k0_h2)
theorem k0_off11_inb : ∀ (v0 : BitVec 32) (v19 : BitVec 32) (k0_hw1 : k0_chk1 v0 v19), ∀ (k0_h3 : k0_cond3 v0 v19 = 1#1), ∀ a, (k0_off11 v0) a + S1x256x4096.size a ≤ S2x256x131072.size a := fun v0 v19 k0_hw1 k0_h3 => k0_hw1.1.2.2.2.2.1 k0_h3
theorem k0_off11_wordsfp8e4m3 : ∀ (v0 : BitVec 32) (v19 : BitVec 32) (k0_hw1 : k0_chk1 v0 v19), ∀ (k0_h3 : k0_cond3 v0 v19 = 1#1), (Rect.unit (s := S2x256x131072) (k0_off11 v0) S1x256x4096.size (k0_off11_inb v0 v19 k0_hw1 k0_h3)).WholeWords (EltTy.packing .fp8e4m3) := fun v0 v19 k0_hw1 k0_h3 => k0_hw1.1.2.2.2.2.2.1 k0_h3 (k0_off11_inb v0 v19 k0_hw1 k0_h3)
theorem k0_off13_inb : ∀ (v0 : BitVec 32) (v19 : BitVec 32) (k0_hw1 : k0_chk1 v0 v19) (k0_t1 : Fin (k0_t1_loop v0).trips), ∀ (k0_h4 : k0_cond4 v0 v19 k0_t1 = 1#1), ∀ a, (k0_off13 v0 k0_t1) a + S1x1.size a ≤ S4x2.size a := fun v0 v19 k0_hw1 k0_t1 k0_h4 => k0_hw1.1.2.2.2.2.2.2.1 k0_t1 k0_h4
theorem k0_off14_inb : ∀ (v0 : BitVec 32) (v19 : BitVec 32) (k0_hw1 : k0_chk1 v0 v19) (k0_t1 : Fin (k0_t1_loop v0).trips), ∀ (k0_h4 : k0_cond4 v0 v19 k0_t1 = 1#1), ∀ a, (k0_off14 v0 k0_t1) a + S1x256x4096.size a ≤ S4x256x4096.size a := fun v0 v19 k0_hw1 k0_t1 k0_h4 => k0_hw1.1.2.2.2.2.2.2.2.1 k0_t1 k0_h4
theorem k0_off15_inb : ∀ (v0 : BitVec 32) (v19 : BitVec 32) (k0_hw1 : k0_chk1 v0 v19) (k0_t1 : Fin (k0_t1_loop v0).trips), ∀ (k0_h4 : k0_cond4 v0 v19 k0_t1 = 1#1), ∀ a, (k0_off15 v0 k0_t1) a + S1x256x4096.size a ≤ S2x256x131072.size a := fun v0 v19 k0_hw1 k0_t1 k0_h4 => k0_hw1.1.2.2.2.2.2.2.2.2.1 k0_t1 k0_h4
theorem k0_off15_wordsfp8e4m3 : ∀ (v0 : BitVec 32) (v19 : BitVec 32) (k0_hw1 : k0_chk1 v0 v19) (k0_t1 : Fin (k0_t1_loop v0).trips), ∀ (k0_h4 : k0_cond4 v0 v19 k0_t1 = 1#1), (Rect.unit (s := S2x256x131072) (k0_off15 v0 k0_t1) S1x256x4096.size (k0_off15_inb v0 v19 k0_hw1 k0_t1 k0_h4)).WholeWords (EltTy.packing .fp8e4m3) := fun v0 v19 k0_hw1 k0_t1 k0_h4 => k0_hw1.1.2.2.2.2.2.2.2.2.2.1 k0_t1 k0_h4 (k0_off15_inb v0 v19 k0_hw1 k0_t1 k0_h4)
theorem k0_off14_wordsfp8e4m3 : ∀ (v0 : BitVec 32) (v19 : BitVec 32) (k0_hw1 : k0_chk1 v0 v19) (k0_t1 : Fin (k0_t1_loop v0).trips), ∀ (k0_h4 : k0_cond4 v0 v19 k0_t1 = 1#1), (Rect.unit (s := S4x256x4096) (k0_off14 v0 k0_t1) S1x256x4096.size (k0_off14_inb v0 v19 k0_hw1 k0_t1 k0_h4)).WholeWords (EltTy.packing .fp8e4m3) := fun v0 v19 k0_hw1 k0_t1 k0_h4 => k0_hw1.1.2.2.2.2.2.2.2.2.2.2.1 k0_t1 k0_h4 (k0_off14_inb v0 v19 k0_hw1 k0_t1 k0_h4)
theorem k0_off16_inb : ∀ (v0 : BitVec 32) (v19 : BitVec 32) (k0_hw1 : k0_chk1 v0 v19) (k0_t1 : Fin (k0_t1_loop v0).trips), ∀ (k0_h4 : k0_cond4 v0 v19 k0_t1 = 1#1), ∀ a, (k0_off16 v0 k0_t1) a + S1x1.size a ≤ S4x2.size a := fun v0 v19 k0_hw1 k0_t1 k0_h4 => k0_hw1.1.2.2.2.2.2.2.2.2.2.2.2.1 k0_t1 k0_h4
theorem k0_off22_inb : ∀ (v0 : BitVec 32) (v19 : BitVec 32) (k0_hw1 : k0_chk1 v0 v19) (k0_t2 : Fin (k0_t2_loop v0).trips), ∀ (k0_h5 : k0_cond5 v0 v19 k0_t2 = 1#1), ∀ a, (k0_off22 v0 k0_t2) a + S1x1.size a ≤ S4x2.size a := fun v0 v19 k0_hw1 k0_t2 k0_h5 => k0_hw1.1.2.2.2.2.2.2.2.2.2.2.2.2.1 k0_t2 k0_h5
theorem k0_off23_inb : ∀ (v0 : BitVec 32) (v19 : BitVec 32) (k0_hw1 : k0_chk1 v0 v19) (k0_t2 : Fin (k0_t2_loop v0).trips), ∀ (k0_h5 : k0_cond5 v0 v19 k0_t2 = 1#1), ∀ a, (k0_off23 v0 k0_t2) a + S1x256x4096.size a ≤ S4x256x4096.size a := fun v0 v19 k0_hw1 k0_t2 k0_h5 => k0_hw1.1.2.2.2.2.2.2.2.2.2.2.2.2.2.1 k0_t2 k0_h5
theorem k0_off24_inb : ∀ (v0 : BitVec 32) (v19 : BitVec 32) (k0_hw1 : k0_chk1 v0 v19) (k0_t2 : Fin (k0_t2_loop v0).trips), ∀ (k0_h5 : k0_cond5 v0 v19 k0_t2 = 1#1), ∀ a, (k0_off24 v0 k0_t2) a + S1x256x4096.size a ≤ S2x256x131072.size a := fun v0 v19 k0_hw1 k0_t2 k0_h5 => k0_hw1.1.2.2.2.2.2.2.2.2.2.2.2.2.2.2.1 k0_t2 k0_h5
theorem k0_off24_wordsfp8e4m3 : ∀ (v0 : BitVec 32) (v19 : BitVec 32) (k0_hw1 : k0_chk1 v0 v19) (k0_t2 : Fin (k0_t2_loop v0).trips), ∀ (k0_h5 : k0_cond5 v0 v19 k0_t2 = 1#1), (Rect.unit (s := S2x256x131072) (k0_off24 v0 k0_t2) S1x256x4096.size (k0_off24_inb v0 v19 k0_hw1 k0_t2 k0_h5)).WholeWords (EltTy.packing .fp8e4m3) := fun v0 v19 k0_hw1 k0_t2 k0_h5 => k0_hw1.1.2.2.2.2.2.2.2.2.2.2.2.2.2.2.2.1 k0_t2 k0_h5 (k0_off24_inb v0 v19 k0_hw1 k0_t2 k0_h5)
theorem k0_off23_wordsfp8e4m3 : ∀ (v0 : BitVec 32) (v19 : BitVec 32) (k0_hw1 : k0_chk1 v0 v19) (k0_t2 : Fin (k0_t2_loop v0).trips), ∀ (k0_h5 : k0_cond5 v0 v19 k0_t2 = 1#1), (Rect.unit (s := S4x256x4096) (k0_off23 v0 k0_t2) S1x256x4096.size (k0_off23_inb v0 v19 k0_hw1 k0_t2 k0_h5)).WholeWords (EltTy.packing .fp8e4m3) := fun v0 v19 k0_hw1 k0_t2 k0_h5 => k0_hw1.1.2.2.2.2.2.2.2.2.2.2.2.2.2.2.2.2.1 k0_t2 k0_h5 (k0_off23_inb v0 v19 k0_hw1 k0_t2 k0_h5)
theorem k0_off25_inb : ∀ (v0 : BitVec 32) (v19 : BitVec 32) (k0_hw1 : k0_chk1 v0 v19) (k0_t2 : Fin (k0_t2_loop v0).trips), ∀ (k0_h5 : k0_cond5 v0 v19 k0_t2 = 1#1), ∀ a, (k0_off25 v0 k0_t2) a + S1x1.size a ≤ S4x2.size a := fun v0 v19 k0_hw1 k0_t2 k0_h5 => k0_hw1.1.2.2.2.2.2.2.2.2.2.2.2.2.2.2.2.2.2.1 k0_t2 k0_h5
theorem k0_t3_ok : ∀ (v0 : BitVec 32) (v19 : BitVec 32) (k0_hw1 : k0_chk1 v0 v19), (k0_t3_loop v19).OK := fun v0 v19 k0_hw1 => k0_hw1.1.2.2.2.2.2.2.2.2.2.2.2.2.2.2.2.2.2.2.1
theorem k0_off31_inb : ∀ (v0 : BitVec 32) (v19 : BitVec 32) (k0_hw1 : k0_chk1 v0 v19) (k0_t3 : Fin (k0_t3_loop v19).trips), ∀ (k0_h6 : k0_cond6 v0 v19 k0_t3 = 1#1), ∀ a, (k0_off31 v0 v19 k0_t3) a + S1x1.size a ≤ S4x2.size a := fun v0 v19 k0_hw1 k0_t3 k0_h6 => k0_hw1.1.2.2.2.2.2.2.2.2.2.2.2.2.2.2.2.2.2.2.2.1 k0_t3 k0_h6
theorem k0_off32_inb : ∀ (v0 : BitVec 32) (v19 : BitVec 32) (k0_hw1 : k0_chk1 v0 v19) (k0_t3 : Fin (k0_t3_loop v19).trips), ∀ (k0_h6 : k0_cond6 v0 v19 k0_t3 = 1#1), ∀ a, (k0_off32 v0 v19 k0_t3) a + S1x256x4096.size a ≤ S4x256x4096.size a := fun v0 v19 k0_hw1 k0_t3 k0_h6 => k0_hw1.1.2.2.2.2.2.2.2.2.2.2.2.2.2.2.2.2.2.2.2.2.1 k0_t3 k0_h6
theorem k0_off33_inb : ∀ (v0 : BitVec 32) (v19 : BitVec 32) (k0_hw1 : k0_chk1 v0 v19) (k0_t3 : Fin (k0_t3_loop v19).trips), ∀ (k0_h6 : k0_cond6 v0 v19 k0_t3 = 1#1), ∀ a, (k0_off33 v0 v19 k0_t3) a + S1x256x4096.size a ≤ S2x256x131072.size a := fun v0 v19 k0_hw1 k0_t3 k0_h6 => k0_hw1.1.2.2.2.2.2.2.2.2.2.2.2.2.2.2.2.2.2.2.2.2.2.1 k0_t3 k0_h6
theorem k0_off33_wordsfp8e4m3 : ∀ (v0 : BitVec 32) (v19 : BitVec 32) (k0_hw1 : k0_chk1 v0 v19) (k0_t3 : Fin (k0_t3_loop v19).trips), ∀ (k0_h6 : k0_cond6 v0 v19 k0_t3 = 1#1), (Rect.unit (s := S2x256x131072) (k0_off33 v0 v19 k0_t3) S1x256x4096.size (k0_off33_inb v0 v19 k0_hw1 k0_t3 k0_h6)).WholeWords (EltTy.packing .fp8e4m3) := fun v0 v19 k0_hw1 k0_t3 k0_h6 => k0_hw1.1.2.2.2.2.2.2.2.2.2.2.2.2.2.2.2.2.2.2.2.2.2.2.1 k0_t3 k0_h6 (k0_off33_inb v0 v19 k0_hw1 k0_t3 k0_h6)
theorem k0_off32_wordsfp8e4m3 : ∀ (v0 : BitVec 32) (v19 : BitVec 32) (k0_hw1 : k0_chk1 v0 v19) (k0_t3 : Fin (k0_t3_loop v19).trips), ∀ (k0_h6 : k0_cond6 v0 v19 k0_t3 = 1#1), (Rect.unit (s := S4x256x4096) (k0_off32 v0 v19 k0_t3) S1x256x4096.size (k0_off32_inb v0 v19 k0_hw1 k0_t3 k0_h6)).WholeWords (EltTy.packing .fp8e4m3) := fun v0 v19 k0_hw1 k0_t3 k0_h6 => k0_hw1.1.2.2.2.2.2.2.2.2.2.2.2.2.2.2.2.2.2.2.2.2.2.2.2.1 k0_t3 k0_h6 (k0_off32_inb v0 v19 k0_hw1 k0_t3 k0_h6)
theorem k0_off34_inb : ∀ (v0 : BitVec 32) (v19 : BitVec 32) (k0_hw1 : k0_chk1 v0 v19) (k0_t3 : Fin (k0_t3_loop v19).trips), ∀ (k0_h6 : k0_cond6 v0 v19 k0_t3 = 1#1), ∀ a, (k0_off34 v0 v19 k0_t3) a + S1x1.size a ≤ S4x2.size a := fun v0 v19 k0_hw1 k0_t3 k0_h6 => k0_hw1.1.2.2.2.2.2.2.2.2.2.2.2.2.2.2.2.2.2.2.2.2.2.2.2.2.1 k0_t3 k0_h6
theorem k0_off35_inb : ∀ (v0 : BitVec 32) (v19 : BitVec 32) (k0_hw1 : k0_chk1 v0 v19) (k0_t3 : Fin (k0_t3_loop v19).trips), ∀ a, (k0_off35 v0 v19 k0_t3) a + S1x1.size a ≤ S4x2.size a := fun v0 v19 k0_hw1 k0_t3 => k0_hw1.1.2.2.2.2.2.2.2.2.2.2.2.2.2.2.2.2.2.2.2.2.2.2.2.2.2.1 k0_t3
theorem k0_off36_inb : ∀ (v0 : BitVec 32) (v19 : BitVec 32) (k0_hw1 : k0_chk1 v0 v19) (k0_t3 : Fin (k0_t3_loop v19).trips), ∀ a, (k0_off36 v0 v19 k0_t3) a + S1x256x4096.size a ≤ S4x256x4096.size a := fun v0 v19 k0_hw1 k0_t3 => k0_hw1.1.2.2.2.2.2.2.2.2.2.2.2.2.2.2.2.2.2.2.2.2.2.2.2.2.2.2.1 k0_t3
theorem k0_off37_inb : ∀ (v0 : BitVec 32) (v19 : BitVec 32) (k0_hw1 : k0_chk1 v0 v19) (k0_t3 : Fin (k0_t3_loop v19).trips), ∀ a, (k0_off37 v0 v19 k0_t3) a + S1x256x4096.size a ≤ S2x256x131072.size a := fun v0 v19 k0_hw1 k0_t3 => k0_hw1.1.2.2.2.2.2.2.2.2.2.2.2.2.2.2.2.2.2.2.2.2.2.2.2.2.2.2.2.1 k0_t3
theorem k0_off37_wordsfp8e4m3 : ∀ (v0 : BitVec 32) (v19 : BitVec 32) (k0_hw1 : k0_chk1 v0 v19) (k0_t3 : Fin (k0_t3_loop v19).trips), (Rect.unit (s := S2x256x131072) (k0_off37 v0 v19 k0_t3) S1x256x4096.size (k0_off37_inb v0 v19 k0_hw1 k0_t3)).WholeWords (EltTy.packing .fp8e4m3) := fun v0 v19 k0_hw1 k0_t3 => k0_hw1.1.2.2.2.2.2.2.2.2.2.2.2.2.2.2.2.2.2.2.2.2.2.2.2.2.2.2.2.2.1 k0_t3 (k0_off37_inb v0 v19 k0_hw1 k0_t3)
theorem k0_off36_wordsfp8e4m3 : ∀ (v0 : BitVec 32) (v19 : BitVec 32) (k0_hw1 : k0_chk1 v0 v19) (k0_t3 : Fin (k0_t3_loop v19).trips), (Rect.unit (s := S4x256x4096) (k0_off36 v0 v19 k0_t3) S1x256x4096.size (k0_off36_inb v0 v19 k0_hw1 k0_t3)).WholeWords (EltTy.packing .fp8e4m3) := fun v0 v19 k0_hw1 k0_t3 => k0_hw1.1.2.2.2.2.2.2.2.2.2.2.2.2.2.2.2.2.2.2.2.2.2.2.2.2.2.2.2.2.2.1 k0_t3 (k0_off36_inb v0 v19 k0_hw1 k0_t3)
theorem k0_off38_inb : ∀ (v0 : BitVec 32) (v19 : BitVec 32) (k0_hw1 : k0_chk1 v0 v19) (k0_t3 : Fin (k0_t3_loop v19).trips), ∀ a, (k0_off38 v0 v19 k0_t3) a + S1x1.size a ≤ S4x2.size a := fun v0 v19 k0_hw1 k0_t3 => k0_hw1.1.2.2.2.2.2.2.2.2.2.2.2.2.2.2.2.2.2.2.2.2.2.2.2.2.2.2.2.2.2.2.1 k0_t3
theorem k0_off39_inb : ∀ (v0 : BitVec 32) (v19 : BitVec 32) (k0_hw1 : k0_chk1 v0 v19) (k0_t3 : Fin (k0_t3_loop v19).trips), ∀ a, (k0_off39 v0 v19 k0_t3) a + S1x256x4096.size a ≤ S4x256x4096.size a := fun v0 v19 k0_hw1 k0_t3 => k0_hw1.1.2.2.2.2.2.2.2.2.2.2.2.2.2.2.2.2.2.2.2.2.2.2.2.2.2.2.2.2.2.2.2 k0_t3
theorem k0_t4_ok : ∀ (v0 : BitVec 32) (v19 : BitVec 32) (k0_hw1 : k0_chk1 v0 v19), (k0_t4_loop v19).OK := fun v0 v19 k0_hw1 => k0_hw1.2.1
theorem k0_off40_inb : ∀ (v0 : BitVec 32) (v19 : BitVec 32) (k0_hw1 : k0_chk1 v0 v19) (k0_t4 : Fin (k0_t4_loop v19).trips), ∀ (k0_h7 : k0_cond7 v0 v19 k0_t4 = 1#1), ∀ a, (k0_off40 v0 v19 k0_t4) a + S1x1.size a ≤ S4x2.size a := fun v0 v19 k0_hw1 k0_t4 k0_h7 => k0_hw1.2.2.1 k0_t4 k0_h7
theorem k0_off41_inb : ∀ (v0 : BitVec 32) (v19 : BitVec 32) (k0_hw1 : k0_chk1 v0 v19) (k0_t4 : Fin (k0_t4_loop v19).trips), ∀ (k0_h7 : k0_cond7 v0 v19 k0_t4 = 1#1), ∀ a, (k0_off41 v0 v19 k0_t4) a + S1x256x4096.size a ≤ S4x256x4096.size a := fun v0 v19 k0_hw1 k0_t4 k0_h7 => k0_hw1.2.2.2.1 k0_t4 k0_h7
theorem k0_off42_inb : ∀ (v0 : BitVec 32) (v19 : BitVec 32) (k0_hw1 : k0_chk1 v0 v19) (k0_t4 : Fin (k0_t4_loop v19).trips), ∀ (k0_h7 : k0_cond7 v0 v19 k0_t4 = 1#1), ∀ a, (k0_off42 v0 v19 k0_t4) a + S1x256x4096.size a ≤ S2x256x131072.size a := fun v0 v19 k0_hw1 k0_t4 k0_h7 => k0_hw1.2.2.2.2.1 k0_t4 k0_h7
theorem k0_off42_wordsfp8e4m3 : ∀ (v0 : BitVec 32) (v19 : BitVec 32) (k0_hw1 : k0_chk1 v0 v19) (k0_t4 : Fin (k0_t4_loop v19).trips), ∀ (k0_h7 : k0_cond7 v0 v19 k0_t4 = 1#1), (Rect.unit (s := S2x256x131072) (k0_off42 v0 v19 k0_t4) S1x256x4096.size (k0_off42_inb v0 v19 k0_hw1 k0_t4 k0_h7)).WholeWords (EltTy.packing .fp8e4m3) := fun v0 v19 k0_hw1 k0_t4 k0_h7 => k0_hw1.2.2.2.2.2.1 k0_t4 k0_h7 (k0_off42_inb v0 v19 k0_hw1 k0_t4 k0_h7)
theorem k0_off41_wordsfp8e4m3 : ∀ (v0 : BitVec 32) (v19 : BitVec 32) (k0_hw1 : k0_chk1 v0 v19) (k0_t4 : Fin (k0_t4_loop v19).trips), ∀ (k0_h7 : k0_cond7 v0 v19 k0_t4 = 1#1), (Rect.unit (s := S4x256x4096) (k0_off41 v0 v19 k0_t4) S1x256x4096.size (k0_off41_inb v0 v19 k0_hw1 k0_t4 k0_h7)).WholeWords (EltTy.packing .fp8e4m3) := fun v0 v19 k0_hw1 k0_t4 k0_h7 => k0_hw1.2.2.2.2.2.2.1 k0_t4 k0_h7 (k0_off41_inb v0 v19 k0_hw1 k0_t4 k0_h7)
theorem k0_off43_inb : ∀ (v0 : BitVec 32) (v19 : BitVec 32) (k0_hw1 : k0_chk1 v0 v19) (k0_t4 : Fin (k0_t4_loop v19).trips), ∀ (k0_h7 : k0_cond7 v0 v19 k0_t4 = 1#1), ∀ a, (k0_off43 v0 v19 k0_t4) a + S1x1.size a ≤ S4x2.size a := fun v0 v19 k0_hw1 k0_t4 k0_h7 => k0_hw1.2.2.2.2.2.2.2.1 k0_t4 k0_h7
theorem k0_off44_inb : ∀ (v0 : BitVec 32) (v19 : BitVec 32) (k0_hw1 : k0_chk1 v0 v19) (k0_t4 : Fin (k0_t4_loop v19).trips), ∀ a, (k0_off44 v0 v19 k0_t4) a + S1x1.size a ≤ S4x2.size a := fun v0 v19 k0_hw1 k0_t4 => k0_hw1.2.2.2.2.2.2.2.2.1 k0_t4
theorem k0_off45_inb : ∀ (v0 : BitVec 32) (v19 : BitVec 32) (k0_hw1 : k0_chk1 v0 v19) (k0_t4 : Fin (k0_t4_loop v19).trips), ∀ a, (k0_off45 v0 v19 k0_t4) a + S1x256x4096.size a ≤ S4x256x4096.size a := fun v0 v19 k0_hw1 k0_t4 => k0_hw1.2.2.2.2.2.2.2.2.2.1 k0_t4
theorem k0_off46_inb : ∀ (v0 : BitVec 32) (v19 : BitVec 32) (k0_hw1 : k0_chk1 v0 v19) (k0_t4 : Fin (k0_t4_loop v19).trips), ∀ a, (k0_off46 v0 v19 k0_t4) a + S1x256x4096.size a ≤ S2x256x131072.size a := fun v0 v19 k0_hw1 k0_t4 => k0_hw1.2.2.2.2.2.2.2.2.2.2.1 k0_t4
theorem k0_off46_wordsfp8e4m3 : ∀ (v0 : BitVec 32) (v19 : BitVec 32) (k0_hw1 : k0_chk1 v0 v19) (k0_t4 : Fin (k0_t4_loop v19).trips), (Rect.unit (s := S2x256x131072) (k0_off46 v0 v19 k0_t4) S1x256x4096.size (k0_off46_inb v0 v19 k0_hw1 k0_t4)).WholeWords (EltTy.packing .fp8e4m3) := fun v0 v19 k0_hw1 k0_t4 => k0_hw1.2.2.2.2.2.2.2.2.2.2.2.1 k0_t4 (k0_off46_inb v0 v19 k0_hw1 k0_t4)
theorem k0_off45_wordsfp8e4m3 : ∀ (v0 : BitVec 32) (v19 : BitVec 32) (k0_hw1 : k0_chk1 v0 v19) (k0_t4 : Fin (k0_t4_loop v19).trips), (Rect.unit (s := S4x256x4096) (k0_off45 v0 v19 k0_t4) S1x256x4096.size (k0_off45_inb v0 v19 k0_hw1 k0_t4)).WholeWords (EltTy.packing .fp8e4m3) := fun v0 v19 k0_hw1 k0_t4 => k0_hw1.2.2.2.2.2.2.2.2.2.2.2.2.1 k0_t4 (k0_off45_inb v0 v19 k0_hw1 k0_t4)
theorem k0_off47_inb : ∀ (v0 : BitVec 32) (v19 : BitVec 32) (k0_hw1 : k0_chk1 v0 v19) (k0_t4 : Fin (k0_t4_loop v19).trips), ∀ a, (k0_off47 v0 v19 k0_t4) a + S1x1.size a ≤ S4x2.size a := fun v0 v19 k0_hw1 k0_t4 => k0_hw1.2.2.2.2.2.2.2.2.2.2.2.2.2.1 k0_t4
theorem k0_off48_inb : ∀ (v0 : BitVec 32) (v19 : BitVec 32) (k0_hw1 : k0_chk1 v0 v19) (k0_t4 : Fin (k0_t4_loop v19).trips), ∀ a, (k0_off48 v0 v19 k0_t4) a + S1x256x4096.size a ≤ S4x256x4096.size a := fun v0 v19 k0_hw1 k0_t4 => k0_hw1.2.2.2.2.2.2.2.2.2.2.2.2.2.2 k0_t4

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1x4x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x4x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x4x64 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .smem S4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S2x1x32x64 : Shape := ⟨4, ![2, 1, 32, 64]⟩
abbrev S2x1x4x64 : Shape := ⟨4, ![2, 1, 4, 64]⟩
abbrev S2x131072x4x64 : Shape := ⟨4, ![2, 131072, 4, 64]⟩
abbrev S2 : Shape := ⟨1, ![2]⟩
abbrev S4x64 : Shape := ⟨2, ![4, 64]⟩
abbrev S4 : Shape := ⟨1, ![4]⟩
abbrev S1x1x4x64 : Shape := ⟨4, ![1, 1, 4, 64]⟩
abbrev S1x1x4x1 : Shape := ⟨4, ![1, 1, 4, 1]⟩
abbrev S2x1x4x8x64 : Shape := ⟨5, ![2, 1, 4, 8, 64]⟩
abbrev S2x4x131072x1x8 : Shape := ⟨5, ![2, 4, 131072, 1, 8]⟩
abbrev S2x4x8x1x131072 : Shape := ⟨5, ![2, 4, 8, 1, 131072]⟩
abbrev S_ : Shape := ⟨0, ![]⟩
abbrev S2x4x1x1x8 : Shape := ⟨5, ![2, 4, 1, 1, 8]⟩
abbrev S2x4x8x1x1 : Shape := ⟨5, ![2, 4, 8, 1, 1]⟩
abbrev S131072 : Shape := ⟨1, ![131072]⟩
abbrev S1x131072 : Shape := ⟨2, ![1, 131072]⟩
abbrev S2x1 : Shape := ⟨2, ![2, 1]⟩
abbrev S2x131072 : Shape := ⟨2, ![2, 131072]⟩
abbrev S2x1x1x1x131072 : Shape := ⟨5, ![2, 1, 1, 1, 131072]⟩
abbrev S1 : Shape := ⟨1, ![1]⟩
abbrev S1x1 : Shape := ⟨2, ![1, 1]⟩
abbrev S1x1x1x1x1 : Shape := ⟨5, ![1, 1, 1, 1, 1]⟩
abbrev S2x4x8x1 : Shape := ⟨4, ![2, 4, 8, 1]⟩
abbrev S1x4x1x1x1 : Shape := ⟨5, ![1, 4, 1, 1, 1]⟩
abbrev S2x4x64x8x1 : Shape := ⟨5, ![2, 4, 64, 8, 1]⟩

abbrev nBuf : Space → Nat
  | .hbm => 100
  | .vmem => 14
  | .smem => 0
  | _ => 0

abbrev bufTy : (tb : Table) → Fin (tcTables nBuf tb) → BufTy
  | .hbm, ⟨0, _⟩ => ⟨S2x1x32x64, .bf16⟩
  | .hbm, ⟨1, _⟩ => ⟨S2x1x4x64, .bf16⟩
  | .hbm, ⟨2, _⟩ => ⟨S2x1x4x64, .bf16⟩
  | .hbm, ⟨3, _⟩ => ⟨S2x131072x4x64, .fp8e4m3⟩
  | .hbm, ⟨4, _⟩ => ⟨S2x131072x4x64, .fp8e4m3⟩
  | .hbm, ⟨5, _⟩ => ⟨S2, .i32⟩
  | .hbm, ⟨6, _⟩ => ⟨S4x64, .i32⟩
  | .hbm, ⟨7, _⟩ => ⟨S4, .i32⟩
  | .hbm, ⟨8, _⟩ => ⟨S1x1x4x64, .i32⟩
  | .hbm, ⟨9, _⟩ => ⟨S1x1x4x1, .i32⟩
  | .hbm, ⟨10, _⟩ => ⟨S2x1x4x64, .fp8e4m3⟩
  | .hbm, ⟨11, _⟩ => ⟨S1x1x4x64, .f32⟩
  | .hbm, ⟨12, _⟩ => ⟨S2x1x4x64, .fp8e4m3⟩
  | .hbm, ⟨13, _⟩ => ⟨S1x1x4x1, .f32⟩
  | .hbm, ⟨14, _⟩ => ⟨S2x1x4x64, .bf16⟩
  | .hbm, ⟨15, _⟩ => ⟨S2x1x4x64, .bf16⟩
  | .hbm, ⟨16, _⟩ => ⟨S2x131072x4x64, .bf16⟩
  | .hbm, ⟨17, _⟩ => ⟨S2x131072x4x64, .bf16⟩
  | .hbm, ⟨18, _⟩ => ⟨S4x64, .f32⟩
  | .hbm, ⟨19, _⟩ => ⟨S4, .f32⟩
  | .hbm, ⟨20, _⟩ => ⟨S2x1x4x8x64, .bf16⟩
  | .hbm, ⟨21, _⟩ => ⟨S4x64, .bf16⟩
  | .hbm, ⟨22, _⟩ => ⟨S1x1x4x64, .bf16⟩
  | .hbm, ⟨23, _⟩ => ⟨S2x131072x4x64, .bf16⟩
  | .hbm, ⟨24, _⟩ => ⟨S2x131072x4x64, .bf16⟩
  | .hbm, ⟨25, _⟩ => ⟨S1x1x4x64, .bf16⟩
  | .hbm, ⟨26, _⟩ => ⟨S2x1x4x64, .bf16⟩
  | .hbm, ⟨27, _⟩ => ⟨S2x1x4x64, .bf16⟩
  | .hbm, ⟨28, _⟩ => ⟨S2x4x131072x1x8, .f32⟩
  | .hbm, ⟨29, _⟩ => ⟨S2x4x8x1x131072, .f32⟩
  | .hbm, ⟨30, _⟩ => ⟨S_, .f32⟩
  | .hbm, ⟨31, _⟩ => ⟨S2x4x8x1x131072, .f32⟩
  | .hbm, ⟨32, _⟩ => ⟨S2x4x8x1x131072, .f32⟩
  | .hbm, ⟨33, _⟩ => ⟨S2x4x1x1x8, .f32⟩
  | .hbm, ⟨34, _⟩ => ⟨S2x4x8x1x1, .f32⟩
  | .hbm, ⟨35, _⟩ => ⟨S_, .f32⟩
  | .hbm, ⟨36, _⟩ => ⟨S2x4x8x1x1, .f32⟩
  | .hbm, ⟨37, _⟩ => ⟨S2x4x8x1x1, .f32⟩
  | .hbm, ⟨38, _⟩ => ⟨S131072, .i32⟩
  | .hbm, ⟨39, _⟩ => ⟨S1x131072, .i32⟩
  | .hbm, ⟨40, _⟩ => ⟨S2x1, .i32⟩
  | .hbm, ⟨41, _⟩ => ⟨S2x131072, .i32⟩
  | .hbm, ⟨42, _⟩ => ⟨S2x131072, .i32⟩
  | .hbm, ⟨43, _⟩ => ⟨S2x131072, .i1⟩
  | .hbm, ⟨44, _⟩ => ⟨S2x1x1x1x131072, .i1⟩
  | .hbm, ⟨45, _⟩ => ⟨S1, .i32⟩
  | .hbm, ⟨46, _⟩ => ⟨S1x1, .i32⟩
  | .hbm, ⟨47, _⟩ => ⟨S1, .i32⟩
  | .hbm, ⟨48, _⟩ => ⟨S1x1, .i32⟩
  | .hbm, ⟨49, _⟩ => ⟨S1x1, .i1⟩
  | .hbm, ⟨50, _⟩ => ⟨S1x1x1x1x1, .i1⟩
  | .hbm, ⟨51, _⟩ => ⟨S_, .f32⟩
  | .hbm, ⟨52, _⟩ => ⟨S_, .f32⟩
  | .hbm, ⟨53, _⟩ => ⟨S2x4x8x1x131072, .i1⟩
  | .hbm, ⟨54, _⟩ => ⟨S2x4x8x1x131072, .f32⟩
  | .hbm, ⟨55, _⟩ => ⟨S2x4x8x1x131072, .f32⟩
  | .hbm, ⟨56, _⟩ => ⟨S_, .f32⟩
  | .hbm, ⟨57, _⟩ => ⟨S_, .f32⟩
  | .hbm, ⟨58, _⟩ => ⟨S2x4x8x1x1, .i1⟩
  | .hbm, ⟨59, _⟩ => ⟨S2x4x8x1x1, .f32⟩
  | .hbm, ⟨60, _⟩ => ⟨S2x4x8x1x1, .f32⟩
  | .hbm, ⟨61, _⟩ => ⟨S_, .f32⟩
  | .hbm, ⟨62, _⟩ => ⟨S2x4x8x1, .f32⟩
  | .hbm, ⟨63, _⟩ => ⟨S2x4x8x1x1, .f32⟩
  | .hbm, ⟨64, _⟩ => ⟨S_, .f32⟩
  | .hbm, ⟨65, _⟩ => ⟨S2x4x8x1, .f32⟩
  | .hbm, ⟨66, _⟩ => ⟨S2x4x8x1x1, .f32⟩
  | .hbm, ⟨67, _⟩ => ⟨S2x4x8x1x1, .f32⟩
  | .hbm, ⟨68, _⟩ => ⟨S2x4x8x1x131072, .f32⟩
  | .hbm, ⟨69, _⟩ => ⟨S2x4x8x1x131072, .f32⟩
  | .hbm, ⟨70, _⟩ => ⟨S2x4x8x1x131072, .f32⟩
  | .hbm, ⟨71, _⟩ => ⟨S2x4x8x1x1, .f32⟩
  | .hbm, ⟨72, _⟩ => ⟨S2x4x8x1x1, .f32⟩
  | .hbm, ⟨73, _⟩ => ⟨S_, .f32⟩
  | .hbm, ⟨74, _⟩ => ⟨S2x4x8x1, .f32⟩
  | .hbm, ⟨75, _⟩ => ⟨S2x4x8x1x1, .f32⟩
  | .hbm, ⟨76, _⟩ => ⟨S_, .f32⟩
  | .hbm, ⟨77, _⟩ => ⟨S2x4x8x1, .f32⟩
  | .hbm, ⟨78, _⟩ => ⟨S2x4x8x1x1, .f32⟩
  | .hbm, ⟨79, _⟩ => ⟨S2x4x8x1x1, .f32⟩
  | .hbm, ⟨80, _⟩ => ⟨S_, .f32⟩
  | .hbm, ⟨81, _⟩ => ⟨S2x4x8x1x1, .f32⟩
  | .hbm, ⟨82, _⟩ => ⟨S2x4x8x1x1, .f32⟩
  | .hbm, ⟨83, _⟩ => ⟨S1x4x1x1x1, .f32⟩
  | .hbm, ⟨84, _⟩ => ⟨S2x4x8x1x131072, .f32⟩
  | .hbm, ⟨85, _⟩ => ⟨S2x4x8x1x131072, .f32⟩
  | .hbm, ⟨86, _⟩ => ⟨S2x4x8x1x131072, .f32⟩
  | .hbm, ⟨87, _⟩ => ⟨S2x4x8x1x131072, .f32⟩
  | .hbm, ⟨88, _⟩ => ⟨S2x4x8x1x131072, .bf16⟩
  | .hbm, ⟨89, _⟩ => ⟨S2x4x8x1x1, .f32⟩
  | .hbm, ⟨90, _⟩ => ⟨S2x4x8x1x1, .f32⟩
  | .hbm, ⟨91, _⟩ => ⟨S2x4x8x1x1, .f32⟩
  | .hbm, ⟨92, _⟩ => ⟨S2x4x8x1x1, .bf16⟩
  | .hbm, ⟨93, _⟩ => ⟨S2x4x64x8x1, .f32⟩
  | .hbm, ⟨94, _⟩ => ⟨S2x1x4x8x64, .f32⟩
  | .hbm, ⟨95, _⟩ => ⟨S2x4x64x8x1, .f32⟩
  | .hbm, ⟨96, _⟩ => ⟨S2x1x4x8x64, .f32⟩
  | .hbm, ⟨97, _⟩ => ⟨S2x1x4x8x64, .f32⟩
  | .hbm, ⟨98, _⟩ => ⟨S2x1x32x64, .f32⟩
  | .hbm, ⟨99, _⟩ => ⟨S2x1x32x64, .bf16⟩
  | .local _ .vmem, ⟨0, _⟩ => ⟨S2x1x4x64, .bf16⟩
  | .local _ .vmem, ⟨1, _⟩ => ⟨S2x1x4x64, .bf16⟩
  | .local _ .vmem, ⟨2, _⟩ => ⟨S1x1x4x64, .i32⟩
  | .local _ .vmem, ⟨3, _⟩ => ⟨S1x1x4x1, .i32⟩
  | .local _ .vmem, ⟨4, _⟩ => ⟨S2x131072x4x64, .fp8e4m3⟩
  | .local _ .vmem, ⟨5, _⟩ => ⟨S2x131072x4x64, .fp8e4m3⟩
  | .local _ .vmem, ⟨6, _⟩ => ⟨S2x1x4x64, .fp8e4m3⟩
  | .local _ .vmem, ⟨7, _⟩ => ⟨S1x1x4x64, .f32⟩
  | .local _ .vmem, ⟨8, _⟩ => ⟨S2x1x4x64, .fp8e4m3⟩
  | .local _ .vmem, ⟨9, _⟩ => ⟨S1x1x4x1, .f32⟩
  | .local _ .vmem, ⟨10, _⟩ => ⟨S2x1x4x64, .bf16⟩
  | .local _ .vmem, ⟨11, _⟩ => ⟨S2x1x4x64, .bf16⟩
  | .local _ .vmem, ⟨12, _⟩ => ⟨S2x131072x4x64, .bf16⟩
  | .local _ .vmem, ⟨13, _⟩ => ⟨S2x131072x4x64, .bf16⟩
  | _, _ => ⟨S2x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v34 : Ref sig .tc := ⟨.hbm, 55, rfl⟩
abbrev main_cst_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_cst_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S2x1x4x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x4x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x4x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x131072x4x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x131072x4x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1x4x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1x4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1x4x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1x4x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1x4x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1x4x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x131072x4x64 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x131072x4x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Words.lean ====
/-
  The word arithmetic of the kernel's block schedule, in closed form: the number of 4096-column blocks of a sequence
  (`CH`, jax's floor division `(len + 4095) // 4096` as its select chain), the ring slot of a step (`i % 4`), and the
  block a step of the flattened schedule fetches (steps below `n` are blocks of sequence 0, the others of sequence 1).
-/
module

public import Idealize.ShloMosaic.Lib.Affine
public import Idealize.ShloMosaic.Lib.Ring
public import Mathlib.Tactic.Ring
public import Mathlib.Tactic.NormNum

@[expose] public section

namespace Cert.Proof.Words

open Idealize.ShloMosaic
open Affine

/-- jax's floor division `(v + 4095) // 4096`, as the kernel computes it. -/
abbrev CH (v : BitVec 32) : BitVec 32 :=
  Scalar.select (Scalar.andi (Scalar.cmpi .ne
      (Scalar.subi (Scalar.extui (Scalar.cmpi .sgt (Scalar.addi v 4095#32) 0#32)) (Scalar.extui (Scalar.cmpi .slt (Scalar.addi v 4095#32) 0#32)))
      (Scalar.subi (Scalar.extui (Scalar.cmpi .sgt 4096#32 0#32)) (Scalar.extui (Scalar.cmpi .slt 4096#32 0#32))))
    (Scalar.cmpi .ne (Scalar.remsi (Scalar.addi v 4095#32) 4096#32) 0#32))
    (Scalar.subi (Scalar.divsi (Scalar.addi v 4095#32) 4096#32) 1#32) (Scalar.divsi (Scalar.addi v 4095#32) 4096#32)

/-- A sequence length in range. -/
def InR (v : BitVec 32) : Prop := 0 ≤ v.toInt ∧ v.toInt ≤ 131072
/-- The length, in range, of a sequence that is not empty. -/
def InR1 (v : BitVec 32) : Prop := 1 ≤ v.toInt ∧ v.toInt ≤ 131072
theorem InR1.inR {v : BitVec 32} (h : InR1 v) : InR v := ⟨le_trans (by norm_num) h.1, h.2⟩
/-- The number of blocks of a sequence of length `v`. -/
def nch (v : BitVec 32) : ℕ := (v.toInt.toNat + 4095) / 4096

theorem nch_pos {v : BitVec 32} (h : InR1 v) : 1 ≤ nch v := by unfold nch; have := h.1; omega
theorem nch_le {v : BitVec 32} (h : InR v) : nch v ≤ 32 := by unfold nch; have := h.2; have := h.1; omega

theorem lit (n : ℕ) (h : n < 2 ^ 31) : IsInt (BitVec.ofNat 32 n) (n : ℤ) := ofNat n ⟨rfl, h⟩

theorem isInt_CH {v : BitVec 32} (h : InR v) : IsInt (CH v) (nch v : ℤ) := by
  obtain ⟨h1, h2⟩ := h
  have hx : IsInt (Scalar.addi v 4095#32) (v.toInt + 4095) := addi (word v) (lit 4095 (by decide)) ⟨by norm_num, by omega, by omega⟩
  have z : IsInt 0#32 (0 : ℤ) := lit 0 (by decide)
  have m4 : IsInt 4096#32 (4096 : ℤ) := lit 4096 (by decide)
  have hd : IsInt (Scalar.divsi (Scalar.addi v 4095#32) 4096#32) (nch v : ℤ) :=
    divsi hx m4 ⟨by unfold nch; omega, by omega, by omega⟩
  have o : IsInt 1#32 (1 : ℤ) := lit 1 (by decide)
  have hn : (nch v : ℤ) ≤ 32 := by have := nch_le (v := v) ⟨h1, h2⟩; exact_mod_cast this
  refine select_fails (andi_fails_left ?_ trivial) (subi (e := (nch v : ℤ) - 1) hd o ⟨rfl, by omega, by omega⟩) hd rfl
  refine ne_fails (ea := 1) (eb := 1) ?_ ?_ rfl
  · exact subi (ea := 1) (eb := 0) (extui_holds (sgt_holds hx z (by omega)) rfl) (extui_fails (slt_fails hx z (by omega)) rfl) ⟨by norm_num, by norm_num, by norm_num⟩
  · exact subi (ea := 1) (eb := 0) (extui_holds (sgt_holds m4 z (by norm_num)) rfl) (extui_fails (slt_fails m4 z (by norm_num)) rfl) ⟨by norm_num, by norm_num, by norm_num⟩

theorem toInt_of_isInt {x : BitVec 32} {e : Int} (h : IsInt x e) : x.toInt = e := by
  delta Affine.IsInt at h; exact h

/-! ## Offsets -/

/-- Slot `s` of the ring. -/
abbrev slotOff (s : Fin 4) : Fin 3 → ℕ := ![s.val, 0, 0]
/-- Semaphore `j` of slot `s`. -/
abbrev semOff (s : Fin 4) (j : Fin 2) : Fin 2 → ℕ := ![s.val, j.val]
/-- Block `c` of sequence `b`. -/
abbrev blkOff (b : Fin 2) (c : Fin 32) : Fin 3 → ℕ := ![b.val, 0, 4096 * c.val]

/-- The sequence of step `i` when sequence 0 has `n` blocks. -/
def bOf (n i : ℕ) : Fin 2 := if n ≤ i then 1 else 0
/-- The block of step `i` within its sequence. -/
def cOf (n i : ℕ) : Fin 32 := Fin.ofNat 32 (i - if n ≤ i then n else 0)

/-- The executed slot expression. -/
theorem slot_vec {I : BitVec 32} {i : ℕ} (h : IsInt I (i : ℤ)) (hi : i < 96) :
    (![(Scalar.remsi I 4#32).toNat, 0, 0] : Fin 3 → ℕ) = slotOff (Ring.sl 4 i) :=
  vec_cons (remsi (e := (i % 4 : ℕ)) h (lit 4 (by decide)) ⟨by push_cast; rfl, by omega, by omega⟩) (by simp [Ring.sl, Fin.ofNat]) rfl
theorem sem_vec {I : BitVec 32} {i : ℕ} (h : IsInt I (i : ℤ)) (hi : i < 96) (j : Fin 2) :
    (![(Scalar.remsi I 4#32).toNat, j.val] : Fin 2 → ℕ) = semOff (Ring.sl 4 i) j :=
  vec_cons (remsi (e := (i % 4 : ℕ)) h (lit 4 (by decide)) ⟨by push_cast; rfl, by omega, by omega⟩) (by simp [Ring.sl, Fin.ofNat]) rfl

/-- The executed block expression, at step `i < n + n'`. -/
theorem blk_vec {N I : BitVec 32} {n i : ℕ} (hN : IsInt N (n : ℤ)) (hI : IsInt I (i : ℤ)) (hn : n ≤ 32) (hi : i < n + 32) :
    (![(Scalar.select (Scalar.cmpi .sge I N) 1#32 0#32).toNat, 0,
      (Scalar.muli (Scalar.subi I (Scalar.muli (Scalar.select (Scalar.cmpi .sge I N) 1#32 0#32) N)) 4096#32).toNat] : Fin 3 → ℕ)
      = blkOff (bOf n i) (cOf n i) := by
  have z : IsInt 0#32 (0 : ℤ) := lit 0 (by decide)
  have o : IsInt 1#32 (1 : ℤ) := lit 1 (by decide)
  by_cases h : n ≤ i
  · have hs : IsInt (Scalar.select (Scalar.cmpi .sge I N) 1#32 0#32) (1 : ℤ) :=
      select_holds (sge_holds hI hN (by exact_mod_cast h)) o z rfl
    have hm : IsInt (Scalar.muli (Scalar.select (Scalar.cmpi .sge I N) 1#32 0#32) N) (n : ℤ) := muli hs hN ⟨by ring, by omega, by omega⟩
    have hd : IsInt (Scalar.subi I (Scalar.muli (Scalar.select (Scalar.cmpi .sge I N) 1#32 0#32) N)) ((i : ℤ) - n) := subi hI hm ⟨rfl, by omega, by omega⟩
    have hc := muli (e := 4096 * ((i : ℤ) - n)) hd (lit 4096 (by decide)) ⟨by push_cast; ring, by omega, by omega⟩
    refine vec_cons hs (by simp [bOf, h]) (vec_cons' hc ?_)
    simp only [cOf, h, if_true, Fin.ofNat, Nat.cast_mul]
    rw [Nat.mod_eq_of_lt (by omega)]; push_cast [h]; rfl
  · have hs : IsInt (Scalar.select (Scalar.cmpi .sge I N) 1#32 0#32) (0 : ℤ) :=
      select_fails (sge_fails hI hN (by exact_mod_cast h)) o z rfl
    have hm : IsInt (Scalar.muli (Scalar.select (Scalar.cmpi .sge I N) 1#32 0#32) N) (0 : ℤ) := muli hs hN ⟨by ring, by omega, by omega⟩
    have hd : IsInt (Scalar.subi I (Scalar.muli (Scalar.select (Scalar.cmpi .sge I N) 1#32 0#32) N)) (i : ℤ) := subi hI hm ⟨by ring, by omega, by omega⟩
    have hc := muli (e := 4096 * (i : ℤ)) hd (lit 4096 (by decide)) ⟨by push_cast; ring, by omega, by omega⟩
    refine vec_cons hs (by simp [bOf, h]) (vec_cons' hc ?_)
    simp only [cOf, h, if_false, Fin.ofNat, Nat.cast_mul]
    rw [Nat.mod_eq_of_lt (by omega)]; simp
where
  vec_cons' {x : BitVec 32} {e : ℤ} {y : ℕ} (hx : IsInt x e) (h0 : e = ((4096 * y : ℕ) : ℤ)) :
      (![0, x.toNat] : Fin 2 → ℕ) = ![0, 4096 * y] := by
    have := toNat_of hx (by omega)
    have e' : x.toNat = 4096 * y := by omega
    rw [e']

theorem isInt_iv (k : ℕ) (hk : k < 96) : IsInt (Scf.iv 0#32 1#32 k) (k : ℤ) :=
  iv (e := k) (lit 0 (by decide)) (lit 1 (by decide)) k ⟨by omega, by omega, by omega⟩

/-- A guard `i < total`, as executed. -/
theorem guard_iff {I T : BitVec 32} {i t : ℕ} (hI : IsInt I (i : ℤ)) (hT : IsInt T (t : ℤ)) :
    Scalar.cmpi .ne (Scalar.extui (Scalar.cmpi .slt I T)) 0#32 = 1#1 ↔ i < t := by
  have z : IsInt 0#32 (0 : ℤ) := lit 0 (by decide)
  by_cases h : i < t
  · exact iff_of_true (ne_holds (ea := 1) (extui_holds (slt_holds hI hT (by exact_mod_cast h)) rfl) z (by norm_num)) h
  · exact iff_of_false (ne_fails (ea := 0) (extui_fails (slt_fails hI hT (by exact_mod_cast h)) rfl) z (by norm_num)) h
theorem guard_iff' {I T : BitVec 32} {i t : ℕ} (hI : IsInt I (i : ℤ)) (hT : IsInt T (t : ℤ)) :
    Scalar.cmpi .ne (Scalar.extui (Scalar.cmpi .sgt T I)) 0#32 = 1#1 ↔ i < t := by
  have z : IsInt 0#32 (0 : ℤ) := lit 0 (by decide)
  by_cases h : i < t
  · exact iff_of_true (ne_holds (ea := 1) (extui_holds (sgt_holds hT hI (by exact_mod_cast h)) rfl) z (by norm_num)) h
  · exact iff_of_false (ne_fails (ea := 0) (extui_fails (sgt_fails hT hI (by exact_mod_cast h)) rfl) z (by norm_num)) h

/-! ## Loops: the main loop over the blocks of a sequence, and its remainder of no trips -/

theorem isInt_ub {N : BitVec 32} {n : ℕ} (hN : IsInt N (n : ℤ)) (hn : n ≤ 32) :
    IsInt (Scalar.addi 0#32 (Scalar.muli (Scalar.divsi (Scalar.subi N 0#32) 1#32) 1#32)) (n : ℤ) := by
  have z : IsInt 0#32 (0 : ℤ) := lit 0 (by decide)
  have o : IsInt 1#32 (1 : ℤ) := lit 1 (by decide)
  have h1 : IsInt (Scalar.subi N 0#32) (n : ℤ) := subi hN z ⟨by ring, by omega, by omega⟩
  have h2 : IsInt (Scalar.divsi (Scalar.subi N 0#32) 1#32) (n : ℤ) := divsi_one h1 o ⟨rfl, rfl⟩
  have h3 : IsInt (Scalar.muli (Scalar.divsi (Scalar.subi N 0#32) 1#32) 1#32) (n : ℤ) := muli h2 o ⟨by ring, by omega, by omega⟩
  exact addi z h3 ⟨by ring, by omega, by omega⟩
theorem isInt_ub2 {N : BitVec 32} {n : ℕ} (hN : IsInt N (n : ℤ)) (hn : n ≤ 32) :
    IsInt (Scalar.addi 0#32 (Scalar.subi N 0#32)) (n : ℤ) := by
  have z : IsInt 0#32 (0 : ℤ) := lit 0 (by decide)
  exact addi z (subi (e := (n : ℤ)) hN z ⟨by ring, by omega, by omega⟩) ⟨by ring, by omega, by omega⟩

theorem trips_main {U : BitVec 32} {n : ℕ} (hU : IsInt U (n : ℤ)) : Scf.trips 0#32 U 1#32 = n := by
  unfold Scf.trips; rw [toInt_of_isInt hU]; simp
theorem trips_rem {L U : BitVec 32} {n : ℕ} (hL : IsInt L (n : ℤ)) (hU : IsInt U (n : ℤ)) : Scf.trips L U 1#32 = 0 := by
  unfold Scf.trips; rw [toInt_of_isInt hL, toInt_of_isInt hU]; simp

end Cert.Proof.Words

end
-- ==== Proof.Chk.lean ====
/-
  The kernel's block schedule in closed form: the printed offsets, guards and trip counts of the ring of transfers, for
  sequence lengths in range, and from them the facts the kernel body checks as it runs.
-/
module

public import proofs.«01_k».proof.Proof.Words
public import proofs.«01_k».proof.Proof.Gen.KernelIdeal.Loops

@[expose] public section

namespace Cert.KernelIdeal.Chk

open Cert.KernelIdeal Cert.Proof.Words
open Idealize.ShloMosaic
open Affine

variable {v0 v19 : BitVec 32}

/-- The first loop makes one trip per block of sequence 0. -/
theorem trips1_eq (h : InR v0) : (k0_t1_loop v0).trips = nch v0 := trips_main (isInt_ub (isInt_CH h) (nch_le h))
theorem trips3_eq (h : InR v19) : (k0_t3_loop v19).trips = nch v19 := trips_main (isInt_ub (isInt_CH h) (nch_le h))
/-- The remainder loops make no trip. -/
theorem trips2_eq (h : InR v0) : (k0_t2_loop v0).trips = 0 :=
  trips_rem (isInt_ub (isInt_CH h) (nch_le h)) (isInt_ub2 (isInt_CH h) (nch_le h))
theorem trips4_eq (h : InR v19) : (k0_t4_loop v19).trips = 0 :=
  trips_rem (isInt_ub (isInt_CH h) (nch_le h)) (isInt_ub2 (isInt_CH h) (nch_le h))

theorem ok1 (h : InR v0) : (k0_t1_loop v0).OK := by
  have := nch_le h
  exact ok (lit 0 (by decide)) (isInt_ub (isInt_CH h) (nch_le h)) (lit 1 (by decide)) (by omega)
theorem ok3 (h : InR v19) : (k0_t3_loop v19).OK := by
  have := nch_le h
  exact ok (lit 0 (by decide)) (isInt_ub (isInt_CH h) (nch_le h)) (lit 1 (by decide)) (by omega)
theorem ok2 (h : InR v0) : (k0_t2_loop v0).OK := by
  have := nch_le h
  exact ok (isInt_ub (isInt_CH h) (nch_le h)) (isInt_ub2 (isInt_CH h) (nch_le h)) (lit 1 (by decide)) (by omega)
theorem ok4 (h : InR v19) : (k0_t4_loop v19).OK := by
  have := nch_le h
  exact ok (isInt_ub (isInt_CH h) (nch_le h)) (isInt_ub2 (isInt_CH h) (nch_le h)) (lit 1 (by decide)) (by omega)

/-- The number of steps of the flattened schedule. -/
theorem isInt_total (h0 : InR v0) (h1 : InR v19) :
    IsInt (Scalar.addi (Scalar.addi 0#32 (CH v0)) (CH v19)) ((nch v0 + nch v19 : ℕ) : ℤ) := by
  have := nch_le h0
  have := nch_le h1
  exact addi (addi (e := (nch v0 : ℤ)) (lit 0 (by decide)) (isInt_CH h0) ⟨by ring, by omega, by omega⟩) (isInt_CH h1)
    ⟨by push_cast; rfl, by omega, by omega⟩

/-- The step of trip `k` of the first loop, and the step it fetches ahead. -/
theorem isInt_p1 (k : ℕ) (hk : k < 32) : IsInt (Scalar.addi 0#32 (Scf.iv 0#32 1#32 k)) (k : ℤ) :=
  addi (lit 0 (by decide)) (isInt_iv k (by omega)) ⟨by ring, by omega, by omega⟩
theorem isInt_a1 (k : ℕ) (hk : k < 32) :
    IsInt (Scalar.subi (Scalar.addi (Scalar.addi 0#32 (Scf.iv 0#32 1#32 k)) 4#32) 1#32) ((k + 3 : ℕ) : ℤ) :=
  subi (addi (e := (k : ℤ) + 4) (isInt_p1 k hk) (lit 4 (by decide)) ⟨by norm_num, by omega, by omega⟩) (lit 1 (by decide))
    ⟨by push_cast; ring, by omega, by omega⟩
theorem isInt_p3 (h0 : InR v0) (k : ℕ) (hk : k < 32) :
    IsInt (Scalar.addi (Scalar.addi 0#32 (CH v0)) (Scf.iv 0#32 1#32 k)) ((nch v0 + k : ℕ) : ℤ) := by
  have := nch_le h0
  exact addi (addi (e := (nch v0 : ℤ)) (lit 0 (by decide)) (isInt_CH h0) ⟨by ring, by omega, by omega⟩) (isInt_iv k (by omega))
    ⟨by push_cast; rfl, by omega, by omega⟩
theorem isInt_a3 (h0 : InR v0) (k : ℕ) (hk : k < 32) :
    IsInt (Scalar.subi (Scalar.addi (Scalar.addi (Scalar.addi 0#32 (CH v0)) (Scf.iv 0#32 1#32 k)) 4#32) 1#32) ((nch v0 + k + 3 : ℕ) : ℤ) := by
  have := nch_le h0
  exact subi (addi (e := ((nch v0 + k : ℕ) : ℤ) + 4) (isInt_p3 h0 k hk) (lit 4 (by decide)) ⟨by norm_num, by omega, by omega⟩) (lit 1 (by decide))
    ⟨by push_cast; ring, by omega, by omega⟩

theorem lt1 (h : InR v0) (k : Fin (k0_t1_loop v0).trips) : k.val < nch v0 := (trips1_eq h) ▸ k.isLt
theorem lt3 (h : InR v19) (k : Fin (k0_t3_loop v19).trips) : k.val < nch v19 := (trips3_eq h) ▸ k.isLt
theorem lt1' (h : InR v0) (k : Fin (k0_t1_loop v0).trips) : k.val < 32 := lt_of_lt_of_le (lt1 h k) (nch_le h)
theorem lt3' (h : InR v19) (k : Fin (k0_t3_loop v19).trips) : k.val < 32 := lt_of_lt_of_le (lt3 h k) (nch_le h)

/-! ## Guards -/

theorem cond1_iff (h0 : InR v0) (h1 : InR v19) : k0_cond1 v0 v19 = 1#1 ↔ 0 < nch v0 + nch v19 := guard_iff' (lit 0 (by decide)) (isInt_total h0 h1)
theorem cond2_iff (h0 : InR v0) (h1 : InR v19) : k0_cond2 v0 v19 = 1#1 ↔ 1 < nch v0 + nch v19 := guard_iff' (lit 1 (by decide)) (isInt_total h0 h1)
theorem cond3_iff (h0 : InR v0) (h1 : InR v19) : k0_cond3 v0 v19 = 1#1 ↔ 2 < nch v0 + nch v19 := guard_iff' (lit 2 (by decide)) (isInt_total h0 h1)
theorem cond4_iff (h0 : InR v0) (h1 : InR v19) (k : Fin (k0_t1_loop v0).trips) :
    k0_cond4 v0 v19 k = 1#1 ↔ k.val + 3 < nch v0 + nch v19 := guard_iff (isInt_a1 k.val (lt1' h0 k)) (isInt_total h0 h1)
theorem cond6_iff (h0 : InR v0) (h1 : InR v19) (k : Fin (k0_t3_loop v19).trips) :
    k0_cond6 v0 v19 k = 1#1 ↔ nch v0 + k.val + 3 < nch v0 + nch v19 := guard_iff (isInt_a3 h0 k.val (lt3' h1 k)) (isInt_total h0 h1)

/-! ## Offsets -/

theorem off1_eq : k0_off1 = semOff (Ring.sl 4 0) 0 := by decide
theorem off2_eq : k0_off2 = slotOff (Ring.sl 4 0) := by decide
theorem off3_eq (h0 : InR v0) : k0_off3 v0 = blkOff (bOf (nch v0) 0) (cOf (nch v0) 0) :=
  blk_vec (isInt_CH h0) (lit 0 (by decide)) (nch_le h0) (by omega)
theorem off4_eq : k0_off4 = semOff (Ring.sl 4 0) 1 := by decide
theorem off5_eq : k0_off5 = semOff (Ring.sl 4 1) 0 := by decide
theorem off6_eq : k0_off6 = slotOff (Ring.sl 4 1) := by decide
theorem off7_eq (h0 : InR v0) : k0_off7 v0 = blkOff (bOf (nch v0) 1) (cOf (nch v0) 1) :=
  blk_vec (isInt_CH h0) (lit 1 (by decide)) (nch_le h0) (by omega)
theorem off8_eq : k0_off8 = semOff (Ring.sl 4 1) 1 := by decide
theorem off9_eq : k0_off9 = semOff (Ring.sl 4 2) 0 := by decide
theorem off10_eq : k0_off10 = slotOff (Ring.sl 4 2) := by decide
theorem off11_eq (h0 : InR v0) : k0_off11 v0 = blkOff (bOf (nch v0) 2) (cOf (nch v0) 2) :=
  blk_vec (isInt_CH h0) (lit 2 (by decide)) (nch_le h0) (by omega)
theorem off12_eq : k0_off12 = semOff (Ring.sl 4 2) 1 := by decide

section T1
variable (h0 : InR v0) (k : Fin (k0_t1_loop v0).trips)
include h0
theorem off13_eq : k0_off13 v0 k = semOff (Ring.sl 4 (k.val + 3)) 0 := sem_vec (isInt_a1 k.val (lt1' h0 k)) (by have := lt1' h0 k; omega) 0
theorem off14_eq : k0_off14 v0 k = slotOff (Ring.sl 4 (k.val + 3)) := slot_vec (isInt_a1 k.val (lt1' h0 k)) (by have := lt1' h0 k; omega)
theorem off15_eq : k0_off15 v0 k = blkOff (bOf (nch v0) (k.val + 3)) (cOf (nch v0) (k.val + 3)) :=
  blk_vec (isInt_CH h0) (isInt_a1 k.val (lt1' h0 k)) (nch_le h0) (by have := lt1 h0 k; omega)
theorem off16_eq : k0_off16 v0 k = semOff (Ring.sl 4 (k.val + 3)) 1 := sem_vec (isInt_a1 k.val (lt1' h0 k)) (by have := lt1' h0 k; omega) 1
theorem off17_eq : k0_off17 v0 k = semOff (Ring.sl 4 k.val) 0 := sem_vec (isInt_p1 k.val (lt1' h0 k)) (by have := lt1' h0 k; omega) 0
theorem off18_eq : k0_off18 v0 k = slotOff (Ring.sl 4 k.val) := slot_vec (isInt_p1 k.val (lt1' h0 k)) (by have := lt1' h0 k; omega)
theorem off19_eq : k0_off19 v0 k = blkOff (bOf (nch v0) k.val) (cOf (nch v0) k.val) :=
  blk_vec (isInt_CH h0) (isInt_p1 k.val (lt1' h0 k)) (nch_le h0) (by have := lt1 h0 k; omega)
theorem off20_eq : k0_off20 v0 k = semOff (Ring.sl 4 k.val) 1 := sem_vec (isInt_p1 k.val (lt1' h0 k)) (by have := lt1' h0 k; omega) 1
theorem off21_eq : k0_off21 v0 k = slotOff (Ring.sl 4 k.val) := slot_vec (isInt_p1 k.val (lt1' h0 k)) (by have := lt1' h0 k; omega)
end T1

section T3
variable (h0 : InR v0) (h1 : InR v19) (k : Fin (k0_t3_loop v19).trips)
include h0 h1
theorem lt3a : nch v0 + k.val + 3 < 96 := by have := lt3' h1 k; have := nch_le h0; omega
theorem off31_eq : k0_off31 v0 v19 k = semOff (Ring.sl 4 (nch v0 + k.val + 3)) 0 := sem_vec (isInt_a3 h0 k.val (lt3' h1 k)) (lt3a h0 h1 k) 0
theorem off32_eq : k0_off32 v0 v19 k = slotOff (Ring.sl 4 (nch v0 + k.val + 3)) := slot_vec (isInt_a3 h0 k.val (lt3' h1 k)) (lt3a h0 h1 k)
theorem off33_eq (hg : nch v0 + k.val + 3 < nch v0 + nch v19) :
    k0_off33 v0 v19 k = blkOff (bOf (nch v0) (nch v0 + k.val + 3)) (cOf (nch v0) (nch v0 + k.val + 3)) :=
  blk_vec (isInt_CH h0) (isInt_a3 h0 k.val (lt3' h1 k)) (nch_le h0) (by have := nch_le h1; omega)
theorem off34_eq : k0_off34 v0 v19 k = semOff (Ring.sl 4 (nch v0 + k.val + 3)) 1 := sem_vec (isInt_a3 h0 k.val (lt3' h1 k)) (lt3a h0 h1 k) 1
theorem off35_eq : k0_off35 v0 v19 k = semOff (Ring.sl 4 (nch v0 + k.val)) 0 := sem_vec (isInt_p3 h0 k.val (lt3' h1 k)) (by have := lt3a h0 h1 k; omega) 0
theorem off36_eq : k0_off36 v0 v19 k = slotOff (Ring.sl 4 (nch v0 + k.val)) := slot_vec (isInt_p3 h0 k.val (lt3' h1 k)) (by have := lt3a h0 h1 k; omega)
theorem off37_eq : k0_off37 v0 v19 k = blkOff (bOf (nch v0) (nch v0 + k.val)) (cOf (nch v0) (nch v0 + k.val)) :=
  blk_vec (isInt_CH h0) (isInt_p3 h0 k.val (lt3' h1 k)) (nch_le h0) (by have := lt3' h1 k; omega)
theorem off38_eq : k0_off38 v0 v19 k = semOff (Ring.sl 4 (nch v0 + k.val)) 1 := sem_vec (isInt_p3 h0 k.val (lt3' h1 k)) (by have := lt3a h0 h1 k; omega) 1
theorem off39_eq : k0_off39 v0 v19 k = slotOff (Ring.sl 4 (nch v0 + k.val)) := slot_vec (isInt_p3 h0 k.val (lt3' h1 k)) (by have := lt3a h0 h1 k; omega)
end T3

/-! ## The facts the body checks -/

theorem inb_slot (s : Fin 4) : ∀ a, slotOff s a + S1x256x4096.size a ≤ S4x256x4096.size a := by decide +revert
theorem inb_sem (s : Fin 4) (j : Fin 2) : ∀ a, semOff s j a + S1x1.size a ≤ S4x2.size a := by decide +revert
theorem inb_blk (b : Fin 2) (c : Fin 32) : ∀ a, blkOff b c a + S1x256x4096.size a ≤ S2x256x131072.size a := by decide +revert
theorem words_slot {off : Fin 3 → ℕ} (h : off 1 = 0) (hinb : ∀ a, off a + S1x256x4096.size a ≤ S4x256x4096.size a) :
    (Rect.unit (s := S4x256x4096) off S1x256x4096.size hinb).WholeWords (EltTy.packing .fp8e4m3) := Affine.words_rows (by decide) h rfl
theorem words_blk {off : Fin 3 → ℕ} (h : off 1 = 0) (hinb : ∀ a, off a + S1x256x4096.size a ≤ S2x256x131072.size a) :
    (Rect.unit (s := S2x256x131072) off S1x256x4096.size hinb).WholeWords (EltTy.packing .fp8e4m3) := Affine.words_rows (by decide) h rfl

theorem isSlot {off : Fin 3 → ℕ} {s : Fin 4} (h : off = slotOff s) : ∀ a, off a + S1x256x4096.size a ≤ S4x256x4096.size a := h ▸ inb_slot s
theorem isSem {off : Fin 2 → ℕ} {s : Fin 4} {j : Fin 2} (h : off = semOff s j) : ∀ a, off a + S1x1.size a ≤ S4x2.size a := h ▸ inb_sem s j
theorem isBlk {off : Fin 3 → ℕ} {b : Fin 2} {c : Fin 32} (h : off = blkOff b c) : ∀ a, off a + S1x256x4096.size a ≤ S2x256x131072.size a := h ▸ inb_blk b c

theorem no2 (h : InR v0) (k : Fin (k0_t2_loop v0).trips) : False := absurd (Nat.lt_of_lt_of_eq k.isLt (trips2_eq h)) (Nat.not_lt_zero _)
theorem no4 (h : InR v19) (k : Fin (k0_t4_loop v19).trips) : False := absurd (Nat.lt_of_lt_of_eq k.isLt (trips4_eq h)) (Nat.not_lt_zero _)

/-- What the body checks once it has the first length. -/
theorem chk2 (h : InR v0) : k0_chk2 v0 :=
  ⟨ok1 h, fun k => isSem (off17_eq h k), fun k => isSlot (off18_eq h k), fun k => isBlk (off19_eq h k), fun _ => words_blk rfl, fun _ => words_slot rfl,
   fun k => isSem (off20_eq h k), fun k => isSlot (off21_eq h k), ok2 h,
   fun k => (no2 h k).elim, fun k => (no2 h k).elim, fun k => (no2 h k).elim, fun k => (no2 h k).elim, fun k => (no2 h k).elim, fun k => (no2 h k).elim, fun k => (no2 h k).elim⟩

/-- What it checks once it has both. -/
theorem chk1 (h : InR v0) (h' : InR v19) : k0_chk1 v0 v19 :=
  ⟨⟨fun _ => isBlk (off3_eq h), fun _ => words_blk rfl, fun _ => isBlk (off7_eq h), fun _ => words_blk rfl, fun _ => isBlk (off11_eq h), fun _ => words_blk rfl,
    fun k _ => isSem (off13_eq h k), fun k _ => isSlot (off14_eq h k), fun k _ => isBlk (off15_eq h k), fun _ _ => words_blk rfl, fun _ _ => words_slot rfl,
    fun k _ => isSem (off16_eq h k),
    fun k => (no2 h k).elim, fun k => (no2 h k).elim, fun k => (no2 h k).elim, fun k => (no2 h k).elim, fun k => (no2 h k).elim, fun k => (no2 h k).elim,
    ok3 h',
    fun k _ => isSem (off31_eq h h' k), fun k _ => isSlot (off32_eq h h' k), fun k hk => isBlk (off33_eq h h' k ((cond6_iff h h' k).mp hk)),
    fun _ _ => words_blk rfl, fun _ _ => words_slot rfl, fun k _ => isSem (off34_eq h h' k),
    fun k => isSem (off35_eq h h' k), fun k => isSlot (off36_eq h h' k), fun k => isBlk (off37_eq h h' k),
    fun _ => words_blk rfl, fun _ => words_slot rfl, fun k => isSem (off38_eq h h' k), fun k => isSlot (off39_eq h h' k)⟩,
   ⟨ok4 h', fun k => (no4 h' k).elim, fun k => (no4 h' k).elim, fun k => (no4 h' k).elim, fun k => (no4 h' k).elim, fun k => (no4 h' k).elim, fun k => (no4 h' k).elim,
    fun k => (no4 h' k).elim, fun k => (no4 h' k).elim, fun k => (no4 h' k).elim, fun k => (no4 h' k).elim, fun k => (no4 h' k).elim, fun k => (no4 h' k).elim, fun k => (no4 h' k).elim⟩⟩

end Cert.KernelIdeal.Chk

end
-- ==== Proof.Ring.lean ====
/-
  The kernel's ring of transfers: four slots of two buffers (keys, values), each with a cell per buffer; slot `p % 4`
  carries the block of step `p` of the flattened schedule. A slot is FREE (its buffers, its cells at zero, and its own
  read share of the two cache arrays) or IN FLIGHT with a block. One trip of a main loop starts the transfers of step
  `p + 3` when there is such a step, waits for those of step `p`, and folds the block into the running
  (maximum, sum, accumulator).
-/
module

public import proofs.«01_k».proof.Defs
public import proofs.«01_k».proof.Proof.Chk
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.KernelIdeal.Run

open Cert.KernelIdeal Cert.KernelIdeal.Gen Cert.KernelIdeal.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

abbrev UU (nD : Nat) (τ : Topo) : Type := UD sig nD τ
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names -/

abbrev a7 : Memref sig .tc .hbm S2x256x131072 .fp8e4m3 := Memref.whole main_v3
abbrev a8 : Memref sig .tc .hbm S2x256x131072 .fp8e4m3 := Memref.whole main_v5
abbrev b14 : Memref sig .tc .vmem S4x256x4096 .fp8e4m3 := Memref.whole cc0_scratch0
abbrev b15 : Memref sig .tc .vmem S4x256x4096 .fp8e4m3 := Memref.whole cc0_scratch1
abbrev sm16 : DmaSems sig S4x2 := cc0_scratch2

/-- Block `c` of sequence `b` of the keys, of the values, as the body slices and squeezes them. -/
def g7 (b : Fin 2) (c : Fin 32) : Memref sig .tc .hbm S256x4096 .fp8e4m3 :=
  (a7.slice (Rect.unit (s := S2x256x131072) (blkOff b c) S1x256x4096.size (inb_blk b c)) (fun _ => rfl)).squeeze S256x4096 squeezes_S1x256x4096_S256x4096
def g8 (b : Fin 2) (c : Fin 32) : Memref sig .tc .hbm S256x4096 .fp8e4m3 :=
  (a8.slice (Rect.unit (s := S2x256x131072) (blkOff b c) S1x256x4096.size (inb_blk b c)) (fun _ => rfl)).squeeze S256x4096 squeezes_S1x256x4096_S256x4096
/-- Slot `s` of the key buffer, of the value buffer. -/
def k14 (s : Fin 4) : Memref sig .tc .vmem S256x4096 .fp8e4m3 :=
  (b14.slice (Rect.unit (s := S4x256x4096) (slotOff s) S1x256x4096.size (inb_slot s)) (fun _ => rfl)).squeeze S256x4096 squeezes_S1x256x4096_S256x4096
def v15 (s : Fin 4) : Memref sig .tc .vmem S256x4096 .fp8e4m3 :=
  (b15.slice (Rect.unit (s := S4x256x4096) (slotOff s) S1x256x4096.size (inb_slot s)) (fun _ => rfl)).squeeze S256x4096 squeezes_S1x256x4096_S256x4096
/-- Cell `j` of slot `s`. -/
def csm (s : Fin 4) (j : Fin 2) : DmaSems sig S_ :=
  (sm16.slice (Rect.unit (s := S4x2) (semOff s j) S1x1.size (inb_sem s j))).squeeze S_ squeezes_S1x1_S_

instance (s : Fin 4) : ClosedOff (slotOff s) := ⟨slotOff s, rfl⟩
instance (b : Fin 2) (c : Fin 32) : ClosedOff (blkOff b c) := ⟨blkOff b c, rfl⟩

section Canon

theorem csm_congr {off : Fin 2 → ℕ} {s : Fin 4} {j : Fin 2} (e : off = semOff s j) (hh) :
    (sm16.slice (Rect.unit (s := S4x2) off S1x1.size hh)).squeeze S_ squeezes_S1x1_S_ = csm s j :=
  congrArg (fun A : DmaSems sig S1x1 => A.squeeze S_ squeezes_S1x1_S_) (SemArray.slice_unit_congr _ e _ _)
theorem k14_congr {off : Fin 3 → ℕ} {s : Fin 4} (e : off = slotOff s) (hh hs) :
    (b14.slice (Rect.unit (s := S4x256x4096) off S1x256x4096.size hh) hs).squeeze S256x4096 squeezes_S1x256x4096_S256x4096 = k14 s :=
  congrArg (fun M : Memref sig .tc .vmem S1x256x4096 .fp8e4m3 => M.squeeze S256x4096 squeezes_S1x256x4096_S256x4096) (Memref.slice_unit_congr _ e _ _ _ _)
theorem v15_congr {off : Fin 3 → ℕ} {s : Fin 4} (e : off = slotOff s) (hh hs) :
    (b15.slice (Rect.unit (s := S4x256x4096) off S1x256x4096.size hh) hs).squeeze S256x4096 squeezes_S1x256x4096_S256x4096 = v15 s :=
  congrArg (fun M : Memref sig .tc .vmem S1x256x4096 .fp8e4m3 => M.squeeze S256x4096 squeezes_S1x256x4096_S256x4096) (Memref.slice_unit_congr _ e _ _ _ _)
theorem g7_congr {off : Fin 3 → ℕ} {b : Fin 2} {c : Fin 32} (e : off = blkOff b c) (hh hs) :
    (a7.slice (Rect.unit (s := S2x256x131072) off S1x256x4096.size hh) hs).squeeze S256x4096 squeezes_S1x256x4096_S256x4096 = g7 b c :=
  congrArg (fun M : Memref sig .tc .hbm S1x256x4096 .fp8e4m3 => M.squeeze S256x4096 squeezes_S1x256x4096_S256x4096) (Memref.slice_unit_congr _ e _ _ _ _)
theorem g8_congr {off : Fin 3 → ℕ} {b : Fin 2} {c : Fin 32} (e : off = blkOff b c) (hh hs) :
    (a8.slice (Rect.unit (s := S2x256x131072) off S1x256x4096.size hh) hs).squeeze S256x4096 squeezes_S1x256x4096_S256x4096 = g8 b c :=
  congrArg (fun M : Memref sig .tc .hbm S1x256x4096 .fp8e4m3 => M.squeeze S256x4096 squeezes_S1x256x4096_S256x4096) (Memref.slice_unit_congr _ e _ _ _ _)

/-! The prologue's slices. -/
@[sl_canon] theorem sem_o1 (hh) : (sm16.slice (Rect.unit (s := S4x2) k0_off1 S1x1.size hh)).squeeze S_ squeezes_S1x1_S_ = csm (Ring.sl 4 0) 0 := csm_congr off1_eq _
@[sl_canon] theorem sem_o4 (hh) : (sm16.slice (Rect.unit (s := S4x2) k0_off4 S1x1.size hh)).squeeze S_ squeezes_S1x1_S_ = csm (Ring.sl 4 0) 1 := csm_congr off4_eq _
@[sl_canon] theorem sem_o5 (hh) : (sm16.slice (Rect.unit (s := S4x2) k0_off5 S1x1.size hh)).squeeze S_ squeezes_S1x1_S_ = csm (Ring.sl 4 1) 0 := csm_congr off5_eq _
@[sl_canon] theorem sem_o8 (hh) : (sm16.slice (Rect.unit (s := S4x2) k0_off8 S1x1.size hh)).squeeze S_ squeezes_S1x1_S_ = csm (Ring.sl 4 1) 1 := csm_congr off8_eq _
@[sl_canon] theorem sem_o9 (hh) : (sm16.slice (Rect.unit (s := S4x2) k0_off9 S1x1.size hh)).squeeze S_ squeezes_S1x1_S_ = csm (Ring.sl 4 2) 0 := csm_congr off9_eq _
@[sl_canon] theorem sem_o12 (hh) : (sm16.slice (Rect.unit (s := S4x2) k0_off12 S1x1.size hh)).squeeze S_ squeezes_S1x1_S_ = csm (Ring.sl 4 2) 1 := csm_congr off12_eq _
@[sl_canon] theorem k_o2 (hh hs) : (b14.slice (Rect.unit (s := S4x256x4096) k0_off2 S1x256x4096.size hh) hs).squeeze S256x4096 squeezes_S1x256x4096_S256x4096 = k14 (Ring.sl 4 0) := k14_congr off2_eq _ _
@[sl_canon] theorem v_o2 (hh hs) : (b15.slice (Rect.unit (s := S4x256x4096) k0_off2 S1x256x4096.size hh) hs).squeeze S256x4096 squeezes_S1x256x4096_S256x4096 = v15 (Ring.sl 4 0) := v15_congr off2_eq _ _
@[sl_canon] theorem k_o6 (hh hs) : (b14.slice (Rect.unit (s := S4x256x4096) k0_off6 S1x256x4096.size hh) hs).squeeze S256x4096 squeezes_S1x256x4096_S256x4096 = k14 (Ring.sl 4 1) := k14_congr off6_eq _ _
@[sl_canon] theorem v_o6 (hh hs) : (b15.slice (Rect.unit (s := S4x256x4096) k0_off6 S1x256x4096.size hh) hs).squeeze S256x4096 squeezes_S1x256x4096_S256x4096 = v15 (Ring.sl 4 1) := v15_congr off6_eq _ _
@[sl_canon] theorem k_o10 (hh hs) : (b14.slice (Rect.unit (s := S4x256x4096) k0_off10 S1x256x4096.size hh) hs).squeeze S256x4096 squeezes_S1x256x4096_S256x4096 = k14 (Ring.sl 4 2) := k14_congr off10_eq _ _
@[sl_canon] theorem v_o10 (hh hs) : (b15.slice (Rect.unit (s := S4x256x4096) k0_off10 S1x256x4096.size hh) hs).squeeze S256x4096 squeezes_S1x256x4096_S256x4096 = v15 (Ring.sl 4 2) := v15_congr off10_eq _ _

section B
variable (v0 : BitVec 32) (h0 : InR v0)
@[sl_canon] theorem g7_o3 (h0 : InR v0) (hh hs) : (a7.slice (Rect.unit (s := S2x256x131072) (k0_off3 v0) S1x256x4096.size hh) hs).squeeze S256x4096 squeezes_S1x256x4096_S256x4096 = g7 (bOf (nch v0) 0) (cOf (nch v0) 0) := g7_congr (off3_eq h0) _ _
@[sl_canon] theorem g8_o3 (h0 : InR v0) (hh hs) : (a8.slice (Rect.unit (s := S2x256x131072) (k0_off3 v0) S1x256x4096.size hh) hs).squeeze S256x4096 squeezes_S1x256x4096_S256x4096 = g8 (bOf (nch v0) 0) (cOf (nch v0) 0) := g8_congr (off3_eq h0) _ _
@[sl_canon] theorem g7_o7 (h0 : InR v0) (hh hs) : (a7.slice (Rect.unit (s := S2x256x131072) (k0_off7 v0) S1x256x4096.size hh) hs).squeeze S256x4096 squeezes_S1x256x4096_S256x4096 = g7 (bOf (nch v0) 1) (cOf (nch v0) 1) := g7_congr (off7_eq h0) _ _
@[sl_canon] theorem g8_o7 (h0 : InR v0) (hh hs) : (a8.slice (Rect.unit (s := S2x256x131072) (k0_off7 v0) S1x256x4096.size hh) hs).squeeze S256x4096 squeezes_S1x256x4096_S256x4096 = g8 (bOf (nch v0) 1) (cOf (nch v0) 1) := g8_congr (off7_eq h0) _ _
@[sl_canon] theorem g7_o11 (h0 : InR v0) (hh hs) : (a7.slice (Rect.unit (s := S2x256x131072) (k0_off11 v0) S1x256x4096.size hh) hs).squeeze S256x4096 squeezes_S1x256x4096_S256x4096 = g7 (bOf (nch v0) 2) (cOf (nch v0) 2) := g7_congr (off11_eq h0) _ _
@[sl_canon] theorem g8_o11 (h0 : InR v0) (hh hs) : (a8.slice (Rect.unit (s := S2x256x131072) (k0_off11 v0) S1x256x4096.size hh) hs).squeeze S256x4096 squeezes_S1x256x4096_S256x4096 = g8 (bOf (nch v0) 2) (cOf (nch v0) 2) := g8_congr (off11_eq h0) _ _
end B

section T1
variable (v0 : BitVec 32) (k : Fin (k0_t1_loop v0).trips)
@[sl_canon] theorem sem_o13 (h0 : InR v0) (hh) : (sm16.slice (Rect.unit (s := S4x2) (k0_off13 v0 k) S1x1.size hh)).squeeze S_ squeezes_S1x1_S_ = csm (Ring.sl 4 (k.val + 3)) 0 := csm_congr (off13_eq h0 k) _
@[sl_canon] theorem sem_o16 (h0 : InR v0) (hh) : (sm16.slice (Rect.unit (s := S4x2) (k0_off16 v0 k) S1x1.size hh)).squeeze S_ squeezes_S1x1_S_ = csm (Ring.sl 4 (k.val + 3)) 1 := csm_congr (off16_eq h0 k) _
@[sl_canon] theorem sem_o17 (h0 : InR v0) (hh) : (sm16.slice (Rect.unit (s := S4x2) (k0_off17 v0 k) S1x1.size hh)).squeeze S_ squeezes_S1x1_S_ = csm (Ring.sl 4 k.val) 0 := csm_congr (off17_eq h0 k) _
@[sl_canon] theorem sem_o20 (h0 : InR v0) (hh) : (sm16.slice (Rect.unit (s := S4x2) (k0_off20 v0 k) S1x1.size hh)).squeeze S_ squeezes_S1x1_S_ = csm (Ring.sl 4 k.val) 1 := csm_congr (off20_eq h0 k) _
@[sl_canon] theorem k_o14 (h0 : InR v0) (hh hs) : (b14.slice (Rect.unit (s := S4x256x4096) (k0_off14 v0 k) S1x256x4096.size hh) hs).squeeze S256x4096 squeezes_S1x256x4096_S256x4096 = k14 (Ring.sl 4 (k.val + 3)) := k14_congr (off14_eq h0 k) _ _
@[sl_canon] theorem v_o14 (h0 : InR v0) (hh hs) : (b15.slice (Rect.unit (s := S4x256x4096) (k0_off14 v0 k) S1x256x4096.size hh) hs).squeeze S256x4096 squeezes_S1x256x4096_S256x4096 = v15 (Ring.sl 4 (k.val + 3)) := v15_congr (off14_eq h0 k) _ _
@[sl_canon] theorem k_o18 (h0 : InR v0) (hh hs) : (b14.slice (Rect.unit (s := S4x256x4096) (k0_off18 v0 k) S1x256x4096.size hh) hs).squeeze S256x4096 squeezes_S1x256x4096_S256x4096 = k14 (Ring.sl 4 k.val) := k14_congr (off18_eq h0 k) _ _
@[sl_canon] theorem v_o18 (h0 : InR v0) (hh hs) : (b15.slice (Rect.unit (s := S4x256x4096) (k0_off18 v0 k) S1x256x4096.size hh) hs).squeeze S256x4096 squeezes_S1x256x4096_S256x4096 = v15 (Ring.sl 4 k.val) := v15_congr (off18_eq h0 k) _ _
@[sl_canon] theorem g7_o15 (h0 : InR v0) (hh hs) : (a7.slice (Rect.unit (s := S2x256x131072) (k0_off15 v0 k) S1x256x4096.size hh) hs).squeeze S256x4096 squeezes_S1x256x4096_S256x4096 = g7 (bOf (nch v0) (k.val + 3)) (cOf (nch v0) (k.val + 3)) := g7_congr (off15_eq h0 k) _ _
@[sl_canon] theorem g8_o15 (h0 : InR v0) (hh hs) : (a8.slice (Rect.unit (s := S2x256x131072) (k0_off15 v0 k) S1x256x4096.size hh) hs).squeeze S256x4096 squeezes_S1x256x4096_S256x4096 = g8 (bOf (nch v0) (k.val + 3)) (cOf (nch v0) (k.val + 3)) := g8_congr (off15_eq h0 k) _ _
@[sl_canon] theorem g7_o19 (h0 : InR v0) (hh hs) : (a7.slice (Rect.unit (s := S2x256x131072) (k0_off19 v0 k) S1x256x4096.size hh) hs).squeeze S256x4096 squeezes_S1x256x4096_S256x4096 = g7 (bOf (nch v0) k.val) (cOf (nch v0) k.val) := g7_congr (off19_eq h0 k) _ _
@[sl_canon] theorem g8_o19 (h0 : InR v0) (hh hs) : (a8.slice (Rect.unit (s := S2x256x131072) (k0_off19 v0 k) S1x256x4096.size hh) hs).squeeze S256x4096 squeezes_S1x256x4096_S256x4096 = g8 (bOf (nch v0) k.val) (cOf (nch v0) k.val) := g8_congr (off19_eq h0 k) _ _
instance [Fact (InR v0)] : ClosedOff (k0_off21 v0 k) := ⟨slotOff (Ring.sl 4 k.val), off21_eq Fact.out k⟩
instance [Fact (InR v0)] : ClosedOff (k0_off18 v0 k) := ⟨slotOff (Ring.sl 4 k.val), off18_eq Fact.out k⟩
end T1

section T3
variable (v0 v19 : BitVec 32) (k : Fin (k0_t3_loop v19).trips)
@[sl_canon] theorem sem_o31 (h0 : InR v0) (h1 : InR v19) (hh) : (sm16.slice (Rect.unit (s := S4x2) (k0_off31 v0 v19 k) S1x1.size hh)).squeeze S_ squeezes_S1x1_S_ = csm (Ring.sl 4 (nch v0 + k.val + 3)) 0 := csm_congr (off31_eq h0 h1 k) _
@[sl_canon] theorem sem_o34 (h0 : InR v0) (h1 : InR v19) (hh) : (sm16.slice (Rect.unit (s := S4x2) (k0_off34 v0 v19 k) S1x1.size hh)).squeeze S_ squeezes_S1x1_S_ = csm (Ring.sl 4 (nch v0 + k.val + 3)) 1 := csm_congr (off34_eq h0 h1 k) _
@[sl_canon] theorem sem_o35 (h0 : InR v0) (h1 : InR v19) (hh) : (sm16.slice (Rect.unit (s := S4x2) (k0_off35 v0 v19 k) S1x1.size hh)).squeeze S_ squeezes_S1x1_S_ = csm (Ring.sl 4 (nch v0 + k.val)) 0 := csm_congr (off35_eq h0 h1 k) _
@[sl_canon] theorem sem_o38 (h0 : InR v0) (h1 : InR v19) (hh) : (sm16.slice (Rect.unit (s := S4x2) (k0_off38 v0 v19 k) S1x1.size hh)).squeeze S_ squeezes_S1x1_S_ = csm (Ring.sl 4 (nch v0 + k.val)) 1 := csm_congr (off38_eq h0 h1 k) _
@[sl_canon] theorem k_o32 (h0 : InR v0) (h1 : InR v19) (hh hs) : (b14.slice (Rect.unit (s := S4x256x4096) (k0_off32 v0 v19 k) S1x256x4096.size hh) hs).squeeze S256x4096 squeezes_S1x256x4096_S256x4096 = k14 (Ring.sl 4 (nch v0 + k.val + 3)) := k14_congr (off32_eq h0 h1 k) _ _
@[sl_canon] theorem v_o32 (h0 : InR v0) (h1 : InR v19) (hh hs) : (b15.slice (Rect.unit (s := S4x256x4096) (k0_off32 v0 v19 k) S1x256x4096.size hh) hs).squeeze S256x4096 squeezes_S1x256x4096_S256x4096 = v15 (Ring.sl 4 (nch v0 + k.val + 3)) := v15_congr (off32_eq h0 h1 k) _ _
@[sl_canon] theorem k_o36 (h0 : InR v0) (h1 : InR v19) (hh hs) : (b14.slice (Rect.unit (s := S4x256x4096) (k0_off36 v0 v19 k) S1x256x4096.size hh) hs).squeeze S256x4096 squeezes_S1x256x4096_S256x4096 = k14 (Ring.sl 4 (nch v0 + k.val)) := k14_congr (off36_eq h0 h1 k) _ _
@[sl_canon] theorem v_o36 (h0 : InR v0) (h1 : InR v19) (hh hs) : (b15.slice (Rect.unit (s := S4x256x4096) (k0_off36 v0 v19 k) S1x256x4096.size hh) hs).squeeze S256x4096 squeezes_S1x256x4096_S256x4096 = v15 (Ring.sl 4 (nch v0 + k.val)) := v15_congr (off36_eq h0 h1 k) _ _
@[sl_canon] theorem g7_o33 (h0 : InR v0) (h1 : InR v19) (hg : nch v0 + k.val + 3 < nch v0 + nch v19) (hh hs) : (a7.slice (Rect.unit (s := S2x256x131072) (k0_off33 v0 v19 k) S1x256x4096.size hh) hs).squeeze S256x4096 squeezes_S1x256x4096_S256x4096 = g7 (bOf (nch v0) (nch v0 + k.val + 3)) (cOf (nch v0) (nch v0 + k.val + 3)) := g7_congr (off33_eq h0 h1 k hg) _ _
@[sl_canon] theorem g8_o33 (h0 : InR v0) (h1 : InR v19) (hg : nch v0 + k.val + 3 < nch v0 + nch v19) (hh hs) : (a8.slice (Rect.unit (s := S2x256x131072) (k0_off33 v0 v19 k) S1x256x4096.size hh) hs).squeeze S256x4096 squeezes_S1x256x4096_S256x4096 = g8 (bOf (nch v0) (nch v0 + k.val + 3)) (cOf (nch v0) (nch v0 + k.val + 3)) := g8_congr (off33_eq h0 h1 k hg) _ _
@[sl_canon] theorem g7_o37 (h0 : InR v0) (h1 : InR v19) (hh hs) : (a7.slice (Rect.unit (s := S2x256x131072) (k0_off37 v0 v19 k) S1x256x4096.size hh) hs).squeeze S256x4096 squeezes_S1x256x4096_S256x4096 = g7 (bOf (nch v0) (nch v0 + k.val)) (cOf (nch v0) (nch v0 + k.val)) := g7_congr (off37_eq h0 h1 k) _ _
@[sl_canon] theorem g8_o37 (h0 : InR v0) (h1 : InR v19) (hh hs) : (a8.slice (Rect.unit (s := S2x256x131072) (k0_off37 v0 v19 k) S1x256x4096.size hh) hs).squeeze S256x4096 squeezes_S1x256x4096_S256x4096 = g8 (bOf (nch v0) (nch v0 + k.val)) (cOf (nch v0) (nch v0 + k.val)) := g8_congr (off37_eq h0 h1 k) _ _
instance [Fact (InR v0)] [Fact (InR v19)] : ClosedOff (k0_off39 v0 v19 k) := ⟨slotOff (Ring.sl 4 (nch v0 + k.val)), off39_eq Fact.out Fact.out k⟩
instance [Fact (InR v0)] [Fact (InR v19)] : ClosedOff (k0_off36 v0 v19 k) := ⟨slotOff (Ring.sl 4 (nch v0 + k.val)), off36_eq Fact.out Fact.out k⟩
end T3

end Canon

/-! ## The pieces -/

section Pieces
variable (c : Dev nD) (X7 : Buf (Elt F) (a7.view.loc (c : Thread nD τ))) (X8 : Buf (Elt F) (a8.view.loc (c : Thread nD τ)))

/-- Slot `s`'s read share of the two cache arrays. -/
def shq : Fin 4 → PosShare TreeShare := ![fullShare.left.left, fullShare.left.right, fullShare.right.left, fullShare.right.right]

abbrev cellP (s : Fin 4) (j : Fin 2) : sProp 𝕄 := semVal ((c : Thread nD τ), SemLoc.dma (csm s j).sem) 0
abbrev kP (s : Fin 4) (f : Buf (Elt F) ((k14 s).view.loc (c : Thread nD τ))) : sProp 𝕄 :=
  (k14 s).view.loc (c : Thread nD τ) ↦[(k14 s).view.set]{fullShare} f
abbrev vP (s : Fin 4) (f : Buf (Elt F) ((v15 s).view.loc (c : Thread nD τ))) : sProp 𝕄 :=
  (v15 s).view.loc (c : Thread nD τ) ↦[(v15 s).view.set]{fullShare} f
/-- A block held at slot `s`'s share, and the rest of the array at the same share. -/
abbrev h7 (s : Fin 4) (b : Fin 2) (cc : Fin 32) : sProp 𝕄 := (g7 b cc).view.loc (c : Thread nD τ) ↦[(g7 b cc).view.set]{shq s} X7
abbrev h8 (s : Fin 4) (b : Fin 2) (cc : Fin 32) : sProp 𝕄 := (g8 b cc).view.loc (c : Thread nD τ) ↦[(g8 b cc).view.set]{shq s} X8
def r7 (s : Fin 4) (b : Fin 2) (cc : Fin 32) : sProp 𝕄 := a7.view.loc (c : Thread nD τ) ↦[Finset.univ \ (g7 b cc).view.set]{shq s} X7
def r8 (s : Fin 4) (b : Fin 2) (cc : Fin 32) : sProp 𝕄 := a8.view.loc (c : Thread nD τ) ↦[Finset.univ \ (g8 b cc).view.set]{shq s} X8
def w7 (s : Fin 4) : sProp 𝕄 := a7.view.loc (c : Thread nD τ) ↦{shq s} X7
def w8 (s : Fin 4) : sProp 𝕄 := a8.view.loc (c : Thread nD τ) ↦{shq s} X8

theorem w7_eq (s : Fin 4) (b : Fin 2) (cc : Fin 32) : w7 c X7 s ⊣⊢ iprop(h7 c X7 s b cc ∗ r7 c X7 s b cc) :=
  pointsTo_split_subset (Finset.subset_univ _)
theorem w8_eq (s : Fin 4) (b : Fin 2) (cc : Fin 32) : w8 c X8 s ⊣⊢ iprop(h8 c X8 s b cc ∗ r8 c X8 s b cc) :=
  pointsTo_split_subset (Finset.subset_univ _)

/-- What a block's transfer leaves in a slot. -/
abbrev land7 (s : Fin 4) (b : Fin 2) (cc : Fin 32) (f : Buf (Elt F) ((k14 s).view.loc (c : Thread nD τ))) : Buf (Elt F) ((k14 s).view.loc (c : Thread nD τ)) :=
  (k14 s).view.writes (Elt F) f [⟨Rect.whole S256x4096, ReadAs.same.apply ((g7 b cc).view.read (Elt F) X7)⟩]
abbrev land8 (s : Fin 4) (b : Fin 2) (cc : Fin 32) (f : Buf (Elt F) ((v15 s).view.loc (c : Thread nD τ))) : Buf (Elt F) ((v15 s).view.loc (c : Thread nD τ)) :=
  (v15 s).view.writes (Elt F) f [⟨Rect.whole S256x4096, ReadAs.same.apply ((g8 b cc).view.read (Elt F) X8)⟩]
/-- A block's transfer on its cell. -/
abbrev fl7 (s : Fin 4) (b : Fin 2) (cc : Fin 32) (f : Buf (Elt F) ((k14 s).view.loc (c : Thread nD τ))) : sProp 𝕄 :=
  Transfers.Flight countersEmb (c : Thread nD τ) (SemLoc.dma (csm s 0).sem) () 32768 iprop(kP c s (land7 c X7 s b cc f) ∗ h7 c X7 s b cc)
abbrev fl8 (s : Fin 4) (b : Fin 2) (cc : Fin 32) (f : Buf (Elt F) ((v15 s).view.loc (c : Thread nD τ))) : sProp 𝕄 :=
  Transfers.Flight countersEmb (c : Thread nD τ) (SemLoc.dma (csm s 1).sem) () 32768 iprop(vP c s (land8 c X8 s b cc f) ∗ h8 c X8 s b cc)

/-- Slot `s` FREE. -/
def Free (s : Fin 4) : sProp 𝕄 :=
  iprop((∃ f, kP c s f) ∗ (∃ f, vP c s f) ∗ cellP c s 0 ∗ cellP c s 1 ∗ w7 c X7 s ∗ w8 c X8 s)
/-- Slot `s` IN FLIGHT with block `cc` of sequence `b`. -/
def Infl (s : Fin 4) (b : Fin 2) (cc : Fin 32) : sProp 𝕄 :=
  iprop((∃ f, fl7 c X7 s b cc f) ∗ (∃ f, fl8 c X8 s b cc f) ∗ r7 c X7 s b cc ∗ r8 c X8 s b cc)
/-- What step `j`'s slot is, of a schedule of `T` steps whose first `n` are sequence 0's, once its transfers are issued. -/
def role (n T j : ℕ) : sProp 𝕄 := if j < T then Infl c X7 X8 (Ring.sl 4 j) (bOf n j) (cOf n j) else Free c X7 X8 (Ring.sl 4 j)
theorem role_lt {n T j : ℕ} (h : j < T) : role c X7 X8 n T j = Infl c X7 X8 (Ring.sl 4 j) (bOf n j) (cOf n j) := if_pos h
theorem role_ge {n T j : ℕ} (h : ¬ j < T) : role c X7 X8 n T j = Free c X7 X8 (Ring.sl 4 j) := if_neg h
/-- The ring before step `p`. -/
def ringAt (n T p : ℕ) : sProp 𝕄 :=
  iprop(role c X7 X8 n T p ∗ role c X7 X8 n T (p + 1) ∗ role c X7 X8 n T (p + 2) ∗ Free c X7 X8 (Ring.sl 4 (p + 3)))

theorem sl4_add4 (p : ℕ) : Ring.sl 4 (p + 1 + 3) = Ring.sl 4 p := by rw [show p + 1 + 3 = p + 4 from rfl, Ring.sl_add]

end Pieces

/-! ## One trip of the first loop -/

section Trip1

variable (c : Dev nD) (X7 : Buf (Elt F) (a7.view.loc (c : Thread nD τ))) (X8 : Buf (Elt F) (a8.view.loc (c : Thread nD τ)))
  (arg0 : Memref sig .tc .smem S2 .i32) (harg0 : arg0.IsWhole) (arg1 : Memref sig .tc .smem S4 .i32) (harg1 : arg1.IsWhole) (arg2 : Memref sig .tc .vmem S2x32x64 .bf16) (harg2 : arg2.IsWhole) (arg3 : Memref sig .tc .vmem S2x1x4x64 .bf16) (harg3 : arg3.IsWhole) (arg4 : Memref sig .tc .vmem S2x1x4x64 .bf16) (harg4 : arg4.IsWhole) (arg5 : Memref sig .tc .vmem S4x64 .i32) (harg5 : arg5.IsWhole) (arg6 : Memref sig .tc .vmem S4x1 .i32) (harg6 : arg6.IsWhole) (arg9 : Memref sig .tc .vmem S2x32x64 .bf16) (harg9 : arg9.IsWhole) (arg10 : Memref sig .tc .vmem S2x1x4x64 .fp8e4m3) (harg10 : arg10.IsWhole) (arg11 : Memref sig .tc .vmem S4x64 .f32) (harg11 : arg11.IsWhole) (arg12 : Memref sig .tc .vmem S2x1x4x64 .fp8e4m3) (harg12 : arg12.IsWhole) (arg13 : Memref sig .tc .smem S4 .f32) (harg13 : arg13.IsWhole)
  (g0 : Buf (Elt F) (arg0.view.loc (c : Thread nD τ)))

abbrev lensP : sProp 𝕄 := arg0.view.loc (c : Thread nD τ) ↦[arg0.view.set]{fullShare} g0

/-- The resources a trip of either main loop touches, before step `p`. -/
def resAt (n T p : ℕ) : sProp 𝕄 := iprop(lensP c arg0 g0 ∗ (∃ W, owes (c : Thread nD τ) 0 W) ∗ ringAt c X7 X8 n T p)

abbrev ACC (F : FTy → Type) [FloatOps F] : Type := FVec F S32x1 .f32 × FVec F S32x1 .f32 × FVec F S32x256 .f32

variable (v0 : Elt F .i32) (k0_hw2 : k0_chk2 v0) (v18 : BitVec 32) (v19 : Elt F .i32) (k0_hw1 : k0_chk1 v0 v19) (v39 : BitVec 32) (v126 : IVec S32x256 1) (v143 : FVec F S4x64 .fp8e4m3) (v167 : FVec F S4x64 .fp8e4m3) (v191 : FVec F S32x64 .f32) (v241 : BitVec 32) (v342 : FVec F S32x256 .bf16)

abbrev trip1 (k : Fin (k0_t1_loop v0).trips) (x : ACC F) : Prog (TpuEff nD τ sig (Elt F) Λ₀ .tc) (ACC F) :=
  k0_t1_body (F := F) arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16 v0 k0_hw2 v18 v19 k0_hw1 v39 v126 v143 v167 v191 k x
abbrev trip3 (k : Fin (k0_t3_loop v19).trips) (x : ACC F) : Prog (TpuEff nD τ sig (Elt F) Λ₀ .tc) (ACC F) :=
  k0_t3_body (F := F) arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16 v0 v18 v19 k0_hw1 v39 v241 v342 k x

/-- Block `cc` of sequence `b` of a cache array. -/
def blkK (b : Fin 2) (cc : Fin 32) : Vec F S1x256x4096 .fp8e4m3 :=
  a7.view.readAt (Elt F) (Rect.unit (s := S2x256x131072) (blkOff b cc) S1x256x4096.size (inb_blk b cc)).toLoadRect X7
def blkV (b : Fin 2) (cc : Fin 32) : Vec F S1x256x4096 .fp8e4m3 :=
  a8.view.readAt (Elt F) (Rect.unit (s := S2x256x131072) (blkOff b cc) S1x256x4096.size (inb_blk b cc)).toLoadRect X8
/-- The lengths, as the body reads them. -/
def len0 : BitVec 32 := arg0.view.readAt (Elt F) (Rect.unit (s := S2) ![0] S1.size inb_S2_S1_0).toLoadRect g0 (Shape.Idx.first (by decide))
def len1 : BitVec 32 := arg0.view.readAt (Elt F) (Rect.unit (s := S2) ![1] S1.size inb_S2_S1_1).toLoadRect g0 (Shape.Idx.first (by decide))

/-- Which columns of chunk `i` lie below the length. -/
def maskAt (i : ℕ) (len : BitVec 32) : IVec S32x4096 1 :=
  cmpi .slt (addi (broadcast S32x4096 (Scalar.muli (Scf.iv 0#32 1#32 i) 4096#32)) (iota .tc S32x4096 32 [1] iota_S32x4096_d1_w32)) (broadcast S32x4096 len)
/-- What a trip makes of the running values: chunk `i`, of keys `K` and values `V`, folded in. -/
def stepF (q : FVec F S32x256 .bf16) (len : BitVec 32) (i : ℕ) (K V : Vec F S1x256x4096 .fp8e4m3) (x : ACC F) : ACC F :=
  (k0_pay45 x.1 (k0_pay14 q K) (maskAt i len), k0_pay48 x.1 x.2.1 (k0_pay14 q K) (maskAt i len), k0_pay49 x.1 x.2.2 (k0_pay14 q K) (maskAt i len) V)
/-- The running values after `k` chunks. -/
def runAcc (q : FVec F S32x256 .bf16) (len : BitVec 32) (K V : ℕ → Vec F S1x256x4096 .fp8e4m3) (init : ACC F) : ℕ → ACC F
  | 0 => init
  | k + 1 => stepF q len k (K k) (V k) (runAcc q len K V init k)

/-- What a load of a whole slot reads once a block has landed in it: the block. -/
theorem read_land7 (s : Fin 4) (b : Fin 2) (cc : Fin 32) (f : Buf (Elt F) ((k14 s).view.loc (c : Thread nD τ))) {off : Fin 3 → ℕ} (e : off = slotOff s)
    (hi : ∀ a, off a + S1x256x4096.size a ≤ S4x256x4096.size a) :
    b14.view.readAt (Elt F) (Rect.unit (s := S4x256x4096) off S1x256x4096.size hi).toLoadRect (land7 c X7 s b cc f) = blkK c X7 b cc := by
  subst e
  have e0 := View.read_writes_whole (k14 s).view f (ReadAs.same.apply ((g7 b cc).view.read (Elt F) X7))
  have hsc : S1x256x4096.ShapeCasts S256x4096 := by decide
  have e1 : shapeCast S256x4096 (b14.view.readAt (Elt F) (Rect.unit (s := S4x256x4096) (slotOff s) S1x256x4096.size hi).toLoadRect (land7 c X7 s b cc f)) hsc
      = shapeCast S256x4096 (blkK c X7 b cc) hsc := e0
  funext i
  obtain ⟨j, rfl⟩ := (Shape.reshapeEquiv hsc).surjective i
  exact congrFun e1 j
theorem read_land8 (s : Fin 4) (b : Fin 2) (cc : Fin 32) (f : Buf (Elt F) ((v15 s).view.loc (c : Thread nD τ))) {off : Fin 3 → ℕ} (e : off = slotOff s)
    (hi : ∀ a, off a + S1x256x4096.size a ≤ S4x256x4096.size a) :
    b15.view.readAt (Elt F) (Rect.unit (s := S4x256x4096) off S1x256x4096.size hi).toLoadRect (land8 c X8 s b cc f) = blkV c X8 b cc := by
  subst e
  have e0 := View.read_writes_whole (v15 s).view f (ReadAs.same.apply ((g8 b cc).view.read (Elt F) X8))
  have hsc : S1x256x4096.ShapeCasts S256x4096 := by decide
  have e1 : shapeCast S256x4096 (b15.view.readAt (Elt F) (Rect.unit (s := S4x256x4096) (slotOff s) S1x256x4096.size hi).toLoadRect (land8 c X8 s b cc f)) hsc
      = shapeCast S256x4096 (blkV c X8 b cc) hsc := e0
  funext i
  obtain ⟨j, rfl⟩ := (Shape.reshapeEquiv hsc).surjective i
  exact congrFun e1 j

set_option backward.proofsInPublic true in
/-- One trip: the ring moves on a step and the running values take the step's block in. -/
theorem tripRun1 (h0 : InR v0) (h1 : InR v19) (k : Fin (k0_t1_loop v0).trips) (x : ACC F) :
    resAt c X7 X8 arg0 g0 (nch v0) (nch v0 + nch v19) k.val
      ⊢ wp frame (wpE (defs₀ (F := F)) 𝒱₀ (c : Thread nD τ) none) Set.univ (trip1 arg0 harg0 arg1 harg1 arg2 harg2 arg3 harg3 arg4 harg4 arg5 harg5 arg6 harg6 arg9 harg9 arg10 harg10 arg11 harg11 arg12 harg12 arg13 harg13 v0 k0_hw2 v18 v19 k0_hw1 v39 v126 v143 v167 v191 k x)
        (fun y => iprop(⌜y = stepF (k0_pay40 v126 v191) (len0 c arg0 g0) k.val (blkK c X7 (bOf (nch v0) (k.val)) (cOf (nch v0) (k.val))) (blkV c X8 (bOf (nch v0) (k.val)) (cOf (nch v0) (k.val))) x⌝
          ∗ resAt c X7 X8 arg0 g0 (nch v0) (nch v0 + nch v19) (k.val + 1))) := by
  have hk : k.val < nch v0 + nch v19 := by have := lt1 h0 k; omega
  unfold resAt ringAt
  rw [sl4_add4, role_lt c X7 X8 hk, show k.val + 1 + 1 = k.val + 2 from rfl, show k.val + 1 + 2 = k.val + 3 from rfl]
  haveI : Fact (InR v0) := ⟨h0⟩
  haveI : Fact (InR v19) := ⟨h1⟩
  by_cases hg : k.val + 3 < nch v0 + nch v19
  · have hc : k0_cond4 v0 v19 k = 1#1 := (cond4_iff h0 h1 k).mpr hg
    rw [role_lt c X7 X8 hg]
    unfold Infl Free
    iintro ⟨HL, ⟨%W, HW⟩, ⟨⟨%f0, HF0⟩, ⟨%f1, HF1⟩, HR7, HR8⟩, Hr1, Hr2, ⟨⟨%e0, HK⟩, ⟨%e1, HV⟩, HC0, HC1, H7, H8⟩⟩
    ihave H7' := ((w7_eq c X7 (Ring.sl 4 (k.val + 3)) (bOf (nch v0) (k.val + 3)) (cOf (nch v0) (k.val + 3))).1) $$ H7
    ihave H8' := ((w8_eq c X8 (Ring.sl 4 (k.val + 3)) (bOf (nch v0) (k.val + 3)) (cOf (nch v0) (k.val + 3))).1) $$ H8
    icases H7' with ⟨H7, HQ7⟩
    icases H8' with ⟨H8, HQ8⟩
    dsimp only [trip1]
    sl_unfold [k0_t1_body]
    sl_exec
    sl_step
    isplitl []
    · ipureintro
      sl_unfold_run_names
      rw [read_land7 c X7 (Ring.sl 4 (k.val)) _ _ _ (off21_eq h0 k), read_land8 c X8 (Ring.sl 4 (k.val)) _ _ _ (off21_eq h0 k)]
      rfl
    isplitl [HL]; iexact HL
    isplitl [HW]; iexists _; iexact HW
    isplitl [Hr1]; iexact Hr1
    isplitl [Hr2]; iexact Hr2
    isplitl [HC0 HC1 HQ7 HQ8]
    · isplitl [HC0]; iexists e0; iexact HC0
      isplitl [HC1]; iexists e1; iexact HC1
      isplitl [HQ7]; iexact HQ7
      iexact HQ8
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 (k.val)) (bOf (nch v0) (k.val)) (cOf (nch v0) (k.val))).2)
      isplitl [HF0_src]; iexact HF0_src
      iexact HR7
    iapply ((w8_eq c X8 (Ring.sl 4 (k.val)) (bOf (nch v0) (k.val)) (cOf (nch v0) (k.val))).2)
    isplitl [HF1_src]; iexact HF1_src
    iexact HR8
  · have hc : ¬ k0_cond4 v0 v19 k = 1#1 := fun h => hg ((cond4_iff h0 h1 k).mp h)
    rw [role_ge c X7 X8 hg]
    unfold Infl
    iintro ⟨HL, ⟨%W, HW⟩, ⟨⟨%f0, HF0⟩, ⟨%f1, HF1⟩, HR7, HR8⟩, Hr1, Hr2, Hr3⟩
    dsimp only [trip1]
    sl_unfold [k0_t1_body]
    sl_exec
    sl_step
    isplitl []
    · ipureintro
      sl_unfold_run_names
      rw [read_land7 c X7 (Ring.sl 4 (k.val)) _ _ _ (off21_eq h0 k), read_land8 c X8 (Ring.sl 4 (k.val)) _ _ _ (off21_eq h0 k)]
      rfl
    isplitl [HL]; iexact HL
    isplitl [HW]; iexists _; iexact HW
    isplitl [Hr1]; iexact Hr1
    isplitl [Hr2]; iexact Hr2
    isplitl [Hr3]; iexact Hr3
    unfold Free
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 (k.val)) (bOf (nch v0) (k.val)) (cOf (nch v0) (k.val))).2)
      isplitl [HF0_src]; iexact HF0_src
      iexact HR7
    iapply ((w8_eq c X8 (Ring.sl 4 (k.val)) (bOf (nch v0) (k.val)) (cOf (nch v0) (k.val))).2)
    isplitl [HF1_src]; iexact HF1_src
    iexact HR8

set_option backward.proofsInPublic true in
/-- One trip: the ring moves on a step and the running values take the step's block in. -/
theorem tripRun3 (h0 : InR v0) (h1 : InR v19) (k : Fin (k0_t3_loop v19).trips) (x : ACC F) :
    resAt c X7 X8 arg0 g0 (nch v0) (nch v0 + nch v19) (nch v0 + k.val)
      ⊢ wp frame (wpE (defs₀ (F := F)) 𝒱₀ (c : Thread nD τ) none) Set.univ (trip3 arg0 harg0 arg1 harg1 arg2 harg2 arg3 harg3 arg4 harg4 arg5 harg5 arg6 harg6 arg9 harg9 arg10 harg10 arg11 harg11 arg12 harg12 arg13 harg13 v0 v18 v19 k0_hw1 v39 v241 v342 k x)
        (fun y => iprop(⌜y = stepF v342 (len1 c arg0 g0) k.val (blkK c X7 (bOf (nch v0) ((nch v0 + k.val))) (cOf (nch v0) ((nch v0 + k.val)))) (blkV c X8 (bOf (nch v0) ((nch v0 + k.val))) (cOf (nch v0) ((nch v0 + k.val)))) x⌝
          ∗ resAt c X7 X8 arg0 g0 (nch v0) (nch v0 + nch v19) ((nch v0 + k.val) + 1))) := by
  have hk : (nch v0 + k.val) < nch v0 + nch v19 := by have := lt3 h1 k; omega
  unfold resAt ringAt
  rw [sl4_add4, role_lt c X7 X8 hk, show (nch v0 + k.val) + 1 + 1 = (nch v0 + k.val) + 2 from rfl, show (nch v0 + k.val) + 1 + 2 = (nch v0 + k.val) + 3 from rfl]
  haveI : Fact (InR v0) := ⟨h0⟩
  haveI : Fact (InR v19) := ⟨h1⟩
  by_cases hg : (nch v0 + k.val) + 3 < nch v0 + nch v19
  · have hc : k0_cond6 v0 v19 k = 1#1 := (cond6_iff h0 h1 k).mpr hg
    rw [role_lt c X7 X8 hg]
    unfold Infl Free
    iintro ⟨HL, ⟨%W, HW⟩, ⟨⟨%f0, HF0⟩, ⟨%f1, HF1⟩, HR7, HR8⟩, Hr1, Hr2, ⟨⟨%e0, HK⟩, ⟨%e1, HV⟩, HC0, HC1, H7, H8⟩⟩
    ihave H7' := ((w7_eq c X7 (Ring.sl 4 ((nch v0 + k.val) + 3)) (bOf (nch v0) ((nch v0 + k.val) + 3)) (cOf (nch v0) ((nch v0 + k.val) + 3))).1) $$ H7
    ihave H8' := ((w8_eq c X8 (Ring.sl 4 ((nch v0 + k.val) + 3)) (bOf (nch v0) ((nch v0 + k.val) + 3)) (cOf (nch v0) ((nch v0 + k.val) + 3))).1) $$ H8
    icases H7' with ⟨H7, HQ7⟩
    icases H8' with ⟨H8, HQ8⟩
    dsimp only [trip3]
    sl_unfold [k0_t3_body]
    sl_exec
    sl_step
    isplitl []
    · ipureintro
      sl_unfold_run_names
      rw [read_land7 c X7 (Ring.sl 4 ((nch v0 + k.val))) _ _ _ (off39_eq h0 h1 k), read_land8 c X8 (Ring.sl 4 ((nch v0 + k.val))) _ _ _ (off39_eq h0 h1 k)]
      rfl
    isplitl [HL]; iexact HL
    isplitl [HW]; iexists _; iexact HW
    isplitl [Hr1]; iexact Hr1
    isplitl [Hr2]; iexact Hr2
    isplitl [HC0 HC1 HQ7 HQ8]
    · isplitl [HC0]; iexists e0; iexact HC0
      isplitl [HC1]; iexists e1; iexact HC1
      isplitl [HQ7]; iexact HQ7
      iexact HQ8
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 ((nch v0 + k.val))) (bOf (nch v0) ((nch v0 + k.val))) (cOf (nch v0) ((nch v0 + k.val)))).2)
      isplitl [HF0_src]; iexact HF0_src
      iexact HR7
    iapply ((w8_eq c X8 (Ring.sl 4 ((nch v0 + k.val))) (bOf (nch v0) ((nch v0 + k.val))) (cOf (nch v0) ((nch v0 + k.val)))).2)
    isplitl [HF1_src]; iexact HF1_src
    iexact HR8
  · have hc : ¬ k0_cond6 v0 v19 k = 1#1 := fun h => hg ((cond6_iff h0 h1 k).mp h)
    rw [role_ge c X7 X8 hg]
    unfold Infl
    iintro ⟨HL, ⟨%W, HW⟩, ⟨⟨%f0, HF0⟩, ⟨%f1, HF1⟩, HR7, HR8⟩, Hr1, Hr2, Hr3⟩
    dsimp only [trip3]
    sl_unfold [k0_t3_body]
    sl_exec
    sl_step
    isplitl []
    · ipureintro
      sl_unfold_run_names
      rw [read_land7 c X7 (Ring.sl 4 ((nch v0 + k.val))) _ _ _ (off39_eq h0 h1 k), read_land8 c X8 (Ring.sl 4 ((nch v0 + k.val))) _ _ _ (off39_eq h0 h1 k)]
      rfl
    isplitl [HL]; iexact HL
    isplitl [HW]; iexists _; iexact HW
    isplitl [Hr1]; iexact Hr1
    isplitl [Hr2]; iexact Hr2
    isplitl [Hr3]; iexact Hr3
    unfold Free
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 ((nch v0 + k.val))) (bOf (nch v0) ((nch v0 + k.val))) (cOf (nch v0) ((nch v0 + k.val)))).2)
      isplitl [HF0_src]; iexact HF0_src
      iexact HR7
    iapply ((w8_eq c X8 (Ring.sl 4 ((nch v0 + k.val))) (bOf (nch v0) ((nch v0 + k.val))) (cOf (nch v0) ((nch v0 + k.val)))).2)
    isplitl [HF1_src]; iexact HF1_src
    iexact HR8

end Trip1

end Cert.KernelIdeal.Run

end
-- ==== Proof.Body.lean ====
/-
  The kernel's body: the prologue's three guarded starts, the cache write, the two main loops (their remainder loops
  make no trip), the two output rows; every transfer started is waited for.
-/
module

public import proofs.«01_k».proof.Defs
public import proofs.«01_k».proof.Proof.Chk
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import Idealize.ShloMosaic.Lib.Tactic
public import Idealize.ShloMosaic.Lib.LoopRemainder
public import proofs.«01_k».proof.Proof.Ring

@[expose] public section

noncomputable section

namespace Cert.KernelIdeal.Run

open Cert.KernelIdeal Cert.KernelIdeal.Gen Cert.KernelIdeal.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]
local notation "𝕄" => MT nD τ sig Unit (Elt F) ℕ (UU nD τ) ℕ

section Roles
variable (c : Dev nD) (X7 : Buf (Elt F) (a7.view.loc (c : Thread nD τ))) (X8 : Buf (Elt F) (a8.view.loc (c : Thread nD τ)))

/-- The four slots at four consecutive steps are the four slots. -/
theorem four_of_roles (Φ : Fin 4 → sProp 𝕄) (p : ℕ) :
    iprop(Φ (Ring.sl 4 p) ∗ Φ (Ring.sl 4 (p + 1)) ∗ Φ (Ring.sl 4 (p + 2)) ∗ Φ (Ring.sl 4 (p + 3))) ⊢ iprop(Φ 0 ∗ Φ 1 ∗ Φ 2 ∗ Φ 3) := by
  have h : p % 4 = 0 ∨ p % 4 = 1 ∨ p % 4 = 2 ∨ p % 4 = 3 := by omega
  have e : ∀ (j : ℕ) (s : Fin 4), (p + j) % 4 = s.val → Ring.sl 4 (p + j) = s := fun j s hj => Fin.ext (by rw [← hj]; rfl)
  rcases h with h | h | h | h
  · rw [show Ring.sl 4 p = 0 from e 0 0 (by simpa using h), e 1 1 (by simp; omega), e 2 2 (by simp; omega), e 3 3 (by simp; omega)]
  · rw [show Ring.sl 4 p = 1 from e 0 1 (by simpa using h), e 1 2 (by simp; omega), e 2 3 (by simp; omega), e 3 0 (by simp; omega)]
    iintro ⟨H1, H2, H3, H0⟩; isplitl [H0]; iexact H0; isplitl [H1]; iexact H1; isplitl [H2]; iexact H2; iexact H3
  · rw [show Ring.sl 4 p = 2 from e 0 2 (by simpa using h), e 1 3 (by simp; omega), e 2 0 (by simp; omega), e 3 1 (by simp; omega)]
    iintro ⟨H2, H3, H0, H1⟩; isplitl [H0]; iexact H0; isplitl [H1]; iexact H1; isplitl [H2]; iexact H2; iexact H3
  · rw [show Ring.sl 4 p = 3 from e 0 3 (by simpa using h), e 1 0 (by simp; omega), e 2 1 (by simp; omega), e 3 2 (by simp; omega)]
    iintro ⟨H3, H0, H1, H2⟩; isplitl [H0]; iexact H0; isplitl [H1]; iexact H1; isplitl [H2]; iexact H2; iexact H3

/-- Past the schedule's end every slot is free. -/
theorem ring_end {n T p : ℕ} (h : T ≤ p) :
    ringAt c X7 X8 n T p ⊢ iprop(Free c X7 X8 0 ∗ Free c X7 X8 1 ∗ Free c X7 X8 2 ∗ Free c X7 X8 3) := by
  unfold ringAt
  rw [role_ge c X7 X8 (show ¬ p < T by omega), role_ge c X7 X8 (show ¬ p + 1 < T by omega), role_ge c X7 X8 (show ¬ p + 2 < T by omega)]
  exact four_of_roles (Free c X7 X8) p

end Roles

section Body

variable (c : Dev nD) (X7 : Buf (Elt F) (a7.view.loc (c : Thread nD τ))) (X8 : Buf (Elt F) (a8.view.loc (c : Thread nD τ)))
  (arg0 : Memref sig .tc .smem S2 .i32) (harg0 : arg0.IsWhole) (arg1 : Memref sig .tc .smem S4 .i32) (harg1 : arg1.IsWhole) (arg2 : Memref sig .tc .vmem S2x32x64 .bf16) (harg2 : arg2.IsWhole) (arg3 : Memref sig .tc .vmem S2x1x4x64 .bf16) (harg3 : arg3.IsWhole) (arg4 : Memref sig .tc .vmem S2x1x4x64 .bf16) (harg4 : arg4.IsWhole) (arg5 : Memref sig .tc .vmem S4x64 .i32) (harg5 : arg5.IsWhole) (arg6 : Memref sig .tc .vmem S4x1 .i32) (harg6 : arg6.IsWhole) (arg9 : Memref sig .tc .vmem S2x32x64 .bf16) (harg9 : arg9.IsWhole) (arg10 : Memref sig .tc .vmem S2x1x4x64 .fp8e4m3) (harg10 : arg10.IsWhole) (arg11 : Memref sig .tc .vmem S4x64 .f32) (harg11 : arg11.IsWhole) (arg12 : Memref sig .tc .vmem S2x1x4x64 .fp8e4m3) (harg12 : arg12.IsWhole) (arg13 : Memref sig .tc .smem S4 .f32) (harg13 : arg13.IsWhole)
  (g0 : Buf (Elt F) (arg0.view.loc (c : Thread nD τ)))
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))
  (g13 : Buf (Elt F) (arg13.view.loc (c : Thread nD τ)))

abbrev bodyG : Prog (TpuEff nD τ sig (Elt F) Λ₀ .tc) PUnit :=
  cc0_fp8_decode_attention arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16

abbrev heldP {sp : Space} {s : Shape} {e : EltTy} (m : Memref sig .tc sp s e) (g : Buf (Elt F) (m.view.loc (c : Thread nD τ))) : sProp 𝕄 :=
  m.view.loc (c : Thread nD τ) ↦[m.view.set]{fullShare} g

/-- What the body reads and leaves. -/
abbrev INS : sProp 𝕄 := iprop(heldP c arg0 g0 ∗ heldP c arg1 g1 ∗ heldP c arg2 g2 ∗ heldP c arg3 g3 ∗ heldP c arg4 g4 ∗ heldP c arg5 g5 ∗ heldP c arg6 g6)
abbrev OUTS : sProp 𝕄 := iprop(heldP c arg9 g9 ∗ heldP c arg10 g10 ∗ heldP c arg11 g11 ∗ heldP c arg12 g12 ∗ heldP c arg13 g13)
abbrev FREES : sProp 𝕄 := iprop(Free c X7 X8 0 ∗ Free c X7 X8 1 ∗ Free c X7 X8 2 ∗ Free c X7 X8 3)

/-! The body's loads, by name. -/
abbrev ld20 : Vec F S1x32x64 .bf16 := arg2.view.readAt (Elt F) (Rect.unit (s := S2x32x64) ![0, 0, 0] S1x32x64.size inb_S2x32x64_S1x32x64_0_0_0).toLoadRect g2
abbrev ld21 : Vec F S1x32x64 .bf16 := arg2.view.readAt (Elt F) (Rect.unit (s := S2x32x64) ![1, 0, 0] S1x32x64.size inb_S2x32x64_S1x32x64_1_0_0).toLoadRect g2
abbrev ld30 : Vec F S1x1x4x64 .bf16 := arg3.view.readAt (Elt F) (Rect.unit (s := S2x1x4x64) ![0, 0, 0, 0] S1x1x4x64.size inb_S2x1x4x64_S1x1x4x64_0_0_0_0).toLoadRect g3
abbrev ld31 : Vec F S1x1x4x64 .bf16 := arg3.view.readAt (Elt F) (Rect.unit (s := S2x1x4x64) ![1, 0, 0, 0] S1x1x4x64.size inb_S2x1x4x64_S1x1x4x64_1_0_0_0).toLoadRect g3
abbrev ld40 : Vec F S1x1x4x64 .bf16 := arg4.view.readAt (Elt F) (Rect.unit (s := S2x1x4x64) ![0, 0, 0, 0] S1x1x4x64.size inb_S2x1x4x64_S1x1x4x64_0_0_0_0).toLoadRect g4
abbrev ld41 : Vec F S1x1x4x64 .bf16 := arg4.view.readAt (Elt F) (Rect.unit (s := S2x1x4x64) ![1, 0, 0, 0] S1x1x4x64.size inb_S2x1x4x64_S1x1x4x64_1_0_0_0).toLoadRect g4
abbrev ld5 : Vec F S4x64 .i32 := arg5.view.readAt (Elt F) (Rect.unit (s := S4x64) ![0, 0] S4x64.size inb_S4x64_S4x64_0_0).toLoadRect g5
abbrev ld6 : Vec F S4x1 .i32 := arg6.view.readAt (Elt F) (Rect.unit (s := S4x1) ![0, 0] S4x1.size inb_S4x1_S4x1_0_0).toLoadRect g6
abbrev wd0 : Elt F .i32 := arg1.view.readAt (Elt F) (Rect.unit (s := S4) ![0] S1.size inb_S4_S1_0).toLoadRect g1 (Shape.Idx.first (by decide))
abbrev wd1 : Elt F .i32 := arg1.view.readAt (Elt F) (Rect.unit (s := S4) ![1] S1.size inb_S4_S1_1).toLoadRect g1 (Shape.Idx.first (by decide))
abbrev wd2 : Elt F .i32 := arg1.view.readAt (Elt F) (Rect.unit (s := S4) ![2] S1.size inb_S4_S1_2).toLoadRect g1 (Shape.Idx.first (by decide))
abbrev wd3 : Elt F .i32 := arg1.view.readAt (Elt F) (Rect.unit (s := S4) ![3] S1.size inb_S4_S1_3).toLoadRect g1 (Shape.Idx.first (by decide))

/-- Which (row, column) pairs of the block-diagonal layout carry a head's own query. -/
def hmask : IVec S32x256 1 :=
  k0_pay30 k0_pay27 (iota .tc S32x256 32 [1] iota_S32x256_d1_w32) 64#32 k0_pay28 k0_pay29 (Scalar.extui (Scalar.cmpi .sgt 64#32 0#32)) (Scalar.cmpi .slt 64#32 0#32)
/-- Keys and values of step `p` of a schedule whose first `n` steps are sequence 0's. -/
def stepK (n p : ℕ) : Vec F S1x256x4096 .fp8e4m3 := blkK c X7 (bOf n p) (cOf n p)
def stepV (n p : ℕ) : Vec F S1x256x4096 .fp8e4m3 := blkV c X8 (bOf n p) (cOf n p)

/-- The laid-out query of each sequence, its running values at the loop's start and its end, its output row. -/
def qd0 : FVec F S32x256 .bf16 := k0_pay40 hmask (k0_pay38 (k0_pay32 (ld5 c arg5 g5)) (ld20 c arg2 g2))
def qd1 : FVec F S32x256 .bf16 := k0_pay65 hmask (k0_pay59 (ld5 c arg5 g5)) (k0_pay63 (ld21 c arg2 g2))
def init0 : ACC F :=
  (k0_pay41 (k0_pay31 (ld30 c arg3 g3) (ld5 c arg5 g5)) (k0_pay38 (k0_pay32 (ld5 c arg5 g5)) (ld20 c arg2 g2)), k0_pay42,
    k0_pay43 (k0_pay35 (k0_pay33 (ld40 c arg4 g4)) (k0_pay34 (ld6 c arg6 g6))))
def init1 : ACC F :=
  (k0_pay66 (k0_pay58 (k0_pay57 (ld31 c arg3 g3) (ld5 c arg5 g5))) (k0_pay59 (ld5 c arg5 g5)) (k0_pay63 (ld21 c arg2 g2)), k0_pay67,
    k0_pay68 (k0_pay60 (ld41 c arg4 g4) (ld6 c arg6 g6)))
def st0 (k : ℕ) : ACC F :=
  runAcc (qd0 c arg2 arg5 g2 g5) (len0 c arg0 g0) (fun i => stepK c X7 (nch (len0 c arg0 g0)) i) (fun i => stepV c X8 (nch (len0 c arg0 g0)) i)
    (init0 c arg2 arg3 arg4 arg5 arg6 g2 g3 g4 g5 g6) k
def st1 (k : ℕ) : ACC F :=
  runAcc (qd1 c arg2 arg5 g2 g5) (len1 c arg0 g0) (fun i => stepK c X7 (nch (len0 c arg0 g0)) (nch (len0 c arg0 g0) + i)) (fun i => stepV c X8 (nch (len0 c arg0 g0)) (nch (len0 c arg0 g0) + i))
    (init1 c arg2 arg3 arg4 arg5 arg6 g2 g3 g4 g5 g6) k
def out0 : FVec F S1x32x64 .bf16 :=
  k0_pay56 (k0_pay26 (ld6 c arg6 g6)) hmask (st0 c X7 X8 arg0 arg2 arg3 arg4 arg5 arg6 g0 g2 g3 g4 g5 g6 (nch (len0 c arg0 g0))).2.1
    (st0 c X7 X8 arg0 arg2 arg3 arg4 arg5 arg6 g0 g2 g3 g4 g5 g6 (nch (len0 c arg0 g0))).2.2 (Scalar.ofBits .f32 0x00000000#32)
def out1 : FVec F S1x32x64 .bf16 :=
  k0_pay13 (k0_pay26 (ld6 c arg6 g6)) hmask (st1 c X7 X8 arg0 arg2 arg3 arg4 arg5 arg6 g0 g2 g3 g4 g5 g6 (nch (len1 c arg0 g0))).2.1
    (st1 c X7 X8 arg0 arg2 arg3 arg4 arg5 arg6 g0 g2 g3 g4 g5 g6 (nch (len1 c arg0 g0))).2.2

/-- What the body leaves in each output's staging buffer. -/
def o9 : Buf (Elt F) (arg9.view.loc (c : Thread nD τ)) :=
  arg9.view.writes (Elt F) g9 [⟨Rect.unit (s := S2x32x64) ![1, 0, 0] S1x32x64.size inb_S2x32x64_S1x32x64_1_0_0, out1 c X7 X8 arg0 arg2 arg3 arg4 arg5 arg6 g0 g2 g3 g4 g5 g6⟩,
    ⟨Rect.unit (s := S2x32x64) ![0, 0, 0] S1x32x64.size inb_S2x32x64_S1x32x64_0_0_0, out0 c X7 X8 arg0 arg2 arg3 arg4 arg5 arg6 g0 g2 g3 g4 g5 g6⟩]
def o10 : Buf (Elt F) (arg10.view.loc (c : Thread nD τ)) :=
  arg10.view.writes (Elt F) arg10.view.junk [⟨Rect.unit (s := S2x1x4x64) ![1, 0, 0, 0] S1x1x4x64.size inb_S2x1x4x64_S1x1x4x64_1_0_0_0, k0_pay61 (k0_pay57 (ld31 c arg3 g3) (ld5 c arg5 g5))⟩,
    ⟨Rect.unit (s := S2x1x4x64) ![0, 0, 0, 0] S1x1x4x64.size inb_S2x1x4x64_S1x1x4x64_0_0_0_0, k0_pay36 (k0_pay31 (ld30 c arg3 g3) (ld5 c arg5 g5))⟩]
def o11 : Buf (Elt F) (arg11.view.loc (c : Thread nD τ)) :=
  arg11.view.writes (Elt F) arg11.view.junk [⟨Rect.unit (s := S4x64) ![0, 0] S4x64.size inb_S4x64_S4x64_0_0, k0_pay32 (ld5 c arg5 g5)⟩]
def o12 : Buf (Elt F) (arg12.view.loc (c : Thread nD τ)) :=
  arg12.view.writes (Elt F) arg12.view.junk [⟨Rect.unit (s := S2x1x4x64) ![1, 0, 0, 0] S1x1x4x64.size inb_S2x1x4x64_S1x1x4x64_1_0_0_0, k0_pay62 (ld41 c arg4 g4) (ld6 c arg6 g6)⟩,
    ⟨Rect.unit (s := S2x1x4x64) ![0, 0, 0, 0] S1x1x4x64.size inb_S2x1x4x64_S1x1x4x64_0_0_0_0, k0_pay37 (k0_pay33 (ld40 c arg4 g4)) (k0_pay34 (ld6 c arg6 g6))⟩]
def o13 : Buf (Elt F) (arg13.view.loc (c : Thread nD τ)) :=
  arg13.view.writes (Elt F) arg13.view.junk [⟨Rect.unit (s := S4) ![3] S1.size inb_S4_S1_3, fun _ => k0_pay25 (wd3 c arg1 g1)⟩, ⟨Rect.unit (s := S4) ![2] S1.size inb_S4_S1_2, fun _ => k0_pay24 (wd2 c arg1 g1)⟩,
    ⟨Rect.unit (s := S4) ![1] S1.size inb_S4_S1_1, fun _ => k0_pay23 (wd1 c arg1 g1)⟩, ⟨Rect.unit (s := S4) ![0] S1.size inb_S4_S1_0, fun _ => k0_pay22 (wd0 c arg1 g1)⟩]

/-- The same, as the contents the stores leave, whatever the buffer held. -/
def c9 : S2x32x64.Idx → Elt F .bf16 := View.canon [⟨Rect.unit (s := S2x32x64) ![1, 0, 0] S1x32x64.size inb_S2x32x64_S1x32x64_1_0_0, out1 c X7 X8 arg0 arg2 arg3 arg4 arg5 arg6 g0 g2 g3 g4 g5 g6⟩,
    ⟨Rect.unit (s := S2x32x64) ![0, 0, 0] S1x32x64.size inb_S2x32x64_S1x32x64_0_0_0, out0 c X7 X8 arg0 arg2 arg3 arg4 arg5 arg6 g0 g2 g3 g4 g5 g6⟩]
def c10 : S2x1x4x64.Idx → Elt F .fp8e4m3 := View.canon [⟨Rect.unit (s := S2x1x4x64) ![1, 0, 0, 0] S1x1x4x64.size inb_S2x1x4x64_S1x1x4x64_1_0_0_0, k0_pay61 (k0_pay57 (ld31 c arg3 g3) (ld5 c arg5 g5))⟩,
    ⟨Rect.unit (s := S2x1x4x64) ![0, 0, 0, 0] S1x1x4x64.size inb_S2x1x4x64_S1x1x4x64_0_0_0_0, k0_pay36 (k0_pay31 (ld30 c arg3 g3) (ld5 c arg5 g5))⟩]
def c11 : S4x64.Idx → Elt F .f32 := View.canon [⟨Rect.unit (s := S4x64) ![0, 0] S4x64.size inb_S4x64_S4x64_0_0, k0_pay32 (ld5 c arg5 g5)⟩]
def c12 : S2x1x4x64.Idx → Elt F .fp8e4m3 := View.canon [⟨Rect.unit (s := S2x1x4x64) ![1, 0, 0, 0] S1x1x4x64.size inb_S2x1x4x64_S1x1x4x64_1_0_0_0, k0_pay62 (ld41 c arg4 g4) (ld6 c arg6 g6)⟩,
    ⟨Rect.unit (s := S2x1x4x64) ![0, 0, 0, 0] S1x1x4x64.size inb_S2x1x4x64_S1x1x4x64_0_0_0_0, k0_pay37 (k0_pay33 (ld40 c arg4 g4)) (k0_pay34 (ld6 c arg6 g6))⟩]
def c13 : S4.Idx → Elt F .f32 := View.canon [⟨Rect.unit (s := S4) ![3] S1.size inb_S4_S1_3, fun _ => k0_pay25 (wd3 c arg1 g1)⟩, ⟨Rect.unit (s := S4) ![2] S1.size inb_S4_S1_2, fun _ => k0_pay24 (wd2 c arg1 g1)⟩,
    ⟨Rect.unit (s := S4) ![1] S1.size inb_S4_S1_1, fun _ => k0_pay23 (wd1 c arg1 g1)⟩, ⟨Rect.unit (s := S4) ![0] S1.size inb_S4_S1_0, fun _ => k0_pay22 (wd0 c arg1 g1)⟩]
theorem read_o9 : arg9.view.read (Elt F) (o9 c X7 X8 arg0 arg2 arg3 arg4 arg5 arg6 arg9 g0 g2 g3 g4 g5 g6 g9) = c9 c X7 X8 arg0 arg2 arg3 arg4 arg5 arg6 g0 g2 g3 g4 g5 g6 := by
  refine View.read_writes_eq_canon _ _ _ fun y => ?_
  have h1 : (y 1).val < 32 := (y 1).isLt
  have h2 : (y 2).val < 64 := (y 2).isLt
  have h0 : (y 0).val < 2 := (y 0).isLt
  rcases Nat.lt_or_ge (y 0).val 1 with hy | hy
  · refine ⟨_, List.mem_cons_of_mem _ List.mem_cons_self, ?_⟩
    rw [Rect.mem_set_unit]; intro i; fin_cases i
    · show 0 ≤ (y 0).val ∧ (y 0).val < 0 + 1; omega
    · show 0 ≤ (y 1).val ∧ (y 1).val < 0 + 32; omega
    · show 0 ≤ (y 2).val ∧ (y 2).val < 0 + 64; omega
  · refine ⟨_, List.mem_cons_self, ?_⟩
    rw [Rect.mem_set_unit]; intro i; fin_cases i
    · show 1 ≤ (y 0).val ∧ (y 0).val < 1 + 1; omega
    · show 0 ≤ (y 1).val ∧ (y 1).val < 0 + 32; omega
    · show 0 ≤ (y 2).val ∧ (y 2).val < 0 + 64; omega
theorem read_o10 : arg10.view.read (Elt F) (o10 c arg3 arg5 arg10 g3 g5) = c10 c arg3 arg5 g3 g5 := View.read_writes_junk_eq_canon _ _
theorem read_o11 : arg11.view.read (Elt F) (o11 c arg5 arg11 g5) = c11 c arg5 g5 := View.read_writes_junk_eq_canon _ _
theorem read_o12 : arg12.view.read (Elt F) (o12 c arg4 arg6 arg12 g4 g6) = c12 c arg4 arg6 g4 g6 := View.read_writes_junk_eq_canon _ _
theorem read_o13 : arg13.view.read (Elt F) (o13 c arg1 arg13 g1) = c13 c arg1 g1 := View.read_writes_junk_eq_canon _ _

abbrev FREES0 : sProp 𝕄 := iprop(Free c X7 X8 (Ring.sl 4 0) ∗ Free c X7 X8 (Ring.sl 4 1) ∗ Free c X7 X8 (Ring.sl 4 2) ∗ Free c X7 X8 (Ring.sl 4 3))

set_option maxHeartbeats 1000000 in
theorem bodyRun (hL0 : InR (len0 c arg0 g0)) (hL1 : InR (len1 c arg0 g0)) (W) (Q : PUnit → sProp 𝕄) :
    iprop((INS c arg0 arg1 arg2 arg3 arg4 arg5 arg6 g0 g1 g2 g3 g4 g5 g6 ∗ OUTS c arg9 arg10 arg11 arg12 arg13 g9 g10 g11 g12 g13 ∗ FREES0 c X7 X8 ∗ owes (c : Thread nD τ) 0 W)
        ∗ (iprop(INS c arg0 arg1 arg2 arg3 arg4 arg5 arg6 g0 g1 g2 g3 g4 g5 g6 ∗ OUTS c arg9 arg10 arg11 arg12 arg13 (o9 c X7 X8 arg0 arg2 arg3 arg4 arg5 arg6 arg9 g0 g2 g3 g4 g5 g6 g9) (o10 c arg3 arg5 arg10 g3 g5) (o11 c arg5 arg11 g5) (o12 c arg4 arg6 arg12 g4 g6) (o13 c arg1 arg13 g1) ∗ FREES c X7 X8 ∗ ∃ W, owes (c : Thread nD τ) 0 W) -∗ Q ⟨⟩))
      ⊢ wp frame (wpE (defs₀ (F := F)) 𝒱₀ (c : Thread nD τ) none) Set.univ (bodyG arg0 harg0 arg1 harg1 arg2 harg2 arg3 harg3 arg4 harg4 arg5 harg5 arg6 harg6 arg9 harg9 arg10 harg10 arg11 harg11 arg12 harg12 arg13 harg13) Q := by
  iintro ⟨⟨⟨H0, H1, H2, H3, H4, H5, H6⟩, ⟨H9, H10, H11, H12, H13⟩, ⟨HS0, HS1, HS2, HS3⟩, HW⟩, Hk⟩
  sl_exec
  have hL0' : InR (bodyRun.sl.r c arg0 g0) := hL0
  have hck2 : k0_chk2 (bodyRun.sl.r c arg0 g0) := chk2 hL0'
  sl_exec
  have hL1' : InR (bodyRun.sl.r_1 c arg0 g0) := hL1
  have hck1 : k0_chk1 (bodyRun.sl.r c arg0 g0) (bodyRun.sl.r_1 c arg0 g0) := chk1 hL0' hL1'
  by_cases hg1 : 1 < nch (bodyRun.sl.r c arg0 g0) + nch (bodyRun.sl.r_1 c arg0 g0)
  · have hc1 : k0_cond1 (bodyRun.sl.r c arg0 g0) (bodyRun.sl.r_1 c arg0 g0) = 1#1 := (cond1_iff hL0' hL1').mpr (by omega)
    have hc2 : k0_cond2 (bodyRun.sl.r c arg0 g0) (bodyRun.sl.r_1 c arg0 g0) = 1#1 := (cond2_iff hL0' hL1').mpr (by omega)
    ihave HS0 := (entails_of_eq (show Free c X7 X8 (Ring.sl 4 0) = iprop((∃ f, kP c (Ring.sl 4 0) f) ∗ (∃ f, vP c (Ring.sl 4 0) f) ∗ cellP c (Ring.sl 4 0) 0 ∗ cellP c (Ring.sl 4 0) 1 ∗ w7 c X7 (Ring.sl 4 0) ∗ w8 c X8 (Ring.sl 4 0)) from rfl)) $$ HS0
    icases HS0 with ⟨⟨%e0, HK0⟩, ⟨%d0, HV0⟩, HC0, HD0, HX0, HY0⟩
    ihave HX0 := ((w7_eq c X7 (Ring.sl 4 0) (bOf (nch (bodyRun.sl.r c arg0 g0)) 0) (cOf (nch (bodyRun.sl.r c arg0 g0)) 0)).1) $$ HX0
    ihave HY0 := ((w8_eq c X8 (Ring.sl 4 0) (bOf (nch (bodyRun.sl.r c arg0 g0)) 0) (cOf (nch (bodyRun.sl.r c arg0 g0)) 0)).1) $$ HY0
    icases HX0 with ⟨HX0, HZ0⟩
    icases HY0 with ⟨HY0, HU0⟩
    ihave HS1 := (entails_of_eq (show Free c X7 X8 (Ring.sl 4 1) = iprop((∃ f, kP c (Ring.sl 4 1) f) ∗ (∃ f, vP c (Ring.sl 4 1) f) ∗ cellP c (Ring.sl 4 1) 0 ∗ cellP c (Ring.sl 4 1) 1 ∗ w7 c X7 (Ring.sl 4 1) ∗ w8 c X8 (Ring.sl 4 1)) from rfl)) $$ HS1
    icases HS1 with ⟨⟨%e1, HK1⟩, ⟨%d1, HV1⟩, HC1, HD1, HX1, HY1⟩
    ihave HX1 := ((w7_eq c X7 (Ring.sl 4 1) (bOf (nch (bodyRun.sl.r c arg0 g0)) 1) (cOf (nch (bodyRun.sl.r c arg0 g0)) 1)).1) $$ HX1
    ihave HY1 := ((w8_eq c X8 (Ring.sl 4 1) (bOf (nch (bodyRun.sl.r c arg0 g0)) 1) (cOf (nch (bodyRun.sl.r c arg0 g0)) 1)).1) $$ HY1
    icases HX1 with ⟨HX1, HZ1⟩
    icases HY1 with ⟨HY1, HU1⟩
    by_cases hg : 2 < nch (bodyRun.sl.r c arg0 g0) + nch (bodyRun.sl.r_1 c arg0 g0)
    · have hc3 : k0_cond3 (bodyRun.sl.r c arg0 g0) (bodyRun.sl.r_1 c arg0 g0) = 1#1 := (cond3_iff hL0' hL1').mpr hg
      ihave HS2 := (entails_of_eq (show Free c X7 X8 (Ring.sl 4 2) = iprop((∃ f, kP c (Ring.sl 4 2) f) ∗ (∃ f, vP c (Ring.sl 4 2) f) ∗ cellP c (Ring.sl 4 2) 0 ∗ cellP c (Ring.sl 4 2) 1 ∗ w7 c X7 (Ring.sl 4 2) ∗ w8 c X8 (Ring.sl 4 2)) from rfl)) $$ HS2
      icases HS2 with ⟨⟨%e2, HK2⟩, ⟨%d2, HV2⟩, HC2, HD2, HX2, HY2⟩
      ihave HX2 := ((w7_eq c X7 (Ring.sl 4 2) (bOf (nch (bodyRun.sl.r c arg0 g0)) 2) (cOf (nch (bodyRun.sl.r c arg0 g0)) 2)).1) $$ HX2
      ihave HY2 := ((w8_eq c X8 (Ring.sl 4 2) (bOf (nch (bodyRun.sl.r c arg0 g0)) 2) (cOf (nch (bodyRun.sl.r c arg0 g0)) 2)).1) $$ HY2
      icases HX2 with ⟨HX2, HZ2⟩
      icases HY2 with ⟨HY2, HU2⟩
      sl_exec
      ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HC1 HD1 HZ1 HU1 HC2 HD2 HZ2 HU2 HS3]
      · unfold resAt ringAt
        isplitl [H0]; iexact H0
        isplitl [HW]; iexists _; iexact HW
        isplitl [HC0 HD0 HZ0 HU0]
        · rw [role_lt c X7 X8 (show 0 < nch (bodyRun.sl.r c arg0 g0) + nch (bodyRun.sl.r_1 c arg0 g0) by omega)]
          unfold Infl
          isplitl [HC0]; iexists e0; iexact HC0
          isplitl [HD0]; iexists d0; iexact HD0
          isplitl [HZ0]; iexact HZ0
          iexact HU0
        isplitl [HC1 HD1 HZ1 HU1]
        · rw [role_lt c X7 X8 (show 1 < nch (bodyRun.sl.r c arg0 g0) + nch (bodyRun.sl.r_1 c arg0 g0) by omega)]
          unfold Infl
          isplitl [HC1]; iexists e1; iexact HC1
          isplitl [HD1]; iexists d1; iexact HD1
          isplitl [HZ1]; iexact HZ1
          iexact HU1
        isplitl [HC2 HD2 HZ2 HU2]
        · rw [role_lt c X7 X8 (show 2 < nch (bodyRun.sl.r c arg0 g0) + nch (bodyRun.sl.r_1 c arg0 g0) by omega)]
          unfold Infl
          isplitl [HC2]; iexists e2; iexact HC2
          isplitl [HD2]; iexists d2; iexact HD2
          isplitl [HZ2]; iexact HZ2
          iexact HU2
        iexact HS3
      sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
          iexact HR
        · iintro %y ⟨%hy, HR⟩
          isplitl []
          · ipureintro
            rw [hy, hx]; rfl
          iexact HR
      · isplitl []
        · ipureintro; rfl
        iexact HR
      iintro %x1 ⟨%hx1, HR⟩
      have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
      rw [hT1] at hx1 ⊢
      sl_exec
      sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
          iexact HR
        · iintro %y ⟨%hy, HR⟩
          isplitl []
          · ipureintro
            rw [hy, hx]; rfl
          iexact HR
      · isplitl []
        · ipureintro; rfl
        iexact HR
      iintro %x3 ⟨%hx3, HR⟩
      have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
      rw [hT3] at hx3 ⊢
      sl_exec
      sl_step
      ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
      icases HR with ⟨H0, HW, HR⟩
      ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
      iapply Hk
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H9 H10 H11 H12 H13]
      · isplitl [H9]
        · rw [hx3, hx1]; iexact H9
        isplitl [H10]; iexact H10
        isplitl [H11]; iexact H11
        isplitl [H12]; iexact H12
        iexact H13
      isplitl [HF]; iexact HF
      iexact HW
    · have hc3 : ¬ k0_cond3 (bodyRun.sl.r c arg0 g0) (bodyRun.sl.r_1 c arg0 g0) = 1#1 := fun h => hg ((cond3_iff hL0' hL1').mp h)
      sl_exec
      ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HC1 HD1 HZ1 HU1 HS2 HS3]
      · unfold resAt ringAt
        isplitl [H0]; iexact H0
        isplitl [HW]; iexists _; iexact HW
        isplitl [HC0 HD0 HZ0 HU0]
        · rw [role_lt c X7 X8 (show 0 < nch (bodyRun.sl.r c arg0 g0) + nch (bodyRun.sl.r_1 c arg0 g0) by omega)]
          unfold Infl
          isplitl [HC0]; iexists e0; iexact HC0
          isplitl [HD0]; iexists d0; iexact HD0
          isplitl [HZ0]; iexact HZ0
          iexact HU0
        isplitl [HC1 HD1 HZ1 HU1]
        · rw [role_lt c X7 X8 (show 1 < nch (bodyRun.sl.r c arg0 g0) + nch (bodyRun.sl.r_1 c arg0 g0) by omega)]
          unfold Infl
          isplitl [HC1]; iexists e1; iexact HC1
          isplitl [HD1]; iexists d1; iexact HD1
          isplitl [HZ1]; iexact HZ1
          iexact HU1
        isplitl [HS2]
        · rw [role_ge c X7 X8 (show ¬ 0 + 2 < nch (bodyRun.sl.r c arg0 g0) + nch (bodyRun.sl.r_1 c arg0 g0) by omega)]
          iexact HS2
        iexact HS3
      sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
          iexact HR
        · iintro %y ⟨%hy, HR⟩
          isplitl []
          · ipureintro
            rw [hy, hx]; rfl
          iexact HR
      · isplitl []
        · ipureintro; rfl
        iexact HR
      iintro %x1 ⟨%hx1, HR⟩
      have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
      rw [hT1] at hx1 ⊢
      sl_exec
      sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
          iexact HR
        · iintro %y ⟨%hy, HR⟩
          isplitl []
          · ipureintro
            rw [hy, hx]; rfl
          iexact HR
      · isplitl []
        · ipureintro; rfl
        iexact HR
      iintro %x3 ⟨%hx3, HR⟩
      have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
      rw [hT3] at hx3 ⊢
      sl_exec
      sl_step
      ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
      icases HR with ⟨H0, HW, HR⟩
      ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
      iapply Hk
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H9 H10 H11 H12 H13]
      · isplitl [H9]
        · rw [hx3, hx1]; iexact H9
        isplitl [H10]; iexact H10
        isplitl [H11]; iexact H11
        isplitl [H12]; iexact H12
        iexact H13
      isplitl [HF]; iexact HF
      iexact HW
  by_cases hg0 : 0 < nch (bodyRun.sl.r c arg0 g0) + nch (bodyRun.sl.r_1 c arg0 g0)
  · have hc1 : k0_cond1 (bodyRun.sl.r c arg0 g0) (bodyRun.sl.r_1 c arg0 g0) = 1#1 := (cond1_iff hL0' hL1').mpr hg0
    have hc2 : ¬ k0_cond2 (bodyRun.sl.r c arg0 g0) (bodyRun.sl.r_1 c arg0 g0) = 1#1 := fun h => by have := (cond2_iff hL0' hL1').mp h; omega
    have hc3 : ¬ k0_cond3 (bodyRun.sl.r c arg0 g0) (bodyRun.sl.r_1 c arg0 g0) = 1#1 := fun h => by have := (cond3_iff hL0' hL1').mp h; omega
    ihave HS0 := (entails_of_eq (show Free c X7 X8 (Ring.sl 4 0) = iprop((∃ f, kP c (Ring.sl 4 0) f) ∗ (∃ f, vP c (Ring.sl 4 0) f) ∗ cellP c (Ring.sl 4 0) 0 ∗ cellP c (Ring.sl 4 0) 1 ∗ w7 c X7 (Ring.sl 4 0) ∗ w8 c X8 (Ring.sl 4 0)) from rfl)) $$ HS0
    icases HS0 with ⟨⟨%e0, HK0⟩, ⟨%d0, HV0⟩, HC0, HD0, HX0, HY0⟩
    ihave HX0 := ((w7_eq c X7 (Ring.sl 4 0) (bOf (nch (bodyRun.sl.r c arg0 g0)) 0) (cOf (nch (bodyRun.sl.r c arg0 g0)) 0)).1) $$ HX0
    ihave HY0 := ((w8_eq c X8 (Ring.sl 4 0) (bOf (nch (bodyRun.sl.r c arg0 g0)) 0) (cOf (nch (bodyRun.sl.r c arg0 g0)) 0)).1) $$ HY0
    icases HX0 with ⟨HX0, HZ0⟩
    icases HY0 with ⟨HY0, HU0⟩
    sl_exec
    ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HS1 HS2 HS3]
    · unfold resAt ringAt
      isplitl [H0]; iexact H0
      isplitl [HW]; iexists _; iexact HW
      isplitl [HC0 HD0 HZ0 HU0]
      · rw [role_lt c X7 X8 (show 0 < nch (bodyRun.sl.r c arg0 g0) + nch (bodyRun.sl.r_1 c arg0 g0) by omega)]
        unfold Infl
        isplitl [HC0]; iexists e0; iexact HC0
        isplitl [HD0]; iexists d0; iexact HD0
        isplitl [HZ0]; iexact HZ0
        iexact HU0
      isplitl [HS1]
      · rw [role_ge c X7 X8 (show ¬ 0 + 1 < nch (bodyRun.sl.r c arg0 g0) + nch (bodyRun.sl.r_1 c arg0 g0) by omega)]
        iexact HS1
      isplitl [HS2]
      · rw [role_ge c X7 X8 (show ¬ 0 + 2 < nch (bodyRun.sl.r c arg0 g0) + nch (bodyRun.sl.r_1 c arg0 g0) by omega)]
        iexact HS2
      iexact HS3
    sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
    case region =>
      intro k x
      iintro ⟨%hx, HR⟩
      iapply (wp_wand_r Idealize.ShloMosaic.frame (wpE (defs₀ (F := F)) 𝒱₀ (c : Thread nD τ) none) Set.univ)
      isplitl [HR]
      · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
        iexact HR
      · iintro %y ⟨%hy, HR⟩
        isplitl []
        · ipureintro
          rw [hy, hx]; rfl
        iexact HR
    · isplitl []
      · ipureintro; rfl
      iexact HR
    iintro %x1 ⟨%hx1, HR⟩
    have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
    rw [hT1] at hx1 ⊢
    sl_exec
    sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
    case region =>
      intro k x
      iintro ⟨%hx, HR⟩
      iapply (wp_wand_r Idealize.ShloMosaic.frame (wpE (defs₀ (F := F)) 𝒱₀ (c : Thread nD τ) none) Set.univ)
      isplitl [HR]
      · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
        iexact HR
      · iintro %y ⟨%hy, HR⟩
        isplitl []
        · ipureintro
          rw [hy, hx]; rfl
        iexact HR
    · isplitl []
      · ipureintro; rfl
      iexact HR
    iintro %x3 ⟨%hx3, HR⟩
    have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
    rw [hT3] at hx3 ⊢
    sl_exec
    sl_step
    ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
    icases HR with ⟨H0, HW, HR⟩
    ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
    iapply Hk
    isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [H9 H10 H11 H12 H13]
    · isplitl [H9]
      · rw [hx3, hx1]; iexact H9
      isplitl [H10]; iexact H10
      isplitl [H11]; iexact H11
      isplitl [H12]; iexact H12
      iexact H13
    isplitl [HF]; iexact HF
    iexact HW
  have hc1 : ¬ k0_cond1 (bodyRun.sl.r c arg0 g0) (bodyRun.sl.r_1 c arg0 g0) = 1#1 := fun h => by have := (cond1_iff hL0' hL1').mp h; omega
  have hc2 : ¬ k0_cond2 (bodyRun.sl.r c arg0 g0) (bodyRun.sl.r_1 c arg0 g0) = 1#1 := fun h => by have := (cond2_iff hL0' hL1').mp h; omega
  have hc3 : ¬ k0_cond3 (bodyRun.sl.r c arg0 g0) (bodyRun.sl.r_1 c arg0 g0) = 1#1 := fun h => by have := (cond3_iff hL0' hL1').mp h; omega
  sl_exec
  ihave HR : (resAt c X7 X8 arg0 g0 (nch (bodyRun.sl.r c arg0 g0)) (nch (bodyRun.sl.r c arg0 g0) + nch (bodyRun.sl.r_1 c arg0 g0)) 0) $$ [H0 HW HS0 HS1 HS2 HS3]
  · unfold resAt ringAt
    isplitl [H0]; iexact H0
    isplitl [HW]; iexists _; iexact HW
    isplitl [HS0]
    · rw [role_ge c X7 X8 (show ¬ 0 < nch (bodyRun.sl.r c arg0 g0) + nch (bodyRun.sl.r_1 c arg0 g0) by omega)]
      iexact HS0
    isplitl [HS1]
    · rw [role_ge c X7 X8 (show ¬ 0 + 1 < nch (bodyRun.sl.r c arg0 g0) + nch (bodyRun.sl.r_1 c arg0 g0) by omega)]
      iexact HS1
    isplitl [HS2]
    · rw [role_ge c X7 X8 (show ¬ 0 + 2 < nch (bodyRun.sl.r c arg0 g0) + nch (bodyRun.sl.r_1 c arg0 g0) by omega)]
      iexact HS2
    iexact HS3
  sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
  case region =>
    intro k x
    iintro ⟨%hx, HR⟩
    iapply (wp_wand_r Idealize.ShloMosaic.frame (wpE (defs₀ (F := F)) 𝒱₀ (c : Thread nD τ) none) Set.univ)
    isplitl [HR]
    · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
      iexact HR
    · iintro %y ⟨%hy, HR⟩
      isplitl []
      · ipureintro
        rw [hy, hx]; rfl
      iexact HR
  · isplitl []
    · ipureintro; rfl
    iexact HR
  iintro %x1 ⟨%hx1, HR⟩
  have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
  rw [hT1] at hx1 ⊢
  sl_exec
  sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
  case region =>
    intro k x
    iintro ⟨%hx, HR⟩
    iapply (wp_wand_r Idealize.ShloMosaic.frame (wpE (defs₀ (F := F)) 𝒱₀ (c : Thread nD τ) none) Set.univ)
    isplitl [HR]
    · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
      iexact HR
    · iintro %y ⟨%hy, HR⟩
      isplitl []
      · ipureintro
        rw [hy, hx]; rfl
      iexact HR
  · isplitl []
    · ipureintro; rfl
    iexact HR
  iintro %x3 ⟨%hx3, HR⟩
  have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
  rw [hT3] at hx3 ⊢
  sl_exec
  sl_step
  ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
  icases HR with ⟨H0, HW, HR⟩
  ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
  iapply Hk
  isplitl [H0 H1 H2 H3 H4 H5 H6]
  · isplitl [H0]; iexact H0
    isplitl [H1]; iexact H1
    isplitl [H2]; iexact H2
    isplitl [H3]; iexact H3
    isplitl [H4]; iexact H4
    isplitl [H5]; iexact H5
    iexact H6
  isplitl [H9 H10 H11 H12 H13]
  · isplitl [H9]
    · rw [hx3, hx1]; iexact H9
    isplitl [H10]; iexact H10
    isplitl [H11]; iexact H11
    isplitl [H12]; iexact H12
    iexact H13
  isplitl [HF]; iexact HF
  iexact HW

end Body

end Cert.KernelIdeal.Run

end
-- ==== Proof.PreIn.lean ====
/-
  The preconditions read off their predicates: the lengths lie between 0 and 131072; or between 1 and 131072, the exponents between −126 and 126.
-/
module

public import proofs.«01_k».proof.Pre_in_range
public import proofs.«01_k».proof.Pre_lens_in_range
public import proofs.«01_k».proof.Proof.Gen.Pre_in_range
public import proofs.«01_k».proof.Proof.Words
public import Idealize.ShloMosaic.Lib.WordCmp
public import Idealize.ShloMosaic.Lib.ReduceAll
public import Idealize.ShloMosaic.Lib.Affine

@[expose] public section

noncomputable section

namespace Cert.Proof.PreIn

open Idealize.ShloMosaic Idealize.SL.Sem Cert.Pre_in_range Cert.Pre_in_range.Gen Cert.Proof.Words

variable {F : FTy → Type} [FloatOps F]
variable (x0 : FVec F S2x1x32x64 .bf16) (x1 x2 : FVec F S2x1x4x64 .bf16) (x3 x4 : FVec F S2x131072x4x64 .fp8e4m3)
  (x5 : IVec S2 32) (x6 : IVec S4x64 32) (x7 : IVec S4 32)

theorem and_one : ∀ {a b : BitVec 1}, IntOp.andi a b = 1#1 → a = 1#1 ∧ b = 1#1 := by decide

instance : Subsingleton S_.Idx := ⟨fun a b => funext fun i => i.elim0⟩

/-- What the predicate says, all of it. -/
theorem all (h : fn (F := F) x0 x1 x2 x3 x4 x5 x6 x7 = fun _ => 1#1) :
    (∀ j, InR1 (x5 j)) ∧ (∀ j, -126 ≤ (x6 j).toInt ∧ (x6 j).toInt ≤ 126) ∧ (∀ j, -126 ≤ (x7 j).toInt ∧ (x7 j).toInt ≤ 126) := by
  have e := congrFun h (Shape.Idx.first h_S_)
  simp only [fn, fn_part1] at e
  obtain ⟨e, e7⟩ := and_one e
  obtain ⟨e5, e6⟩ := and_one e
  refine ⟨fun j => ?_, fun j => ?_, fun j => ?_⟩
  · obtain ⟨a, b⟩ := and_one (Host.reduce_andi_all _ _ _ _ _ e5 j)
    exact ⟨IntOp.cmpi_sge.1 a, IntOp.cmpi_sle.1 b⟩
  · obtain ⟨a, b⟩ := and_one (Host.reduce_andi_all _ _ _ _ _ e6 j)
    exact ⟨IntOp.cmpi_sge.1 a, IntOp.cmpi_sle.1 b⟩
  · obtain ⟨a, b⟩ := and_one (Host.reduce_andi_all _ _ _ _ _ e7 j)
    exact ⟨IntOp.cmpi_sge.1 a, IntOp.cmpi_sle.1 b⟩

/-- The side conditions of the lengths' predicate. -/
instance lens_facts : Cert.Pre_lens_in_range.Facts where
  bcast_S_S2 := by decide
  reducesTo_S2_S_d0 := by decide
  h_S_ := by decide

/-- What the lengths' predicate says. -/
theorem lens (h : Cert.Pre_lens_in_range.fn (F := F) x0 x1 x2 x3 x4 x5 x6 x7 = fun _ => 1#1) (j : S2.Idx) : InR (x5 j) := by
  have e := congrFun h (Shape.Idx.first h_S_)
  simp only [Cert.Pre_lens_in_range.fn] at e
  obtain ⟨a, b⟩ := and_one (Host.reduce_andi_all _ _ _ _ _ e j)
  exact ⟨IntOp.cmpi_sge.1 a, IntOp.cmpi_sle.1 b⟩

end Cert.Proof.PreIn

end
-- ==== Proof.Launch.lean ====
/-
  The launch: the host lines before the pallas_call, the pallas_call, the reshape after it. Its region invariant holds
  the two cache arrays, the two slot buffers and the slots' cells at zero; the run ends with every array at the
  contents the body computes and every semaphore counter at zero.
-/
module

public import proofs.«01_k».proof.Defs
public import proofs.«01_k».proof.Proof.Chk
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameSuffix
public import Idealize.ShloMosaic.Lib.Ring
public import Idealize.ShloMosaic.Lib.Affine
public import proofs.«01_k».proof.Proof.Body
public import proofs.«01_k».proof.Proof.PreIn
public import Idealize.ShloMosaic.Lib.Tactic

@[expose] public section

noncomputable section

namespace Cert.KernelIdeal.Run

open Cert.KernelIdeal Cert.KernelIdeal.Gen Cert.KernelIdeal.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own semaphores: two cells per slot -/

abbrev osem : Fin 8 → SemLoc sig := ![.dma (csm 0 0).sem, .dma (csm 0 1).sem, .dma (csm 1 0).sem, .dma (csm 1 1).sem, .dma (csm 2 0).sem, .dma (csm 2 1).sem, .dma (csm 3 0).sem, .dma (csm 3 1).sem]
theorem ownSemFacts : Pipeline.OwnSemFacts spec0 osem := by decide

/-! ## The slots of a buffer tile it -/

abbrev SL (s : Fin 4) : Finset S4x256x4096.Idx := (Rect.unit (s := S4x256x4096) (slotOff s) S1x256x4096.size (inb_slot s)).set
omit [FloatOps F] in
theorem k14_set (s : Fin 4) : (k14 s).view.set = SL s := (View.set_reshape _ _).trans (View.set_slice_whole _ _)
omit [FloatOps F] in
theorem v15_set (s : Fin 4) : (v15 s).view.set = SL s := (View.set_reshape _ _).trans (View.set_slice_whole _ _)
theorem mem_SL (s : Fin 4) (y : S4x256x4096.Idx) : y ∈ SL s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SL_disjoint : ∀ s s' : Fin 4, s ≠ s' → Disjoint (SL s) (SL s') := by
  intro s s' hne; rw [Finset.disjoint_left]; intro y hy hy'; rw [mem_SL] at hy hy'; exact hne (Fin.ext (hy.symm.trans hy'))
theorem SL_cover : (Finset.univ : Finset (Fin 4)).biUnion SL = Finset.univ := by
  ext y; simp only [Finset.mem_biUnion, Finset.mem_univ, true_and, iff_true]
  exact ⟨⟨(y 0).val, (y 0).isLt⟩, by rw [mem_SL]⟩
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

omit [FloatOps F] in
theorem kP_eq (c : Dev nD) (s : Fin 4) (f) : kP c s f = (((c : Thread nD τ).loc cc0_scratch0) ↦[SL s]{fullShare} f : sProp 𝕄) :=
  congrArg (fun S => (_ ↦[S]{fullShare} f : sProp 𝕄)) (k14_set s)
/-- The buffer whole is its four slots, and back. -/
theorem k_split (c : Dev nD) :
    iprop(∃ f : Buf (Elt F) ((c : Thread nD τ).loc cc0_scratch0), ((c : Thread nD τ).loc cc0_scratch0) ↦{fullShare} f)
      ⊢ (iprop((∃ f, kP c 0 f) ∗ (∃ f, kP c 1 f) ∗ (∃ f, kP c 2 f) ∗ ∃ f, kP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SL SL_disjoint SL_cover f).trans (bigSep_fin4 _))) $$ H
  icases H2 with ⟨H0, H1, H2, H3⟩
  isplitl [H0]
  · iexists f; iapply (entails_of_eq (kP_eq c 0 f).symm); iexact H0
  isplitl [H1]
  · iexists f; iapply (entails_of_eq (kP_eq c 1 f).symm); iexact H1
  isplitl [H2]
  · iexists f; iapply (entails_of_eq (kP_eq c 2 f).symm); iexact H2
  · iexists f; iapply (entails_of_eq (kP_eq c 3 f).symm); iexact H3
theorem k_join (c : Dev nD) :
    iprop((∃ f, kP c 0 f) ∗ (∃ f, kP c 1 f) ∗ (∃ f, kP c 2 f) ∗ ∃ f, kP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SL SL_disjoint SL_cover f0)
  irw [bigSep_fin4]
  isplitl [H0]
  · iexists f0; iapply (entails_of_eq (kP_eq c 0 f0)); iexact H0
  isplitl [H1]
  · iexists f1; iapply (entails_of_eq (kP_eq c 1 f1)); iexact H1
  isplitl [H2]
  · iexists f2; iapply (entails_of_eq (kP_eq c 2 f2)); iexact H2
  · iexists f3; iapply (entails_of_eq (kP_eq c 3 f3)); iexact H3

omit [FloatOps F] in
theorem vP_eq (c : Dev nD) (s : Fin 4) (f) : vP c s f = (((c : Thread nD τ).loc cc0_scratch1) ↦[SL s]{fullShare} f : sProp 𝕄) :=
  congrArg (fun S => (_ ↦[S]{fullShare} f : sProp 𝕄)) (v15_set s)
/-- The buffer whole is its four slots, and back. -/
theorem v_split (c : Dev nD) :
    iprop(∃ f : Buf (Elt F) ((c : Thread nD τ).loc cc0_scratch1), ((c : Thread nD τ).loc cc0_scratch1) ↦{fullShare} f)
      ⊢ (iprop((∃ f, vP c 0 f) ∗ (∃ f, vP c 1 f) ∗ (∃ f, vP c 2 f) ∗ ∃ f, vP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) SL SL_disjoint SL_cover f).trans (bigSep_fin4 _))) $$ H
  icases H2 with ⟨H0, H1, H2, H3⟩
  isplitl [H0]
  · iexists f; iapply (entails_of_eq (vP_eq c 0 f).symm); iexact H0
  isplitl [H1]
  · iexists f; iapply (entails_of_eq (vP_eq c 1 f).symm); iexact H1
  isplitl [H2]
  · iexists f; iapply (entails_of_eq (vP_eq c 2 f).symm); iexact H2
  · iexists f; iapply (entails_of_eq (vP_eq c 3 f).symm); iexact H3
theorem v_join (c : Dev nD) :
    iprop((∃ f, vP c 0 f) ∗ (∃ f, vP c 1 f) ∗ (∃ f, vP c 2 f) ∗ ∃ f, vP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) SL SL_disjoint SL_cover f0)
  irw [bigSep_fin4]
  isplitl [H0]
  · iexists f0; iapply (entails_of_eq (vP_eq c 0 f0)); iexact H0
  isplitl [H1]
  · iexists f1; iapply (entails_of_eq (vP_eq c 1 f1)); iexact H1
  isplitl [H2]
  · iexists f2; iapply (entails_of_eq (vP_eq c 2 f2)); iexact H2
  · iexists f3; iapply (entails_of_eq (vP_eq c 3 f3)); iexact H3

/-- A cache array whole is the four slots' read shares of it, and back. -/
theorem w7_split (c : Dev nD) (X : Buf (Elt F) (a7.view.loc (c : Thread nD τ))) :
    (a7.view.loc (c : Thread nD τ) ↦{fullShare} X : sProp 𝕄) ⊣⊢ iprop(w7 c X 0 ∗ w7 c X 1 ∗ w7 c X 2 ∗ w7 c X 3) := by
  have e := (pointsTo_share (Ix := Unit) (Name := ℕ) (U := UU nD τ) (Lvl := ℕ) (ℓ := a7.view.loc (c : Thread nD τ)) (I := Finset.univ) (f := X) (PosShare.mem_left_op_right fullShare))
  have e1 := (pointsTo_share (Ix := Unit) (Name := ℕ) (U := UU nD τ) (Lvl := ℕ) (ℓ := a7.view.loc (c : Thread nD τ)) (I := Finset.univ) (f := X) (PosShare.mem_left_op_right fullShare.left))
  have e2 := (pointsTo_share (Ix := Unit) (Name := ℕ) (U := UU nD τ) (Lvl := ℕ) (ℓ := a7.view.loc (c : Thread nD τ)) (I := Finset.univ) (f := X) (PosShare.mem_left_op_right fullShare.right))
  rw [show w7 c X 0 = (a7.view.loc (c : Thread nD τ) ↦{fullShare.left.left} X : sProp 𝕄) from rfl, show w7 c X 1 = (a7.view.loc (c : Thread nD τ) ↦{fullShare.left.right} X : sProp 𝕄) from rfl,
    show w7 c X 2 = (a7.view.loc (c : Thread nD τ) ↦{fullShare.right.left} X : sProp 𝕄) from rfl, show w7 c X 3 = (a7.view.loc (c : Thread nD τ) ↦{fullShare.right.right} X : sProp 𝕄) from rfl]
  constructor
  · iintro H
    ihave H := e.1 $$ H
    icases H with ⟨HL, HR⟩
    ihave HL := e1.1 $$ HL
    ihave HR := e2.1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply e.2
    isplitl [H0 H1]
    · iapply e1.2
      isplitl [H0]; · iexact H0
      iexact H1
    · iapply e2.2
      isplitl [H2]; · iexact H2
      iexact H3

/-- A cache array whole is the four slots' read shares of it, and back. -/
theorem w8_split (c : Dev nD) (X : Buf (Elt F) (a8.view.loc (c : Thread nD τ))) :
    (a8.view.loc (c : Thread nD τ) ↦{fullShare} X : sProp 𝕄) ⊣⊢ iprop(w8 c X 0 ∗ w8 c X 1 ∗ w8 c X 2 ∗ w8 c X 3) := by
  have e := (pointsTo_share (Ix := Unit) (Name := ℕ) (U := UU nD τ) (Lvl := ℕ) (ℓ := a8.view.loc (c : Thread nD τ)) (I := Finset.univ) (f := X) (PosShare.mem_left_op_right fullShare))
  have e1 := (pointsTo_share (Ix := Unit) (Name := ℕ) (U := UU nD τ) (Lvl := ℕ) (ℓ := a8.view.loc (c : Thread nD τ)) (I := Finset.univ) (f := X) (PosShare.mem_left_op_right fullShare.left))
  have e2 := (pointsTo_share (Ix := Unit) (Name := ℕ) (U := UU nD τ) (Lvl := ℕ) (ℓ := a8.view.loc (c : Thread nD τ)) (I := Finset.univ) (f := X) (PosShare.mem_left_op_right fullShare.right))
  rw [show w8 c X 0 = (a8.view.loc (c : Thread nD τ) ↦{fullShare.left.left} X : sProp 𝕄) from rfl, show w8 c X 1 = (a8.view.loc (c : Thread nD τ) ↦{fullShare.left.right} X : sProp 𝕄) from rfl,
    show w8 c X 2 = (a8.view.loc (c : Thread nD τ) ↦{fullShare.right.left} X : sProp 𝕄) from rfl, show w8 c X 3 = (a8.view.loc (c : Thread nD τ) ↦{fullShare.right.right} X : sProp 𝕄) from rfl]
  constructor
  · iintro H
    ihave H := e.1 $$ H
    icases H with ⟨HL, HR⟩
    ihave HL := e1.1 $$ HL
    ihave HR := e2.1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply e.2
    isplitl [H0 H1]
    · iapply e1.2
      isplitl [H0]; · iexact H0
      iexact H1
    · iapply e2.2
      isplitl [H2]; · iexact H2
      iexact H3

/-! ## The pipeline's proof data -/

abbrev XA7 (c : Dev nD) : Buf (Elt F) (a7.view.loc (c : Thread nD τ)) := V m c main_v3
abbrev XA8 (c : Dev nD) : Buf (Elt F) (a8.view.loc (c : Thread nD τ)) := V m c main_v5
abbrev HH : Finset (Ref sig .tc) := {main_v3, main_v5}
theorem bigSep_HH (Ψ : Ref sig .tc → sProp 𝕄) : bigSep HH Ψ = iprop(Ψ main_v3 ∗ Ψ main_v5) :=
  (bigSep_insert (i := main_v3) (s := {main_v5}) (by decide)).trans (congrArg (fun x => iprop(Ψ main_v3 ∗ x)) bigSep_singleton)
abbrev Φ (c : Dev nD) : sProp 𝕄 := Pipeline.ΦD osem spec0 HH (V m) c

abbrev stg0 (t : Fin cfg0.N) : Memref sig .tc .smem S2 .i32 := win0_0.stage (cfg0.slots t 0)
abbrev hst0 (t : Fin cfg0.N) : (stg0 t).IsWhole := hstage0_0 0
/-- Window 0's staging buffer, holding its block. -/
abbrev G0 (c : Dev nD) (t : Fin cfg0.N) : Buf (Elt F) ((stg0 t).view.loc (c : Thread nD τ)) := (stg0 t).view.rep (iblk m c 0 t)
abbrev stg1 (t : Fin cfg0.N) : Memref sig .tc .smem S4 .i32 := win0_1.stage (cfg0.slots t 1)
abbrev hst1 (t : Fin cfg0.N) : (stg1 t).IsWhole := hstage0_1 0
/-- Window 1's staging buffer, holding its block. -/
abbrev G1 (c : Dev nD) (t : Fin cfg0.N) : Buf (Elt F) ((stg1 t).view.loc (c : Thread nD τ)) := (stg1 t).view.rep (iblk m c 1 t)
abbrev stg2 (t : Fin cfg0.N) : Memref sig .tc .vmem S2x32x64 .bf16 := win0_2.stage (cfg0.slots t 2)
abbrev hst2 (t : Fin cfg0.N) : (stg2 t).IsWhole := hstage0_2 0
/-- Window 2's staging buffer, holding its block. -/
abbrev G2 (c : Dev nD) (t : Fin cfg0.N) : Buf (Elt F) ((stg2 t).view.loc (c : Thread nD τ)) := (stg2 t).view.rep (iblk m c 2 t)
abbrev stg3 (t : Fin cfg0.N) : Memref sig .tc .vmem S2x1x4x64 .bf16 := win0_3.stage (cfg0.slots t 3)
abbrev hst3 (t : Fin cfg0.N) : (stg3 t).IsWhole := hstage0_3 0
/-- Window 3's staging buffer, holding its block. -/
abbrev G3 (c : Dev nD) (t : Fin cfg0.N) : Buf (Elt F) ((stg3 t).view.loc (c : Thread nD τ)) := (stg3 t).view.rep (iblk m c 3 t)
abbrev stg4 (t : Fin cfg0.N) : Memref sig .tc .vmem S2x1x4x64 .bf16 := win0_4.stage (cfg0.slots t 4)
abbrev hst4 (t : Fin cfg0.N) : (stg4 t).IsWhole := hstage0_4 0
/-- Window 4's staging buffer, holding its block. -/
abbrev G4 (c : Dev nD) (t : Fin cfg0.N) : Buf (Elt F) ((stg4 t).view.loc (c : Thread nD τ)) := (stg4 t).view.rep (iblk m c 4 t)
abbrev stg5 (t : Fin cfg0.N) : Memref sig .tc .vmem S4x64 .i32 := win0_5.stage (cfg0.slots t 5)
abbrev hst5 (t : Fin cfg0.N) : (stg5 t).IsWhole := hstage0_5 0
/-- Window 5's staging buffer, holding its block. -/
abbrev G5 (c : Dev nD) (t : Fin cfg0.N) : Buf (Elt F) ((stg5 t).view.loc (c : Thread nD τ)) := (stg5 t).view.rep (iblk m c 5 t)
abbrev stg6 (t : Fin cfg0.N) : Memref sig .tc .vmem S4x1 .i32 := win0_6.stage (cfg0.slots t 6)
abbrev hst6 (t : Fin cfg0.N) : (stg6 t).IsWhole := hstage0_6 0
/-- Window 6's staging buffer, holding its block. -/
abbrev G6 (c : Dev nD) (t : Fin cfg0.N) : Buf (Elt F) ((stg6 t).view.loc (c : Thread nD τ)) := (stg6 t).view.rep (iblk m c 6 t)
abbrev stg7 (t : Fin cfg0.N) : Memref sig .tc .vmem S2x32x64 .bf16 := win0_7.stage (cfg0.slots t 7)
abbrev hst7 (t : Fin cfg0.N) : (stg7 t).IsWhole := hstage0_7 0
abbrev stg8 (t : Fin cfg0.N) : Memref sig .tc .vmem S2x1x4x64 .fp8e4m3 := win0_8.stage (cfg0.slots t 8)
abbrev hst8 (t : Fin cfg0.N) : (stg8 t).IsWhole := hstage0_8 0
abbrev stg9 (t : Fin cfg0.N) : Memref sig .tc .vmem S4x64 .f32 := win0_9.stage (cfg0.slots t 9)
abbrev hst9 (t : Fin cfg0.N) : (stg9 t).IsWhole := hstage0_9 0
abbrev stg10 (t : Fin cfg0.N) : Memref sig .tc .vmem S2x1x4x64 .fp8e4m3 := win0_10.stage (cfg0.slots t 10)
abbrev hst10 (t : Fin cfg0.N) : (stg10 t).IsWhole := hstage0_10 0
abbrev stg11 (t : Fin cfg0.N) : Memref sig .tc .smem S4 .f32 := win0_11.stage (cfg0.slots t 11)
abbrev hst11 (t : Fin cfg0.N) : (stg11 t).IsWhole := hstage0_11 0

/-- The arrays the pallas_call writes, as its one point leaves them. -/
def fin7 (c : Dev nD) (t : Fin cfg0.N) : S2x32x64.Idx → Elt F .bf16 := c9 c (XA7 m c) (XA8 m c) (stg0 t) (stg2 t) (stg3 t) (stg4 t) (stg5 t) (stg6 t) (G0 m c t) (G2 m c t) (G3 m c t) (G4 m c t) (G5 m c t) (G6 m c t)
def fin8 (c : Dev nD) (t : Fin cfg0.N) : S2x1x4x64.Idx → Elt F .fp8e4m3 := c10 c (stg3 t) (stg5 t) (G3 m c t) (G5 m c t)
def fin9 (c : Dev nD) (t : Fin cfg0.N) : S4x64.Idx → Elt F .f32 := c11 c (stg5 t) (G5 m c t)
def fin10 (c : Dev nD) (t : Fin cfg0.N) : S2x1x4x64.Idx → Elt F .fp8e4m3 := c12 c (stg4 t) (stg6 t) (G4 m c t) (G6 m c t)
def fin11 (c : Dev nD) (t : Fin cfg0.N) : S4.Idx → Elt F .f32 := c13 c (stg1 t) (G1 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fin7 m c t
    | ⟨8, _⟩ => fin8 m c t
    | ⟨9, _⟩ => fin9 m c t
    | ⟨10, _⟩ => fin10 m c t
    | ⟨11, _⟩ => fin11 m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = fin7 m c t := by dsimp only [dats]
theorem after_w8 (c : Dev nD) (t : Fin cfg0.N) : (dats m 0 c).after 8 t = fin8 m c t := by dsimp only [dats]
theorem after_w9 (c : Dev nD) (t : Fin cfg0.N) : (dats m 0 c).after 9 t = fin9 m c t := by dsimp only [dats]
theorem after_w10 (c : Dev nD) (t : Fin cfg0.N) : (dats m 0 c).after 10 t = fin10 m c t := by dsimp only [dats]
theorem after_w11 (c : Dev nD) (t : Fin cfg0.N) : (dats m 0 c).after 11 t = fin11 m c t := by dsimp only [dats]

/-! ## The body obligation -/

/-- The precondition as the proof uses it: on every core both lengths lie between 1 and 131072. -/
def PreOK : Prop := ∀ (c : Dev nD) (j), InR (m ((c : Thread nD τ).loc main_arg5) j)

theorem ok0 (h : PreOK m) (c : Dev nD) (t : Fin cfg0.N) : InR (len0 c (stg0 t) (G0 m c t)) := by
  unfold len0; rw [View.readAt_apply, View.read_rep]
  unfold iblk; rw [View.read_apply, show V m c (Pipeline.arrRef spec0 0) = _ from V_main_arg5 m c]
  exact h c _
theorem ok1 (h : PreOK m) (c : Dev nD) (t : Fin cfg0.N) : InR (len1 c (stg0 t) (G0 m c t)) := by
  unfold len1; rw [View.readAt_apply, View.read_rep]
  unfold iblk; rw [View.read_apply, show V m c (Pipeline.arrRef spec0 0) = _ from V_main_arg5 m c]
  exact h c _

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) (win0_10.stage (a.2 10)) (hstage0_10 0) (win0_11.stage (a.2 11)) (hstage0_11 0) := rfl
theorem prog_eq (t : Fin cfg0.N) : (defs₀ (F := F)) .tc cfg0.body (cfg0.bodyArgs t (cfg0.slots t)) = bodyG (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) :=
  (congrFun defs_tc _).trans rfl

/-- The invariant, opened: the four slots free, each with its buffers, its cells and its shares of the caches. -/
theorem Φ_open (c : Dev nD) : (Φ m c : sProp 𝕄) ⊣⊢ iprop((∃ r, prngReg c r) ∗ FREES c (XA7 m c) (XA8 m c)) := by
  unfold Φ Pipeline.ΦD Pipeline.ownSems0 FREES Free
  rw [scopedRest0_eq, bigSep_fin8, bigSep_HH]
  constructor
  · iintro ⟨⟨Hk, Hv⟩, Hp, ⟨C00, C01, C10, C11, C20, C21, C30, C31⟩, H7, H8⟩
    ihave Hk := (k_split c) $$ Hk
    ihave Hv := (v_split c) $$ Hv
    ihave H7 := (w7_split c (XA7 m c)).1 $$ H7
    ihave H8 := (w8_split c (XA8 m c)).1 $$ H8
    icases Hk with ⟨K0, K1, K2, K3⟩
    icases Hv with ⟨V0, V1, V2, V3⟩
    icases H7 with ⟨X0, X1, X2, X3⟩
    icases H8 with ⟨Y0, Y1, Y2, Y3⟩
    isplitl [Hp]; · iexact Hp
    isplitl [K0 V0 C00 C01 X0 Y0]
    · isplitl [K0]; iexact K0
      isplitl [V0]; iexact V0
      isplitl [C00]; iexact C00
      isplitl [C01]; iexact C01
      isplitl [X0]; iexact X0
      iexact Y0
    isplitl [K1 V1 C10 C11 X1 Y1]
    · isplitl [K1]; iexact K1
      isplitl [V1]; iexact V1
      isplitl [C10]; iexact C10
      isplitl [C11]; iexact C11
      isplitl [X1]; iexact X1
      iexact Y1
    isplitl [K2 V2 C20 C21 X2 Y2]
    · isplitl [K2]; iexact K2
      isplitl [V2]; iexact V2
      isplitl [C20]; iexact C20
      isplitl [C21]; iexact C21
      isplitl [X2]; iexact X2
      iexact Y2
    · isplitl [K3]; iexact K3
      isplitl [V3]; iexact V3
      isplitl [C30]; iexact C30
      isplitl [C31]; iexact C31
      isplitl [X3]; iexact X3
      iexact Y3
  · iintro ⟨Hp, ⟨K0, V0, C00, C01, X0, Y0⟩, ⟨K1, V1, C10, C11, X1, Y1⟩, ⟨K2, V2, C20, C21, X2, Y2⟩, ⟨K3, V3, C30, C31, X3, Y3⟩⟩
    isplitl [K0 K1 K2 K3 V0 V1 V2 V3]
    · isplitl [K0 K1 K2 K3]
      · iapply (k_join c)
        isplitl [K0]; iexact K0
        isplitl [K1]; iexact K1
        isplitl [K2]; iexact K2
        iexact K3
      · iapply (v_join c)
        isplitl [V0]; iexact V0
        isplitl [V1]; iexact V1
        isplitl [V2]; iexact V2
        iexact V3
    isplitl [Hp]; · iexact Hp
    isplitl [C00 C01 C10 C11 C20 C21 C30 C31]
    · isplitl [C00]; iexact C00
      isplitl [C01]; iexact C01
      isplitl [C10]; iexact C10
      isplitl [C11]; iexact C11
      isplitl [C20]; iexact C20
      isplitl [C21]; iexact C21
      isplitl [C30]; iexact C30
      iexact C31
    isplitl [X0 X1 X2 X3]
    · iapply (w7_split c (XA7 m c)).2
      isplitl [X0]; iexact X0
      isplitl [X1]; iexact X1
      isplitl [X2]; iexact X2
      iexact X3
    · iapply (w8_split c (XA8 m c)).2
      isplitl [Y0]; iexact Y0
      isplitl [Y1]; iexact Y1
      isplitl [Y2]; iexact Y2
      iexact Y3

set_option maxHeartbeats 2000000 in
set_option backward.isDefEq.respectTransparency.types false in
theorem body_obligation (h : PreOK m) (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6, after_w0, after_w1, after_w2, after_w3, after_w4, after_w5, after_w6, after_w7, after_w8, after_w9, after_w10, after_w11]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, -, H9⟩, ⟨%d8, %g8, -, H10⟩, ⟨%d9, %g9, -, H11⟩, ⟨%d10, %g10, -, H12⟩, ⟨%d11, %g11, -, H13⟩⟩
  ihave HF := (Φ_open m c).1 $$ HΦ
  icases HF with ⟨Hp, HF⟩
  ihave H0 := (pointsTo_rep_entails (c : Thread nD τ) (stg0 t) g0 fullShare) $$ H0
  ihave H1 := (pointsTo_rep_entails (c : Thread nD τ) (stg1 t) g1 fullShare) $$ H1
  ihave H2 := (pointsTo_rep_entails (c : Thread nD τ) (stg2 t) g2 fullShare) $$ H2
  ihave H3 := (pointsTo_rep_entails (c : Thread nD τ) (stg3 t) g3 fullShare) $$ H3
  ihave H4 := (pointsTo_rep_entails (c : Thread nD τ) (stg4 t) g4 fullShare) $$ H4
  ihave H5 := (pointsTo_rep_entails (c : Thread nD τ) (stg5 t) g5 fullShare) $$ H5
  ihave H6 := (pointsTo_rep_entails (c : Thread nD τ) (stg6 t) g6 fullShare) $$ H6
  rw [hg0, hg1, hg2, hg3, hg4, hg5, hg6]
  sl_rw [prog_eq t]
  iapply (bodyRun c (XA7 m c) (XA8 m c) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (G0 m c t) (G1 m c t) (G2 m c t) (G3 m c t) (G4 m c t) (G5 m c t) (G6 m c t) g7 g8 g9 g10 g11 (ok0 m h c t) (ok1 m h c t) W)
  isplitl [H0 H1 H2 H3 H4 H5 H6 H9 H10 H11 H12 H13 HF HW]
  · isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [H9 H10 H11 H12 H13]
    · isplitl [H9]; iexact H9
      isplitl [H10]; iexact H10
      isplitl [H11]; iexact H11
      isplitl [H12]; iexact H12
      iexact H13
    isplitl [HF]; iexact HF
    iexact HW
  · iintro ⟨⟨H0, H1, H2, H3, H4, H5, H6⟩, ⟨H9, H10, H11, H12, H13⟩, HF, ⟨%W', HW⟩⟩
    isplitl [Hp HF]
    · iapply (Φ_open m c).2
      isplitl [Hp]; iexact Hp
      iexact HF
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    isplitl [H9]
    · iexists _; isplitr; · ipureintro; exact read_o9 (g9 := g7) ..
      iexact H9
    isplitl [H10]
    · iexists _; isplitr; · ipureintro; exact read_o10 ..
      iexact H10
    isplitl [H11]
    · iexists _; isplitr; · ipureintro; exact read_o11 ..
      iexact H11
    isplitl [H12]
    · iexists _; isplitr; · ipureintro; exact read_o12 ..
      iexact H12
    · iexists _; isplitr; · ipureintro; exact read_o13 ..
      iexact H13

/-! ## The run -/

set_option maxHeartbeats 800000 in
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither cache array. -/
theorem sfx_subD : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut _ _ _ _ ((List.forall_iff_forall_mem.mp hostOps1_sub) op hop) (fun k => k.elim0) ?_
  simp only [hostOps1, List.mem_cons, List.mem_nil_iff, or_false] at hop
  rcases hop with rfl
  intro b hb
  simp only [HH, Finset.mem_insert, Finset.mem_singleton] at hb
  rw [StableHlo.reshape_bufs, Finset.mem_insert, Finset.mem_singleton, not_or]
  rcases hb with rfl | rfl <;> exact ⟨StableHlo.devRef_ne_of_ne (by decide), StableHlo.devRef_ne_of_ne (by decide)⟩

set_option backward.isDefEq.respectTransparency.types false in
/-- From any memory whose lengths lie between 1 and 131072: every weakly fair execution of @main terminates, and every
    final state has the pipeline's arrays at the computed contents, every other buffer at what the host lines leave,
    and every semaphore counter at zero. -/
theorem run_main (h : PreOK m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HH (by decide) m ρ main
    (hbody := fun c => (body_obligation m h c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := fun _ _ => rfl) (hin := fun _ => .rfl) (hout := fun _ => .rfl)
    (Q' := _) (hQ' := fun _ h => h)

/-- No host operation after the region writes `main_arg0`: it ends as launched. -/
theorem W_main_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg3`: it ends as launched. -/
theorem W_main_arg3 (dats : (p : Fin _) → (c : Dev nD) → Dat τ (Elt F) Unit ℕ (UU nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UU nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The argument arrays end as launched. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(((h c).2 main_arg0 (Pipeline.mem_restRefs_of main_arg0 (by decide) (by decide))).trans (W_main_arg0 m (dats m) c)),
      ((h c).1 3).trans (((dats m 0 c).arrAt_in 3 rfl _).trans (V_main_arg1 m c)),
      ((h c).1 4).trans (((dats m 0 c).arrAt_in 4 rfl _).trans (V_main_arg2 m c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 0).trans (((dats m 0 c).arrAt_in 0 rfl _).trans (V_main_arg5 m c)),
      ((h c).1 5).trans (((dats m 0 c).arrAt_in 5 rfl _).trans (V_main_arg6 m c)),
      ((h c).1 1).trans (((dats m 0 c).arrAt_in 1 rfl _).trans (V_main_arg7 m c))⟩

end Cert.KernelIdeal.Run

end
-- ==== Proof.Bits.Chk.lean ====
/-
  The kernel's block schedule in closed form: the printed offsets, guards and trip counts of the ring of transfers, for
  sequence lengths in range, and from them the facts the kernel body checks as it runs.
-/
module

public import proofs.«01_k».proof.Proof.Words
public import proofs.«01_k».proof.Proof.Gen.Kernel.Loops

@[expose] public section

namespace Cert.Kernel.Chk

open Cert.Kernel Cert.Proof.Words
open Idealize.ShloMosaic
open Affine

variable {v0 v19 : BitVec 32}

/-- The first loop makes one trip per block of sequence 0. -/
theorem trips1_eq (h : InR v0) : (k0_t1_loop v0).trips = nch v0 := trips_main (isInt_ub (isInt_CH h) (nch_le h))
theorem trips3_eq (h : InR v19) : (k0_t3_loop v19).trips = nch v19 := trips_main (isInt_ub (isInt_CH h) (nch_le h))
/-- The remainder loops make no trip. -/
theorem trips2_eq (h : InR v0) : (k0_t2_loop v0).trips = 0 :=
  trips_rem (isInt_ub (isInt_CH h) (nch_le h)) (isInt_ub2 (isInt_CH h) (nch_le h))
theorem trips4_eq (h : InR v19) : (k0_t4_loop v19).trips = 0 :=
  trips_rem (isInt_ub (isInt_CH h) (nch_le h)) (isInt_ub2 (isInt_CH h) (nch_le h))

theorem ok1 (h : InR v0) : (k0_t1_loop v0).OK := by
  have := nch_le h
  exact ok (lit 0 (by decide)) (isInt_ub (isInt_CH h) (nch_le h)) (lit 1 (by decide)) (by omega)
theorem ok3 (h : InR v19) : (k0_t3_loop v19).OK := by
  have := nch_le h
  exact ok (lit 0 (by decide)) (isInt_ub (isInt_CH h) (nch_le h)) (lit 1 (by decide)) (by omega)
theorem ok2 (h : InR v0) : (k0_t2_loop v0).OK := by
  have := nch_le h
  exact ok (isInt_ub (isInt_CH h) (nch_le h)) (isInt_ub2 (isInt_CH h) (nch_le h)) (lit 1 (by decide)) (by omega)
theorem ok4 (h : InR v19) : (k0_t4_loop v19).OK := by
  have := nch_le h
  exact ok (isInt_ub (isInt_CH h) (nch_le h)) (isInt_ub2 (isInt_CH h) (nch_le h)) (lit 1 (by decide)) (by omega)

/-- The number of steps of the flattened schedule. -/
theorem isInt_total (h0 : InR v0) (h1 : InR v19) :
    IsInt (Scalar.addi (Scalar.addi 0#32 (CH v0)) (CH v19)) ((nch v0 + nch v19 : ℕ) : ℤ) := by
  have := nch_le h0
  have := nch_le h1
  exact addi (addi (e := (nch v0 : ℤ)) (lit 0 (by decide)) (isInt_CH h0) ⟨by ring, by omega, by omega⟩) (isInt_CH h1)
    ⟨by push_cast; rfl, by omega, by omega⟩

/-- The step of trip `k` of the first loop, and the step it fetches ahead. -/
theorem isInt_p1 (k : ℕ) (hk : k < 32) : IsInt (Scalar.addi 0#32 (Scf.iv 0#32 1#32 k)) (k : ℤ) :=
  addi (lit 0 (by decide)) (isInt_iv k (by omega)) ⟨by ring, by omega, by omega⟩
theorem isInt_a1 (k : ℕ) (hk : k < 32) :
    IsInt (Scalar.subi (Scalar.addi (Scalar.addi 0#32 (Scf.iv 0#32 1#32 k)) 4#32) 1#32) ((k + 3 : ℕ) : ℤ) :=
  subi (addi (e := (k : ℤ) + 4) (isInt_p1 k hk) (lit 4 (by decide)) ⟨by norm_num, by omega, by omega⟩) (lit 1 (by decide))
    ⟨by push_cast; ring, by omega, by omega⟩
theorem isInt_p3 (h0 : InR v0) (k : ℕ) (hk : k < 32) :
    IsInt (Scalar.addi (Scalar.addi 0#32 (CH v0)) (Scf.iv 0#32 1#32 k)) ((nch v0 + k : ℕ) : ℤ) := by
  have := nch_le h0
  exact addi (addi (e := (nch v0 : ℤ)) (lit 0 (by decide)) (isInt_CH h0) ⟨by ring, by omega, by omega⟩) (isInt_iv k (by omega))
    ⟨by push_cast; rfl, by omega, by omega⟩
theorem isInt_a3 (h0 : InR v0) (k : ℕ) (hk : k < 32) :
    IsInt (Scalar.subi (Scalar.addi (Scalar.addi (Scalar.addi 0#32 (CH v0)) (Scf.iv 0#32 1#32 k)) 4#32) 1#32) ((nch v0 + k + 3 : ℕ) : ℤ) := by
  have := nch_le h0
  exact subi (addi (e := ((nch v0 + k : ℕ) : ℤ) + 4) (isInt_p3 h0 k hk) (lit 4 (by decide)) ⟨by norm_num, by omega, by omega⟩) (lit 1 (by decide))
    ⟨by push_cast; ring, by omega, by omega⟩

theorem lt1 (h : InR v0) (k : Fin (k0_t1_loop v0).trips) : k.val < nch v0 := (trips1_eq h) ▸ k.isLt
theorem lt3 (h : InR v19) (k : Fin (k0_t3_loop v19).trips) : k.val < nch v19 := (trips3_eq h) ▸ k.isLt
theorem lt1' (h : InR v0) (k : Fin (k0_t1_loop v0).trips) : k.val < 32 := lt_of_lt_of_le (lt1 h k) (nch_le h)
theorem lt3' (h : InR v19) (k : Fin (k0_t3_loop v19).trips) : k.val < 32 := lt_of_lt_of_le (lt3 h k) (nch_le h)

/-! ## Guards -/

theorem cond1_iff (h0 : InR v0) (h1 : InR v19) : k0_cond1 v0 v19 = 1#1 ↔ 0 < nch v0 + nch v19 := guard_iff' (lit 0 (by decide)) (isInt_total h0 h1)
theorem cond2_iff (h0 : InR v0) (h1 : InR v19) : k0_cond2 v0 v19 = 1#1 ↔ 1 < nch v0 + nch v19 := guard_iff' (lit 1 (by decide)) (isInt_total h0 h1)
theorem cond3_iff (h0 : InR v0) (h1 : InR v19) : k0_cond3 v0 v19 = 1#1 ↔ 2 < nch v0 + nch v19 := guard_iff' (lit 2 (by decide)) (isInt_total h0 h1)
theorem cond4_iff (h0 : InR v0) (h1 : InR v19) (k : Fin (k0_t1_loop v0).trips) :
    k0_cond4 v0 v19 k = 1#1 ↔ k.val + 3 < nch v0 + nch v19 := guard_iff (isInt_a1 k.val (lt1' h0 k)) (isInt_total h0 h1)
theorem cond6_iff (h0 : InR v0) (h1 : InR v19) (k : Fin (k0_t3_loop v19).trips) :
    k0_cond6 v0 v19 k = 1#1 ↔ nch v0 + k.val + 3 < nch v0 + nch v19 := guard_iff (isInt_a3 h0 k.val (lt3' h1 k)) (isInt_total h0 h1)

/-! ## Offsets -/

theorem off1_eq : k0_off1 = semOff (Ring.sl 4 0) 0 := by decide
theorem off2_eq : k0_off2 = slotOff (Ring.sl 4 0) := by decide
theorem off3_eq (h0 : InR v0) : k0_off3 v0 = blkOff (bOf (nch v0) 0) (cOf (nch v0) 0) :=
  blk_vec (isInt_CH h0) (lit 0 (by decide)) (nch_le h0) (by omega)
theorem off4_eq : k0_off4 = semOff (Ring.sl 4 0) 1 := by decide
theorem off5_eq : k0_off5 = semOff (Ring.sl 4 1) 0 := by decide
theorem off6_eq : k0_off6 = slotOff (Ring.sl 4 1) := by decide
theorem off7_eq (h0 : InR v0) : k0_off7 v0 = blkOff (bOf (nch v0) 1) (cOf (nch v0) 1) :=
  blk_vec (isInt_CH h0) (lit 1 (by decide)) (nch_le h0) (by omega)
theorem off8_eq : k0_off8 = semOff (Ring.sl 4 1) 1 := by decide
theorem off9_eq : k0_off9 = semOff (Ring.sl 4 2) 0 := by decide
theorem off10_eq : k0_off10 = slotOff (Ring.sl 4 2) := by decide
theorem off11_eq (h0 : InR v0) : k0_off11 v0 = blkOff (bOf (nch v0) 2) (cOf (nch v0) 2) :=
  blk_vec (isInt_CH h0) (lit 2 (by decide)) (nch_le h0) (by omega)
theorem off12_eq : k0_off12 = semOff (Ring.sl 4 2) 1 := by decide

section T1
variable (h0 : InR v0) (k : Fin (k0_t1_loop v0).trips)
include h0
theorem off13_eq : k0_off13 v0 k = semOff (Ring.sl 4 (k.val + 3)) 0 := sem_vec (isInt_a1 k.val (lt1' h0 k)) (by have := lt1' h0 k; omega) 0
theorem off14_eq : k0_off14 v0 k = slotOff (Ring.sl 4 (k.val + 3)) := slot_vec (isInt_a1 k.val (lt1' h0 k)) (by have := lt1' h0 k; omega)
theorem off15_eq : k0_off15 v0 k = blkOff (bOf (nch v0) (k.val + 3)) (cOf (nch v0) (k.val + 3)) :=
  blk_vec (isInt_CH h0) (isInt_a1 k.val (lt1' h0 k)) (nch_le h0) (by have := lt1 h0 k; omega)
theorem off16_eq : k0_off16 v0 k = semOff (Ring.sl 4 (k.val + 3)) 1 := sem_vec (isInt_a1 k.val (lt1' h0 k)) (by have := lt1' h0 k; omega) 1
theorem off17_eq : k0_off17 v0 k = semOff (Ring.sl 4 k.val) 0 := sem_vec (isInt_p1 k.val (lt1' h0 k)) (by have := lt1' h0 k; omega) 0
theorem off18_eq : k0_off18 v0 k = slotOff (Ring.sl 4 k.val) := slot_vec (isInt_p1 k.val (lt1' h0 k)) (by have := lt1' h0 k; omega)
theorem off19_eq : k0_off19 v0 k = blkOff (bOf (nch v0) k.val) (cOf (nch v0) k.val) :=
  blk_vec (isInt_CH h0) (isInt_p1 k.val (lt1' h0 k)) (nch_le h0) (by have := lt1 h0 k; omega)
theorem off20_eq : k0_off20 v0 k = semOff (Ring.sl 4 k.val) 1 := sem_vec (isInt_p1 k.val (lt1' h0 k)) (by have := lt1' h0 k; omega) 1
theorem off21_eq : k0_off21 v0 k = slotOff (Ring.sl 4 k.val) := slot_vec (isInt_p1 k.val (lt1' h0 k)) (by have := lt1' h0 k; omega)
end T1

section T3
variable (h0 : InR v0) (h1 : InR v19) (k : Fin (k0_t3_loop v19).trips)
include h0 h1
theorem lt3a : nch v0 + k.val + 3 < 96 := by have := lt3' h1 k; have := nch_le h0; omega
theorem off31_eq : k0_off31 v0 v19 k = semOff (Ring.sl 4 (nch v0 + k.val + 3)) 0 := sem_vec (isInt_a3 h0 k.val (lt3' h1 k)) (lt3a h0 h1 k) 0
theorem off32_eq : k0_off32 v0 v19 k = slotOff (Ring.sl 4 (nch v0 + k.val + 3)) := slot_vec (isInt_a3 h0 k.val (lt3' h1 k)) (lt3a h0 h1 k)
theorem off33_eq (hg : nch v0 + k.val + 3 < nch v0 + nch v19) :
    k0_off33 v0 v19 k = blkOff (bOf (nch v0) (nch v0 + k.val + 3)) (cOf (nch v0) (nch v0 + k.val + 3)) :=
  blk_vec (isInt_CH h0) (isInt_a3 h0 k.val (lt3' h1 k)) (nch_le h0) (by have := nch_le h1; omega)
theorem off34_eq : k0_off34 v0 v19 k = semOff (Ring.sl 4 (nch v0 + k.val + 3)) 1 := sem_vec (isInt_a3 h0 k.val (lt3' h1 k)) (lt3a h0 h1 k) 1
theorem off35_eq : k0_off35 v0 v19 k = semOff (Ring.sl 4 (nch v0 + k.val)) 0 := sem_vec (isInt_p3 h0 k.val (lt3' h1 k)) (by have := lt3a h0 h1 k; omega) 0
theorem off36_eq : k0_off36 v0 v19 k = slotOff (Ring.sl 4 (nch v0 + k.val)) := slot_vec (isInt_p3 h0 k.val (lt3' h1 k)) (by have := lt3a h0 h1 k; omega)
theorem off37_eq : k0_off37 v0 v19 k = blkOff (bOf (nch v0) (nch v0 + k.val)) (cOf (nch v0) (nch v0 + k.val)) :=
  blk_vec (isInt_CH h0) (isInt_p3 h0 k.val (lt3' h1 k)) (nch_le h0) (by have := lt3' h1 k; omega)
theorem off38_eq : k0_off38 v0 v19 k = semOff (Ring.sl 4 (nch v0 + k.val)) 1 := sem_vec (isInt_p3 h0 k.val (lt3' h1 k)) (by have := lt3a h0 h1 k; omega) 1
theorem off39_eq : k0_off39 v0 v19 k = slotOff (Ring.sl 4 (nch v0 + k.val)) := slot_vec (isInt_p3 h0 k.val (lt3' h1 k)) (by have := lt3a h0 h1 k; omega)
end T3

/-! ## The facts the body checks -/

theorem inb_slot (s : Fin 4) : ∀ a, slotOff s a + S1x256x4096.size a ≤ S4x256x4096.size a := by decide +revert
theorem inb_sem (s : Fin 4) (j : Fin 2) : ∀ a, semOff s j a + S1x1.size a ≤ S4x2.size a := by decide +revert
theorem inb_blk (b : Fin 2) (c : Fin 32) : ∀ a, blkOff b c a + S1x256x4096.size a ≤ S2x256x131072.size a := by decide +revert
theorem words_slot {off : Fin 3 → ℕ} (h : off 1 = 0) (hinb : ∀ a, off a + S1x256x4096.size a ≤ S4x256x4096.size a) :
    (Rect.unit (s := S4x256x4096) off S1x256x4096.size hinb).WholeWords (EltTy.packing .fp8e4m3) := Affine.words_rows (by decide) h rfl
theorem words_blk {off : Fin 3 → ℕ} (h : off 1 = 0) (hinb : ∀ a, off a + S1x256x4096.size a ≤ S2x256x131072.size a) :
    (Rect.unit (s := S2x256x131072) off S1x256x4096.size hinb).WholeWords (EltTy.packing .fp8e4m3) := Affine.words_rows (by decide) h rfl

theorem isSlot {off : Fin 3 → ℕ} {s : Fin 4} (h : off = slotOff s) : ∀ a, off a + S1x256x4096.size a ≤ S4x256x4096.size a := h ▸ inb_slot s
theorem isSem {off : Fin 2 → ℕ} {s : Fin 4} {j : Fin 2} (h : off = semOff s j) : ∀ a, off a + S1x1.size a ≤ S4x2.size a := h ▸ inb_sem s j
theorem isBlk {off : Fin 3 → ℕ} {b : Fin 2} {c : Fin 32} (h : off = blkOff b c) : ∀ a, off a + S1x256x4096.size a ≤ S2x256x131072.size a := h ▸ inb_blk b c

theorem no2 (h : InR v0) (k : Fin (k0_t2_loop v0).trips) : False := absurd (Nat.lt_of_lt_of_eq k.isLt (trips2_eq h)) (Nat.not_lt_zero _)
theorem no4 (h : InR v19) (k : Fin (k0_t4_loop v19).trips) : False := absurd (Nat.lt_of_lt_of_eq k.isLt (trips4_eq h)) (Nat.not_lt_zero _)

/-- What the body checks once it has the first length. -/
theorem chk2 (h : InR v0) : k0_chk2 v0 :=
  ⟨ok1 h, fun k => isSem (off17_eq h k), fun k => isSlot (off18_eq h k), fun k => isBlk (off19_eq h k), fun _ => words_blk rfl, fun _ => words_slot rfl,
   fun k => isSem (off20_eq h k), fun k => isSlot (off21_eq h k), ok2 h,
   fun k => (no2 h k).elim, fun k => (no2 h k).elim, fun k => (no2 h k).elim, fun k => (no2 h k).elim, fun k => (no2 h k).elim, fun k => (no2 h k).elim, fun k => (no2 h k).elim⟩

/-- What it checks once it has both. -/
theorem chk1 (h : InR v0) (h' : InR v19) : k0_chk1 v0 v19 :=
  ⟨⟨fun _ => isBlk (off3_eq h), fun _ => words_blk rfl, fun _ => isBlk (off7_eq h), fun _ => words_blk rfl, fun _ => isBlk (off11_eq h), fun _ => words_blk rfl,
    fun k _ => isSem (off13_eq h k), fun k _ => isSlot (off14_eq h k), fun k _ => isBlk (off15_eq h k), fun _ _ => words_blk rfl, fun _ _ => words_slot rfl,
    fun k _ => isSem (off16_eq h k),
    fun k => (no2 h k).elim, fun k => (no2 h k).elim, fun k => (no2 h k).elim, fun k => (no2 h k).elim, fun k => (no2 h k).elim, fun k => (no2 h k).elim,
    ok3 h',
    fun k _ => isSem (off31_eq h h' k), fun k _ => isSlot (off32_eq h h' k), fun k hk => isBlk (off33_eq h h' k ((cond6_iff h h' k).mp hk)),
    fun _ _ => words_blk rfl, fun _ _ => words_slot rfl, fun k _ => isSem (off34_eq h h' k),
    fun k => isSem (off35_eq h h' k), fun k => isSlot (off36_eq h h' k), fun k => isBlk (off37_eq h h' k),
    fun _ => words_blk rfl, fun _ => words_slot rfl, fun k => isSem (off38_eq h h' k), fun k => isSlot (off39_eq h h' k)⟩,
   ⟨ok4 h', fun k => (no4 h' k).elim, fun k => (no4 h' k).elim, fun k => (no4 h' k).elim, fun k => (no4 h' k).elim, fun k => (no4 h' k).elim, fun k => (no4 h' k).elim,
    fun k => (no4 h' k).elim, fun k => (no4 h' k).elim, fun k => (no4 h' k).elim, fun k => (no4 h' k).elim, fun k => (no4 h' k).elim, fun k => (no4 h' k).elim, fun k => (no4 h' k).elim⟩⟩

end Cert.Kernel.Chk

end
-- ==== Proof.Bits.Ring.lean ====
/-
  The kernel's ring of transfers: four slots of two buffers (keys, values), each with a cell per buffer; slot `p % 4`
  carries the block of step `p` of the flattened schedule. A slot is FREE (its buffers, its cells at zero, and its own
  read share of the two cache arrays) or IN FLIGHT with a block. One trip of a main loop starts the transfers of step
  `p + 3` when there is such a step, waits for those of step `p`, and folds the block into the running
  (maximum, sum, accumulator).
-/
module

public import proofs.«01_k».proof.Defs
public import proofs.«01_k».proof.Proof.Bits.Chk
public import proofs.«01_k».proof.Proof.Launch
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffix
public import Idealize.ShloMosaic.Lib.Ring
public import Idealize.ShloMosaic.Lib.Affine
public import Idealize.ShloMosaic.Lib.Tactic

@[expose] public section

noncomputable section

namespace Cert.Kernel.Run

open Cert.Kernel Cert.Kernel.Gen Cert.Kernel.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

abbrev UU (nD : Nat) (τ : Topo) : Type := UD sig nD τ
local notation "𝕄" => MT nD τ sig Unit (Elt F) ℕ (UU nD τ) ℕ
abbrev 𝒱₀ : Variants := Variants.none

omit [FloatOps F] in
theorem entails_of_eq {P Q : sProp 𝕄} (e : P = Q) : P ⊢ Q := e ▸ .rfl

/-! ## Canonical names -/

abbrev a7 : Memref sig .tc .hbm S2x256x131072 .fp8e4m3 := Memref.whole main_v3
abbrev a8 : Memref sig .tc .hbm S2x256x131072 .fp8e4m3 := Memref.whole main_v5
abbrev b14 : Memref sig .tc .vmem S4x256x4096 .fp8e4m3 := Memref.whole cc0_scratch0
abbrev b15 : Memref sig .tc .vmem S4x256x4096 .fp8e4m3 := Memref.whole cc0_scratch1
abbrev sm16 : DmaSems sig S4x2 := cc0_scratch2

/-- Block `c` of sequence `b` of the keys, of the values, as the body slices and squeezes them. -/
def g7 (b : Fin 2) (c : Fin 32) : Memref sig .tc .hbm S256x4096 .fp8e4m3 :=
  (a7.slice (Rect.unit (s := S2x256x131072) (blkOff b c) S1x256x4096.size (inb_blk b c)) (fun _ => rfl)).squeeze S256x4096 squeezes_S1x256x4096_S256x4096
def g8 (b : Fin 2) (c : Fin 32) : Memref sig .tc .hbm S256x4096 .fp8e4m3 :=
  (a8.slice (Rect.unit (s := S2x256x131072) (blkOff b c) S1x256x4096.size (inb_blk b c)) (fun _ => rfl)).squeeze S256x4096 squeezes_S1x256x4096_S256x4096
/-- Slot `s` of the key buffer, of the value buffer. -/
def k14 (s : Fin 4) : Memref sig .tc .vmem S256x4096 .fp8e4m3 :=
  (b14.slice (Rect.unit (s := S4x256x4096) (slotOff s) S1x256x4096.size (inb_slot s)) (fun _ => rfl)).squeeze S256x4096 squeezes_S1x256x4096_S256x4096
def v15 (s : Fin 4) : Memref sig .tc .vmem S256x4096 .fp8e4m3 :=
  (b15.slice (Rect.unit (s := S4x256x4096) (slotOff s) S1x256x4096.size (inb_slot s)) (fun _ => rfl)).squeeze S256x4096 squeezes_S1x256x4096_S256x4096
/-- Cell `j` of slot `s`. -/
def csm (s : Fin 4) (j : Fin 2) : DmaSems sig S_ :=
  (sm16.slice (Rect.unit (s := S4x2) (semOff s j) S1x1.size (inb_sem s j))).squeeze S_ squeezes_S1x1_S_

instance (s : Fin 4) : ClosedOff (slotOff s) := ⟨slotOff s, rfl⟩
instance (b : Fin 2) (c : Fin 32) : ClosedOff (blkOff b c) := ⟨blkOff b c, rfl⟩

section Canon

theorem csm_congr {off : Fin 2 → ℕ} {s : Fin 4} {j : Fin 2} (e : off = semOff s j) (hh) :
    (sm16.slice (Rect.unit (s := S4x2) off S1x1.size hh)).squeeze S_ squeezes_S1x1_S_ = csm s j :=
  congrArg (fun A : DmaSems sig S1x1 => A.squeeze S_ squeezes_S1x1_S_) (SemArray.slice_unit_congr _ e _ _)
theorem k14_congr {off : Fin 3 → ℕ} {s : Fin 4} (e : off = slotOff s) (hh hs) :
    (b14.slice (Rect.unit (s := S4x256x4096) off S1x256x4096.size hh) hs).squeeze S256x4096 squeezes_S1x256x4096_S256x4096 = k14 s :=
  congrArg (fun M : Memref sig .tc .vmem S1x256x4096 .fp8e4m3 => M.squeeze S256x4096 squeezes_S1x256x4096_S256x4096) (Memref.slice_unit_congr _ e _ _ _ _)
theorem v15_congr {off : Fin 3 → ℕ} {s : Fin 4} (e : off = slotOff s) (hh hs) :
    (b15.slice (Rect.unit (s := S4x256x4096) off S1x256x4096.size hh) hs).squeeze S256x4096 squeezes_S1x256x4096_S256x4096 = v15 s :=
  congrArg (fun M : Memref sig .tc .vmem S1x256x4096 .fp8e4m3 => M.squeeze S256x4096 squeezes_S1x256x4096_S256x4096) (Memref.slice_unit_congr _ e _ _ _ _)
theorem g7_congr {off : Fin 3 → ℕ} {b : Fin 2} {c : Fin 32} (e : off = blkOff b c) (hh hs) :
    (a7.slice (Rect.unit (s := S2x256x131072) off S1x256x4096.size hh) hs).squeeze S256x4096 squeezes_S1x256x4096_S256x4096 = g7 b c :=
  congrArg (fun M : Memref sig .tc .hbm S1x256x4096 .fp8e4m3 => M.squeeze S256x4096 squeezes_S1x256x4096_S256x4096) (Memref.slice_unit_congr _ e _ _ _ _)
theorem g8_congr {off : Fin 3 → ℕ} {b : Fin 2} {c : Fin 32} (e : off = blkOff b c) (hh hs) :
    (a8.slice (Rect.unit (s := S2x256x131072) off S1x256x4096.size hh) hs).squeeze S256x4096 squeezes_S1x256x4096_S256x4096 = g8 b c :=
  congrArg (fun M : Memref sig .tc .hbm S1x256x4096 .fp8e4m3 => M.squeeze S256x4096 squeezes_S1x256x4096_S256x4096) (Memref.slice_unit_congr _ e _ _ _ _)

/-! The prologue's slices. -/
@[sl_canon] theorem sem_o1 (hh) : (sm16.slice (Rect.unit (s := S4x2) k0_off1 S1x1.size hh)).squeeze S_ squeezes_S1x1_S_ = csm (Ring.sl 4 0) 0 := csm_congr off1_eq _
@[sl_canon] theorem sem_o4 (hh) : (sm16.slice (Rect.unit (s := S4x2) k0_off4 S1x1.size hh)).squeeze S_ squeezes_S1x1_S_ = csm (Ring.sl 4 0) 1 := csm_congr off4_eq _
@[sl_canon] theorem sem_o5 (hh) : (sm16.slice (Rect.unit (s := S4x2) k0_off5 S1x1.size hh)).squeeze S_ squeezes_S1x1_S_ = csm (Ring.sl 4 1) 0 := csm_congr off5_eq _
@[sl_canon] theorem sem_o8 (hh) : (sm16.slice (Rect.unit (s := S4x2) k0_off8 S1x1.size hh)).squeeze S_ squeezes_S1x1_S_ = csm (Ring.sl 4 1) 1 := csm_congr off8_eq _
@[sl_canon] theorem sem_o9 (hh) : (sm16.slice (Rect.unit (s := S4x2) k0_off9 S1x1.size hh)).squeeze S_ squeezes_S1x1_S_ = csm (Ring.sl 4 2) 0 := csm_congr off9_eq _
@[sl_canon] theorem sem_o12 (hh) : (sm16.slice (Rect.unit (s := S4x2) k0_off12 S1x1.size hh)).squeeze S_ squeezes_S1x1_S_ = csm (Ring.sl 4 2) 1 := csm_congr off12_eq _
@[sl_canon] theorem k_o2 (hh hs) : (b14.slice (Rect.unit (s := S4x256x4096) k0_off2 S1x256x4096.size hh) hs).squeeze S256x4096 squeezes_S1x256x4096_S256x4096 = k14 (Ring.sl 4 0) := k14_congr off2_eq _ _
@[sl_canon] theorem v_o2 (hh hs) : (b15.slice (Rect.unit (s := S4x256x4096) k0_off2 S1x256x4096.size hh) hs).squeeze S256x4096 squeezes_S1x256x4096_S256x4096 = v15 (Ring.sl 4 0) := v15_congr off2_eq _ _
@[sl_canon] theorem k_o6 (hh hs) : (b14.slice (Rect.unit (s := S4x256x4096) k0_off6 S1x256x4096.size hh) hs).squeeze S256x4096 squeezes_S1x256x4096_S256x4096 = k14 (Ring.sl 4 1) := k14_congr off6_eq _ _
@[sl_canon] theorem v_o6 (hh hs) : (b15.slice (Rect.unit (s := S4x256x4096) k0_off6 S1x256x4096.size hh) hs).squeeze S256x4096 squeezes_S1x256x4096_S256x4096 = v15 (Ring.sl 4 1) := v15_congr off6_eq _ _
@[sl_canon] theorem k_o10 (hh hs) : (b14.slice (Rect.unit (s := S4x256x4096) k0_off10 S1x256x4096.size hh) hs).squeeze S256x4096 squeezes_S1x256x4096_S256x4096 = k14 (Ring.sl 4 2) := k14_congr off10_eq _ _
@[sl_canon] theorem v_o10 (hh hs) : (b15.slice (Rect.unit (s := S4x256x4096) k0_off10 S1x256x4096.size hh) hs).squeeze S256x4096 squeezes_S1x256x4096_S256x4096 = v15 (Ring.sl 4 2) := v15_congr off10_eq _ _

section B
variable (v0 : BitVec 32) (h0 : InR v0)
@[sl_canon] theorem g7_o3 (h0 : InR v0) (hh hs) : (a7.slice (Rect.unit (s := S2x256x131072) (k0_off3 v0) S1x256x4096.size hh) hs).squeeze S256x4096 squeezes_S1x256x4096_S256x4096 = g7 (bOf (nch v0) 0) (cOf (nch v0) 0) := g7_congr (off3_eq h0) _ _
@[sl_canon] theorem g8_o3 (h0 : InR v0) (hh hs) : (a8.slice (Rect.unit (s := S2x256x131072) (k0_off3 v0) S1x256x4096.size hh) hs).squeeze S256x4096 squeezes_S1x256x4096_S256x4096 = g8 (bOf (nch v0) 0) (cOf (nch v0) 0) := g8_congr (off3_eq h0) _ _
@[sl_canon] theorem g7_o7 (h0 : InR v0) (hh hs) : (a7.slice (Rect.unit (s := S2x256x131072) (k0_off7 v0) S1x256x4096.size hh) hs).squeeze S256x4096 squeezes_S1x256x4096_S256x4096 = g7 (bOf (nch v0) 1) (cOf (nch v0) 1) := g7_congr (off7_eq h0) _ _
@[sl_canon] theorem g8_o7 (h0 : InR v0) (hh hs) : (a8.slice (Rect.unit (s := S2x256x131072) (k0_off7 v0) S1x256x4096.size hh) hs).squeeze S256x4096 squeezes_S1x256x4096_S256x4096 = g8 (bOf (nch v0) 1) (cOf (nch v0) 1) := g8_congr (off7_eq h0) _ _
@[sl_canon] theorem g7_o11 (h0 : InR v0) (hh hs) : (a7.slice (Rect.unit (s := S2x256x131072) (k0_off11 v0) S1x256x4096.size hh) hs).squeeze S256x4096 squeezes_S1x256x4096_S256x4096 = g7 (bOf (nch v0) 2) (cOf (nch v0) 2) := g7_congr (off11_eq h0) _ _
@[sl_canon] theorem g8_o11 (h0 : InR v0) (hh hs) : (a8.slice (Rect.unit (s := S2x256x131072) (k0_off11 v0) S1x256x4096.size hh) hs).squeeze S256x4096 squeezes_S1x256x4096_S256x4096 = g8 (bOf (nch v0) 2) (cOf (nch v0) 2) := g8_congr (off11_eq h0) _ _
end B

section T1
variable (v0 : BitVec 32) (k : Fin (k0_t1_loop v0).trips)
@[sl_canon] theorem sem_o13 (h0 : InR v0) (hh) : (sm16.slice (Rect.unit (s := S4x2) (k0_off13 v0 k) S1x1.size hh)).squeeze S_ squeezes_S1x1_S_ = csm (Ring.sl 4 (k.val + 3)) 0 := csm_congr (off13_eq h0 k) _
@[sl_canon] theorem sem_o16 (h0 : InR v0) (hh) : (sm16.slice (Rect.unit (s := S4x2) (k0_off16 v0 k) S1x1.size hh)).squeeze S_ squeezes_S1x1_S_ = csm (Ring.sl 4 (k.val + 3)) 1 := csm_congr (off16_eq h0 k) _
@[sl_canon] theorem sem_o17 (h0 : InR v0) (hh) : (sm16.slice (Rect.unit (s := S4x2) (k0_off17 v0 k) S1x1.size hh)).squeeze S_ squeezes_S1x1_S_ = csm (Ring.sl 4 k.val) 0 := csm_congr (off17_eq h0 k) _
@[sl_canon] theorem sem_o20 (h0 : InR v0) (hh) : (sm16.slice (Rect.unit (s := S4x2) (k0_off20 v0 k) S1x1.size hh)).squeeze S_ squeezes_S1x1_S_ = csm (Ring.sl 4 k.val) 1 := csm_congr (off20_eq h0 k) _
@[sl_canon] theorem k_o14 (h0 : InR v0) (hh hs) : (b14.slice (Rect.unit (s := S4x256x4096) (k0_off14 v0 k) S1x256x4096.size hh) hs).squeeze S256x4096 squeezes_S1x256x4096_S256x4096 = k14 (Ring.sl 4 (k.val + 3)) := k14_congr (off14_eq h0 k) _ _
@[sl_canon] theorem v_o14 (h0 : InR v0) (hh hs) : (b15.slice (Rect.unit (s := S4x256x4096) (k0_off14 v0 k) S1x256x4096.size hh) hs).squeeze S256x4096 squeezes_S1x256x4096_S256x4096 = v15 (Ring.sl 4 (k.val + 3)) := v15_congr (off14_eq h0 k) _ _
@[sl_canon] theorem k_o18 (h0 : InR v0) (hh hs) : (b14.slice (Rect.unit (s := S4x256x4096) (k0_off18 v0 k) S1x256x4096.size hh) hs).squeeze S256x4096 squeezes_S1x256x4096_S256x4096 = k14 (Ring.sl 4 k.val) := k14_congr (off18_eq h0 k) _ _
@[sl_canon] theorem v_o18 (h0 : InR v0) (hh hs) : (b15.slice (Rect.unit (s := S4x256x4096) (k0_off18 v0 k) S1x256x4096.size hh) hs).squeeze S256x4096 squeezes_S1x256x4096_S256x4096 = v15 (Ring.sl 4 k.val) := v15_congr (off18_eq h0 k) _ _
@[sl_canon] theorem g7_o15 (h0 : InR v0) (hh hs) : (a7.slice (Rect.unit (s := S2x256x131072) (k0_off15 v0 k) S1x256x4096.size hh) hs).squeeze S256x4096 squeezes_S1x256x4096_S256x4096 = g7 (bOf (nch v0) (k.val + 3)) (cOf (nch v0) (k.val + 3)) := g7_congr (off15_eq h0 k) _ _
@[sl_canon] theorem g8_o15 (h0 : InR v0) (hh hs) : (a8.slice (Rect.unit (s := S2x256x131072) (k0_off15 v0 k) S1x256x4096.size hh) hs).squeeze S256x4096 squeezes_S1x256x4096_S256x4096 = g8 (bOf (nch v0) (k.val + 3)) (cOf (nch v0) (k.val + 3)) := g8_congr (off15_eq h0 k) _ _
@[sl_canon] theorem g7_o19 (h0 : InR v0) (hh hs) : (a7.slice (Rect.unit (s := S2x256x131072) (k0_off19 v0 k) S1x256x4096.size hh) hs).squeeze S256x4096 squeezes_S1x256x4096_S256x4096 = g7 (bOf (nch v0) k.val) (cOf (nch v0) k.val) := g7_congr (off19_eq h0 k) _ _
@[sl_canon] theorem g8_o19 (h0 : InR v0) (hh hs) : (a8.slice (Rect.unit (s := S2x256x131072) (k0_off19 v0 k) S1x256x4096.size hh) hs).squeeze S256x4096 squeezes_S1x256x4096_S256x4096 = g8 (bOf (nch v0) k.val) (cOf (nch v0) k.val) := g8_congr (off19_eq h0 k) _ _
instance [Fact (InR v0)] : ClosedOff (k0_off21 v0 k) := ⟨slotOff (Ring.sl 4 k.val), off21_eq Fact.out k⟩
instance [Fact (InR v0)] : ClosedOff (k0_off18 v0 k) := ⟨slotOff (Ring.sl 4 k.val), off18_eq Fact.out k⟩
end T1

section T3
variable (v0 v19 : BitVec 32) (k : Fin (k0_t3_loop v19).trips)
@[sl_canon] theorem sem_o31 (h0 : InR v0) (h1 : InR v19) (hh) : (sm16.slice (Rect.unit (s := S4x2) (k0_off31 v0 v19 k) S1x1.size hh)).squeeze S_ squeezes_S1x1_S_ = csm (Ring.sl 4 (nch v0 + k.val + 3)) 0 := csm_congr (off31_eq h0 h1 k) _
@[sl_canon] theorem sem_o34 (h0 : InR v0) (h1 : InR v19) (hh) : (sm16.slice (Rect.unit (s := S4x2) (k0_off34 v0 v19 k) S1x1.size hh)).squeeze S_ squeezes_S1x1_S_ = csm (Ring.sl 4 (nch v0 + k.val + 3)) 1 := csm_congr (off34_eq h0 h1 k) _
@[sl_canon] theorem sem_o35 (h0 : InR v0) (h1 : InR v19) (hh) : (sm16.slice (Rect.unit (s := S4x2) (k0_off35 v0 v19 k) S1x1.size hh)).squeeze S_ squeezes_S1x1_S_ = csm (Ring.sl 4 (nch v0 + k.val)) 0 := csm_congr (off35_eq h0 h1 k) _
@[sl_canon] theorem sem_o38 (h0 : InR v0) (h1 : InR v19) (hh) : (sm16.slice (Rect.unit (s := S4x2) (k0_off38 v0 v19 k) S1x1.size hh)).squeeze S_ squeezes_S1x1_S_ = csm (Ring.sl 4 (nch v0 + k.val)) 1 := csm_congr (off38_eq h0 h1 k) _
@[sl_canon] theorem k_o32 (h0 : InR v0) (h1 : InR v19) (hh hs) : (b14.slice (Rect.unit (s := S4x256x4096) (k0_off32 v0 v19 k) S1x256x4096.size hh) hs).squeeze S256x4096 squeezes_S1x256x4096_S256x4096 = k14 (Ring.sl 4 (nch v0 + k.val + 3)) := k14_congr (off32_eq h0 h1 k) _ _
@[sl_canon] theorem v_o32 (h0 : InR v0) (h1 : InR v19) (hh hs) : (b15.slice (Rect.unit (s := S4x256x4096) (k0_off32 v0 v19 k) S1x256x4096.size hh) hs).squeeze S256x4096 squeezes_S1x256x4096_S256x4096 = v15 (Ring.sl 4 (nch v0 + k.val + 3)) := v15_congr (off32_eq h0 h1 k) _ _
@[sl_canon] theorem k_o36 (h0 : InR v0) (h1 : InR v19) (hh hs) : (b14.slice (Rect.unit (s := S4x256x4096) (k0_off36 v0 v19 k) S1x256x4096.size hh) hs).squeeze S256x4096 squeezes_S1x256x4096_S256x4096 = k14 (Ring.sl 4 (nch v0 + k.val)) := k14_congr (off36_eq h0 h1 k) _ _
@[sl_canon] theorem v_o36 (h0 : InR v0) (h1 : InR v19) (hh hs) : (b15.slice (Rect.unit (s := S4x256x4096) (k0_off36 v0 v19 k) S1x256x4096.size hh) hs).squeeze S256x4096 squeezes_S1x256x4096_S256x4096 = v15 (Ring.sl 4 (nch v0 + k.val)) := v15_congr (off36_eq h0 h1 k) _ _
@[sl_canon] theorem g7_o33 (h0 : InR v0) (h1 : InR v19) (hg : nch v0 + k.val + 3 < nch v0 + nch v19) (hh hs) : (a7.slice (Rect.unit (s := S2x256x131072) (k0_off33 v0 v19 k) S1x256x4096.size hh) hs).squeeze S256x4096 squeezes_S1x256x4096_S256x4096 = g7 (bOf (nch v0) (nch v0 + k.val + 3)) (cOf (nch v0) (nch v0 + k.val + 3)) := g7_congr (off33_eq h0 h1 k hg) _ _
@[sl_canon] theorem g8_o33 (h0 : InR v0) (h1 : InR v19) (hg : nch v0 + k.val + 3 < nch v0 + nch v19) (hh hs) : (a8.slice (Rect.unit (s := S2x256x131072) (k0_off33 v0 v19 k) S1x256x4096.size hh) hs).squeeze S256x4096 squeezes_S1x256x4096_S256x4096 = g8 (bOf (nch v0) (nch v0 + k.val + 3)) (cOf (nch v0) (nch v0 + k.val + 3)) := g8_congr (off33_eq h0 h1 k hg) _ _
@[sl_canon] theorem g7_o37 (h0 : InR v0) (h1 : InR v19) (hh hs) : (a7.slice (Rect.unit (s := S2x256x131072) (k0_off37 v0 v19 k) S1x256x4096.size hh) hs).squeeze S256x4096 squeezes_S1x256x4096_S256x4096 = g7 (bOf (nch v0) (nch v0 + k.val)) (cOf (nch v0) (nch v0 + k.val)) := g7_congr (off37_eq h0 h1 k) _ _
@[sl_canon] theorem g8_o37 (h0 : InR v0) (h1 : InR v19) (hh hs) : (a8.slice (Rect.unit (s := S2x256x131072) (k0_off37 v0 v19 k) S1x256x4096.size hh) hs).squeeze S256x4096 squeezes_S1x256x4096_S256x4096 = g8 (bOf (nch v0) (nch v0 + k.val)) (cOf (nch v0) (nch v0 + k.val)) := g8_congr (off37_eq h0 h1 k) _ _
instance [Fact (InR v0)] [Fact (InR v19)] : ClosedOff (k0_off39 v0 v19 k) := ⟨slotOff (Ring.sl 4 (nch v0 + k.val)), off39_eq Fact.out Fact.out k⟩
instance [Fact (InR v0)] [Fact (InR v19)] : ClosedOff (k0_off36 v0 v19 k) := ⟨slotOff (Ring.sl 4 (nch v0 + k.val)), off36_eq Fact.out Fact.out k⟩
end T3

end Canon

/-! ## The pieces -/

section Pieces
variable (c : Dev nD) (X7 : Buf (Elt F) (a7.view.loc (c : Thread nD τ))) (X8 : Buf (Elt F) (a8.view.loc (c : Thread nD τ)))

/-- Slot `s`'s read share of the two cache arrays. -/
def shq : Fin 4 → PosShare TreeShare := ![fullShare.left.left, fullShare.left.right, fullShare.right.left, fullShare.right.right]

abbrev cellP (s : Fin 4) (j : Fin 2) : sProp 𝕄 := semVal ((c : Thread nD τ), SemLoc.dma (csm s j).sem) 0
abbrev kP (s : Fin 4) (f : Buf (Elt F) ((k14 s).view.loc (c : Thread nD τ))) : sProp 𝕄 :=
  (k14 s).view.loc (c : Thread nD τ) ↦[(k14 s).view.set]{fullShare} f
abbrev vP (s : Fin 4) (f : Buf (Elt F) ((v15 s).view.loc (c : Thread nD τ))) : sProp 𝕄 :=
  (v15 s).view.loc (c : Thread nD τ) ↦[(v15 s).view.set]{fullShare} f
/-- A block held at slot `s`'s share, and the rest of the array at the same share. -/
abbrev h7 (s : Fin 4) (b : Fin 2) (cc : Fin 32) : sProp 𝕄 := (g7 b cc).view.loc (c : Thread nD τ) ↦[(g7 b cc).view.set]{shq s} X7
abbrev h8 (s : Fin 4) (b : Fin 2) (cc : Fin 32) : sProp 𝕄 := (g8 b cc).view.loc (c : Thread nD τ) ↦[(g8 b cc).view.set]{shq s} X8
def r7 (s : Fin 4) (b : Fin 2) (cc : Fin 32) : sProp 𝕄 := a7.view.loc (c : Thread nD τ) ↦[Finset.univ \ (g7 b cc).view.set]{shq s} X7
def r8 (s : Fin 4) (b : Fin 2) (cc : Fin 32) : sProp 𝕄 := a8.view.loc (c : Thread nD τ) ↦[Finset.univ \ (g8 b cc).view.set]{shq s} X8
def w7 (s : Fin 4) : sProp 𝕄 := a7.view.loc (c : Thread nD τ) ↦{shq s} X7
def w8 (s : Fin 4) : sProp 𝕄 := a8.view.loc (c : Thread nD τ) ↦{shq s} X8

theorem w7_eq (s : Fin 4) (b : Fin 2) (cc : Fin 32) : w7 c X7 s ⊣⊢ iprop(h7 c X7 s b cc ∗ r7 c X7 s b cc) :=
  pointsTo_split_subset (Finset.subset_univ _)
theorem w8_eq (s : Fin 4) (b : Fin 2) (cc : Fin 32) : w8 c X8 s ⊣⊢ iprop(h8 c X8 s b cc ∗ r8 c X8 s b cc) :=
  pointsTo_split_subset (Finset.subset_univ _)

/-- What a block's transfer leaves in a slot. -/
abbrev land7 (s : Fin 4) (b : Fin 2) (cc : Fin 32) (f : Buf (Elt F) ((k14 s).view.loc (c : Thread nD τ))) : Buf (Elt F) ((k14 s).view.loc (c : Thread nD τ)) :=
  (k14 s).view.writes (Elt F) f [⟨Rect.whole S256x4096, ReadAs.same.apply ((g7 b cc).view.read (Elt F) X7)⟩]
abbrev land8 (s : Fin 4) (b : Fin 2) (cc : Fin 32) (f : Buf (Elt F) ((v15 s).view.loc (c : Thread nD τ))) : Buf (Elt F) ((v15 s).view.loc (c : Thread nD τ)) :=
  (v15 s).view.writes (Elt F) f [⟨Rect.whole S256x4096, ReadAs.same.apply ((g8 b cc).view.read (Elt F) X8)⟩]
/-- A block's transfer on its cell. -/
abbrev fl7 (s : Fin 4) (b : Fin 2) (cc : Fin 32) (f : Buf (Elt F) ((k14 s).view.loc (c : Thread nD τ))) : sProp 𝕄 :=
  Transfers.Flight countersEmb (c : Thread nD τ) (SemLoc.dma (csm s 0).sem) () 32768 iprop(kP c s (land7 c X7 s b cc f) ∗ h7 c X7 s b cc)
abbrev fl8 (s : Fin 4) (b : Fin 2) (cc : Fin 32) (f : Buf (Elt F) ((v15 s).view.loc (c : Thread nD τ))) : sProp 𝕄 :=
  Transfers.Flight countersEmb (c : Thread nD τ) (SemLoc.dma (csm s 1).sem) () 32768 iprop(vP c s (land8 c X8 s b cc f) ∗ h8 c X8 s b cc)

/-- Slot `s` FREE. -/
def Free (s : Fin 4) : sProp 𝕄 :=
  iprop((∃ f, kP c s f) ∗ (∃ f, vP c s f) ∗ cellP c s 0 ∗ cellP c s 1 ∗ w7 c X7 s ∗ w8 c X8 s)
/-- Slot `s` IN FLIGHT with block `cc` of sequence `b`. -/
def Infl (s : Fin 4) (b : Fin 2) (cc : Fin 32) : sProp 𝕄 :=
  iprop((∃ f, fl7 c X7 s b cc f) ∗ (∃ f, fl8 c X8 s b cc f) ∗ r7 c X7 s b cc ∗ r8 c X8 s b cc)
/-- What step `j`'s slot is, of a schedule of `T` steps whose first `n` are sequence 0's, once its transfers are issued. -/
def role (n T j : ℕ) : sProp 𝕄 := if j < T then Infl c X7 X8 (Ring.sl 4 j) (bOf n j) (cOf n j) else Free c X7 X8 (Ring.sl 4 j)
theorem role_lt {n T j : ℕ} (h : j < T) : role c X7 X8 n T j = Infl c X7 X8 (Ring.sl 4 j) (bOf n j) (cOf n j) := if_pos h
theorem role_ge {n T j : ℕ} (h : ¬ j < T) : role c X7 X8 n T j = Free c X7 X8 (Ring.sl 4 j) := if_neg h
/-- The ring before step `p`. -/
def ringAt (n T p : ℕ) : sProp 𝕄 :=
  iprop(role c X7 X8 n T p ∗ role c X7 X8 n T (p + 1) ∗ role c X7 X8 n T (p + 2) ∗ Free c X7 X8 (Ring.sl 4 (p + 3)))

theorem sl4_add4 (p : ℕ) : Ring.sl 4 (p + 1 + 3) = Ring.sl 4 p := by rw [show p + 1 + 3 = p + 4 from rfl, Ring.sl_add]

end Pieces

/-! ## One trip of the first loop -/

section Trip1

variable (c : Dev nD) (X7 : Buf (Elt F) (a7.view.loc (c : Thread nD τ))) (X8 : Buf (Elt F) (a8.view.loc (c : Thread nD τ)))
  (arg0 : Memref sig .tc .smem S2 .i32) (harg0 : arg0.IsWhole) (arg1 : Memref sig .tc .smem S4 .i32) (harg1 : arg1.IsWhole) (arg2 : Memref sig .tc .vmem S2x32x64 .bf16) (harg2 : arg2.IsWhole) (arg3 : Memref sig .tc .vmem S2x1x4x64 .bf16) (harg3 : arg3.IsWhole) (arg4 : Memref sig .tc .vmem S2x1x4x64 .bf16) (harg4 : arg4.IsWhole) (arg5 : Memref sig .tc .vmem S4x64 .i32) (harg5 : arg5.IsWhole) (arg6 : Memref sig .tc .vmem S4x1 .i32) (harg6 : arg6.IsWhole) (arg9 : Memref sig .tc .vmem S2x32x64 .bf16) (harg9 : arg9.IsWhole) (arg10 : Memref sig .tc .vmem S2x1x4x64 .fp8e4m3) (harg10 : arg10.IsWhole) (arg11 : Memref sig .tc .vmem S4x64 .f32) (harg11 : arg11.IsWhole) (arg12 : Memref sig .tc .vmem S2x1x4x64 .fp8e4m3) (harg12 : arg12.IsWhole) (arg13 : Memref sig .tc .smem S4 .f32) (harg13 : arg13.IsWhole)
  (g0 : Buf (Elt F) (arg0.view.loc (c : Thread nD τ)))

abbrev lensP : sProp 𝕄 := arg0.view.loc (c : Thread nD τ) ↦[arg0.view.set]{fullShare} g0

/-- The resources a trip of either main loop touches, before step `p`. -/
def resAt (n T p : ℕ) : sProp 𝕄 := iprop(lensP c arg0 g0 ∗ (∃ W, owes (c : Thread nD τ) 0 W) ∗ ringAt c X7 X8 n T p)

abbrev ACC (F : FTy → Type) [FloatOps F] : Type := FVec F S32x1 .f32 × FVec F S32x1 .f32 × FVec F S32x256 .f32

variable (v0 : Elt F .i32) (k0_hw2 : k0_chk2 v0) (v18 : BitVec 32) (v19 : Elt F .i32) (k0_hw1 : k0_chk1 v0 v19) (v39 : BitVec 32) (v126 : IVec S32x256 1) (v143 : FVec F S4x64 .fp8e4m3) (v167 : FVec F S4x64 .fp8e4m3) (v191 : FVec F S32x64 .f32) (v241 : BitVec 32) (v342 : FVec F S32x256 .bf16)

abbrev trip1 (k : Fin (k0_t1_loop v0).trips) (x : ACC F) : Prog (TpuEff nD τ sig (Elt F) Λ₀ .tc) (ACC F) :=
  k0_t1_body (F := F) arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16 v0 k0_hw2 v18 v19 k0_hw1 v39 v126 v143 v167 v191 k x
abbrev trip3 (k : Fin (k0_t3_loop v19).trips) (x : ACC F) : Prog (TpuEff nD τ sig (Elt F) Λ₀ .tc) (ACC F) :=
  k0_t3_body (F := F) arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16 v0 v18 v19 k0_hw1 v39 v241 v342 k x

/-- Block `cc` of sequence `b` of a cache array. -/
def blkK (b : Fin 2) (cc : Fin 32) : Vec F S1x256x4096 .fp8e4m3 :=
  a7.view.readAt (Elt F) (Rect.unit (s := S2x256x131072) (blkOff b cc) S1x256x4096.size (inb_blk b cc)).toLoadRect X7
def blkV (b : Fin 2) (cc : Fin 32) : Vec F S1x256x4096 .fp8e4m3 :=
  a8.view.readAt (Elt F) (Rect.unit (s := S2x256x131072) (blkOff b cc) S1x256x4096.size (inb_blk b cc)).toLoadRect X8
/-- The lengths, as the body reads them. -/
def len0 : BitVec 32 := arg0.view.readAt (Elt F) (Rect.unit (s := S2) ![0] S1.size inb_S2_S1_0).toLoadRect g0 (Shape.Idx.first (by decide))
def len1 : BitVec 32 := arg0.view.readAt (Elt F) (Rect.unit (s := S2) ![1] S1.size inb_S2_S1_1).toLoadRect g0 (Shape.Idx.first (by decide))

/-- Which columns of chunk `i` lie below the length. -/
def maskAt (i : ℕ) (len : BitVec 32) : IVec S32x4096 1 :=
  cmpi .slt (addi (broadcast S32x4096 (Scalar.muli (Scf.iv 0#32 1#32 i) 4096#32)) (iota .tc S32x4096 32 [1] iota_S32x4096_d1_w32)) (broadcast S32x4096 len)
/-- What a trip makes of the running values: chunk `i`, of keys `K` and values `V`, folded in. -/
def stepF (q : FVec F S32x256 .bf16) (len : BitVec 32) (i : ℕ) (K V : Vec F S1x256x4096 .fp8e4m3) (x : ACC F) : ACC F :=
  (k0_pay45 x.1 (k0_pay14 q K) (maskAt i len), k0_pay48 x.1 x.2.1 (k0_pay14 q K) (maskAt i len), k0_pay49 x.1 x.2.2 (k0_pay14 q K) (maskAt i len) V)
/-- The running values after `k` chunks. -/
def runAcc (q : FVec F S32x256 .bf16) (len : BitVec 32) (K V : ℕ → Vec F S1x256x4096 .fp8e4m3) (init : ACC F) : ℕ → ACC F
  | 0 => init
  | k + 1 => stepF q len k (K k) (V k) (runAcc q len K V init k)

/-- What a load of a whole slot reads once a block has landed in it: the block. -/
theorem read_land7 (s : Fin 4) (b : Fin 2) (cc : Fin 32) (f : Buf (Elt F) ((k14 s).view.loc (c : Thread nD τ))) {off : Fin 3 → ℕ} (e : off = slotOff s)
    (hi : ∀ a, off a + S1x256x4096.size a ≤ S4x256x4096.size a) :
    b14.view.readAt (Elt F) (Rect.unit (s := S4x256x4096) off S1x256x4096.size hi).toLoadRect (land7 c X7 s b cc f) = blkK c X7 b cc := by
  subst e
  have e0 := View.read_writes_whole (k14 s).view f (ReadAs.same.apply ((g7 b cc).view.read (Elt F) X7))
  have hsc : S1x256x4096.ShapeCasts S256x4096 := by decide
  have e1 : shapeCast S256x4096 (b14.view.readAt (Elt F) (Rect.unit (s := S4x256x4096) (slotOff s) S1x256x4096.size hi).toLoadRect (land7 c X7 s b cc f)) hsc
      = shapeCast S256x4096 (blkK c X7 b cc) hsc := e0
  funext i
  obtain ⟨j, rfl⟩ := (Shape.reshapeEquiv hsc).surjective i
  exact congrFun e1 j
theorem read_land8 (s : Fin 4) (b : Fin 2) (cc : Fin 32) (f : Buf (Elt F) ((v15 s).view.loc (c : Thread nD τ))) {off : Fin 3 → ℕ} (e : off = slotOff s)
    (hi : ∀ a, off a + S1x256x4096.size a ≤ S4x256x4096.size a) :
    b15.view.readAt (Elt F) (Rect.unit (s := S4x256x4096) off S1x256x4096.size hi).toLoadRect (land8 c X8 s b cc f) = blkV c X8 b cc := by
  subst e
  have e0 := View.read_writes_whole (v15 s).view f (ReadAs.same.apply ((g8 b cc).view.read (Elt F) X8))
  have hsc : S1x256x4096.ShapeCasts S256x4096 := by decide
  have e1 : shapeCast S256x4096 (b15.view.readAt (Elt F) (Rect.unit (s := S4x256x4096) (slotOff s) S1x256x4096.size hi).toLoadRect (land8 c X8 s b cc f)) hsc
      = shapeCast S256x4096 (blkV c X8 b cc) hsc := e0
  funext i
  obtain ⟨j, rfl⟩ := (Shape.reshapeEquiv hsc).surjective i
  exact congrFun e1 j

set_option backward.proofsInPublic true in
/-- One trip: the ring moves on a step and the running values take the step's block in. -/
theorem tripRun1 (h0 : InR v0) (h1 : InR v19) (k : Fin (k0_t1_loop v0).trips) (x : ACC F) :
    resAt c X7 X8 arg0 g0 (nch v0) (nch v0 + nch v19) k.val
      ⊢ wp frame (wpE (defs₀ (F := F)) 𝒱₀ (c : Thread nD τ) none) Set.univ (trip1 arg0 harg0 arg1 harg1 arg2 harg2 arg3 harg3 arg4 harg4 arg5 harg5 arg6 harg6 arg9 harg9 arg10 harg10 arg11 harg11 arg12 harg12 arg13 harg13 v0 k0_hw2 v18 v19 k0_hw1 v39 v126 v143 v167 v191 k x)
        (fun y => iprop(⌜y = stepF (k0_pay40 v126 v191) (len0 c arg0 g0) k.val (blkK c X7 (bOf (nch v0) (k.val)) (cOf (nch v0) (k.val))) (blkV c X8 (bOf (nch v0) (k.val)) (cOf (nch v0) (k.val))) x⌝
          ∗ resAt c X7 X8 arg0 g0 (nch v0) (nch v0 + nch v19) (k.val + 1))) := by
  have hk : k.val < nch v0 + nch v19 := by have := lt1 h0 k; omega
  unfold resAt ringAt
  rw [sl4_add4, role_lt c X7 X8 hk, show k.val + 1 + 1 = k.val + 2 from rfl, show k.val + 1 + 2 = k.val + 3 from rfl]
  haveI : Fact (InR v0) := ⟨h0⟩
  haveI : Fact (InR v19) := ⟨h1⟩
  by_cases hg : k.val + 3 < nch v0 + nch v19
  · have hc : k0_cond4 v0 v19 k = 1#1 := (cond4_iff h0 h1 k).mpr hg
    rw [role_lt c X7 X8 hg]
    unfold Infl Free
    iintro ⟨HL, ⟨%W, HW⟩, ⟨⟨%f0, HF0⟩, ⟨%f1, HF1⟩, HR7, HR8⟩, Hr1, Hr2, ⟨⟨%e0, HK⟩, ⟨%e1, HV⟩, HC0, HC1, H7, H8⟩⟩
    ihave H7' := ((w7_eq c X7 (Ring.sl 4 (k.val + 3)) (bOf (nch v0) (k.val + 3)) (cOf (nch v0) (k.val + 3))).1) $$ H7
    ihave H8' := ((w8_eq c X8 (Ring.sl 4 (k.val + 3)) (bOf (nch v0) (k.val + 3)) (cOf (nch v0) (k.val + 3))).1) $$ H8
    icases H7' with ⟨H7, HQ7⟩
    icases H8' with ⟨H8, HQ8⟩
    dsimp only [trip1]
    sl_unfold [k0_t1_body]
    sl_exec
    sl_step
    isplitl []
    · ipureintro
      sl_unfold_run_names
      rw [read_land7 c X7 (Ring.sl 4 (k.val)) _ _ _ (off21_eq h0 k), read_land8 c X8 (Ring.sl 4 (k.val)) _ _ _ (off21_eq h0 k)]
      rfl
    isplitl [HL]; iexact HL
    isplitl [HW]; iexists _; iexact HW
    isplitl [Hr1]; iexact Hr1
    isplitl [Hr2]; iexact Hr2
    isplitl [HC0 HC1 HQ7 HQ8]
    · isplitl [HC0]; iexists e0; iexact HC0
      isplitl [HC1]; iexists e1; iexact HC1
      isplitl [HQ7]; iexact HQ7
      iexact HQ8
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 (k.val)) (bOf (nch v0) (k.val)) (cOf (nch v0) (k.val))).2)
      isplitl [HF0_src]; iexact HF0_src
      iexact HR7
    iapply ((w8_eq c X8 (Ring.sl 4 (k.val)) (bOf (nch v0) (k.val)) (cOf (nch v0) (k.val))).2)
    isplitl [HF1_src]; iexact HF1_src
    iexact HR8
  · have hc : ¬ k0_cond4 v0 v19 k = 1#1 := fun h => hg ((cond4_iff h0 h1 k).mp h)
    rw [role_ge c X7 X8 hg]
    unfold Infl
    iintro ⟨HL, ⟨%W, HW⟩, ⟨⟨%f0, HF0⟩, ⟨%f1, HF1⟩, HR7, HR8⟩, Hr1, Hr2, Hr3⟩
    dsimp only [trip1]
    sl_unfold [k0_t1_body]
    sl_exec
    sl_step
    isplitl []
    · ipureintro
      sl_unfold_run_names
      rw [read_land7 c X7 (Ring.sl 4 (k.val)) _ _ _ (off21_eq h0 k), read_land8 c X8 (Ring.sl 4 (k.val)) _ _ _ (off21_eq h0 k)]
      rfl
    isplitl [HL]; iexact HL
    isplitl [HW]; iexists _; iexact HW
    isplitl [Hr1]; iexact Hr1
    isplitl [Hr2]; iexact Hr2
    isplitl [Hr3]; iexact Hr3
    unfold Free
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 (k.val)) (bOf (nch v0) (k.val)) (cOf (nch v0) (k.val))).2)
      isplitl [HF0_src]; iexact HF0_src
      iexact HR7
    iapply ((w8_eq c X8 (Ring.sl 4 (k.val)) (bOf (nch v0) (k.val)) (cOf (nch v0) (k.val))).2)
    isplitl [HF1_src]; iexact HF1_src
    iexact HR8

set_option backward.proofsInPublic true in
/-- One trip: the ring moves on a step and the running values take the step's block in. -/
theorem tripRun3 (h0 : InR v0) (h1 : InR v19) (k : Fin (k0_t3_loop v19).trips) (x : ACC F) :
    resAt c X7 X8 arg0 g0 (nch v0) (nch v0 + nch v19) (nch v0 + k.val)
      ⊢ wp frame (wpE (defs₀ (F := F)) 𝒱₀ (c : Thread nD τ) none) Set.univ (trip3 arg0 harg0 arg1 harg1 arg2 harg2 arg3 harg3 arg4 harg4 arg5 harg5 arg6 harg6 arg9 harg9 arg10 harg10 arg11 harg11 arg12 harg12 arg13 harg13 v0 v18 v19 k0_hw1 v39 v241 v342 k x)
        (fun y => iprop(⌜y = stepF v342 (len1 c arg0 g0) k.val (blkK c X7 (bOf (nch v0) ((nch v0 + k.val))) (cOf (nch v0) ((nch v0 + k.val)))) (blkV c X8 (bOf (nch v0) ((nch v0 + k.val))) (cOf (nch v0) ((nch v0 + k.val)))) x⌝
          ∗ resAt c X7 X8 arg0 g0 (nch v0) (nch v0 + nch v19) ((nch v0 + k.val) + 1))) := by
  have hk : (nch v0 + k.val) < nch v0 + nch v19 := by have := lt3 h1 k; omega
  unfold resAt ringAt
  rw [sl4_add4, role_lt c X7 X8 hk, show (nch v0 + k.val) + 1 + 1 = (nch v0 + k.val) + 2 from rfl, show (nch v0 + k.val) + 1 + 2 = (nch v0 + k.val) + 3 from rfl]
  haveI : Fact (InR v0) := ⟨h0⟩
  haveI : Fact (InR v19) := ⟨h1⟩
  by_cases hg : (nch v0 + k.val) + 3 < nch v0 + nch v19
  · have hc : k0_cond6 v0 v19 k = 1#1 := (cond6_iff h0 h1 k).mpr hg
    rw [role_lt c X7 X8 hg]
    unfold Infl Free
    iintro ⟨HL, ⟨%W, HW⟩, ⟨⟨%f0, HF0⟩, ⟨%f1, HF1⟩, HR7, HR8⟩, Hr1, Hr2, ⟨⟨%e0, HK⟩, ⟨%e1, HV⟩, HC0, HC1, H7, H8⟩⟩
    ihave H7' := ((w7_eq c X7 (Ring.sl 4 ((nch v0 + k.val) + 3)) (bOf (nch v0) ((nch v0 + k.val) + 3)) (cOf (nch v0) ((nch v0 + k.val) + 3))).1) $$ H7
    ihave H8' := ((w8_eq c X8 (Ring.sl 4 ((nch v0 + k.val) + 3)) (bOf (nch v0) ((nch v0 + k.val) + 3)) (cOf (nch v0) ((nch v0 + k.val) + 3))).1) $$ H8
    icases H7' with ⟨H7, HQ7⟩
    icases H8' with ⟨H8, HQ8⟩
    dsimp only [trip3]
    sl_unfold [k0_t3_body]
    sl_exec
    sl_step
    isplitl []
    · ipureintro
      sl_unfold_run_names
      rw [read_land7 c X7 (Ring.sl 4 ((nch v0 + k.val))) _ _ _ (off39_eq h0 h1 k), read_land8 c X8 (Ring.sl 4 ((nch v0 + k.val))) _ _ _ (off39_eq h0 h1 k)]
      rfl
    isplitl [HL]; iexact HL
    isplitl [HW]; iexists _; iexact HW
    isplitl [Hr1]; iexact Hr1
    isplitl [Hr2]; iexact Hr2
    isplitl [HC0 HC1 HQ7 HQ8]
    · isplitl [HC0]; iexists e0; iexact HC0
      isplitl [HC1]; iexists e1; iexact HC1
      isplitl [HQ7]; iexact HQ7
      iexact HQ8
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 ((nch v0 + k.val))) (bOf (nch v0) ((nch v0 + k.val))) (cOf (nch v0) ((nch v0 + k.val)))).2)
      isplitl [HF0_src]; iexact HF0_src
      iexact HR7
    iapply ((w8_eq c X8 (Ring.sl 4 ((nch v0 + k.val))) (bOf (nch v0) ((nch v0 + k.val))) (cOf (nch v0) ((nch v0 + k.val)))).2)
    isplitl [HF1_src]; iexact HF1_src
    iexact HR8
  · have hc : ¬ k0_cond6 v0 v19 k = 1#1 := fun h => hg ((cond6_iff h0 h1 k).mp h)
    rw [role_ge c X7 X8 hg]
    unfold Infl
    iintro ⟨HL, ⟨%W, HW⟩, ⟨⟨%f0, HF0⟩, ⟨%f1, HF1⟩, HR7, HR8⟩, Hr1, Hr2, Hr3⟩
    dsimp only [trip3]
    sl_unfold [k0_t3_body]
    sl_exec
    sl_step
    isplitl []
    · ipureintro
      sl_unfold_run_names
      rw [read_land7 c X7 (Ring.sl 4 ((nch v0 + k.val))) _ _ _ (off39_eq h0 h1 k), read_land8 c X8 (Ring.sl 4 ((nch v0 + k.val))) _ _ _ (off39_eq h0 h1 k)]
      rfl
    isplitl [HL]; iexact HL
    isplitl [HW]; iexists _; iexact HW
    isplitl [Hr1]; iexact Hr1
    isplitl [Hr2]; iexact Hr2
    isplitl [Hr3]; iexact Hr3
    unfold Free
    isplitl [HF0_dst]; iexists _; iexact HF0_dst
    isplitl [HF1_dst]; iexists _; iexact HF1_dst
    isplitl [HF0]; iexact HF0
    isplitl [HF1]; iexact HF1
    isplitl [HF0_src HR7]
    · iapply ((w7_eq c X7 (Ring.sl 4 ((nch v0 + k.val))) (bOf (nch v0) ((nch v0 + k.val))) (cOf (nch v0) ((nch v0 + k.val)))).2)
      isplitl [HF0_src]; iexact HF0_src
      iexact HR7
    iapply ((w8_eq c X8 (Ring.sl 4 ((nch v0 + k.val))) (bOf (nch v0) ((nch v0 + k.val))) (cOf (nch v0) ((nch v0 + k.val)))).2)
    isplitl [HF1_src]; iexact HF1_src
    iexact HR8

end Trip1

end Cert.Kernel.Run

end
-- ==== Proof.Bits.Body.lean ====
/-
  The kernel's body: the prologue's three guarded starts, the cache write, the two main loops (their remainder loops
  make no trip), the two output rows; every transfer started is waited for.
-/
module

public import proofs.«01_k».proof.Defs
public import proofs.«01_k».proof.Proof.Bits.Chk
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffix
public import Idealize.ShloMosaic.Lib.Ring
public import Idealize.ShloMosaic.Lib.Affine
public import Idealize.ShloMosaic.Lib.Tactic
public import Idealize.ShloMosaic.Lib.LoopRemainder
public import proofs.«01_k».proof.Proof.Bits.Ring

@[expose] public section

noncomputable section

namespace Cert.Kernel.Run

open Cert.Kernel Cert.Kernel.Gen Cert.Kernel.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]
local notation "𝕄" => MT nD τ sig Unit (Elt F) ℕ (UU nD τ) ℕ

section Roles
variable (c : Dev nD) (X7 : Buf (Elt F) (a7.view.loc (c : Thread nD τ))) (X8 : Buf (Elt F) (a8.view.loc (c : Thread nD τ)))

/-- The four slots at four consecutive steps are the four slots. -/
theorem four_of_roles (Φ : Fin 4 → sProp 𝕄) (p : ℕ) :
    iprop(Φ (Ring.sl 4 p) ∗ Φ (Ring.sl 4 (p + 1)) ∗ Φ (Ring.sl 4 (p + 2)) ∗ Φ (Ring.sl 4 (p + 3))) ⊢ iprop(Φ 0 ∗ Φ 1 ∗ Φ 2 ∗ Φ 3) := by
  have h : p % 4 = 0 ∨ p % 4 = 1 ∨ p % 4 = 2 ∨ p % 4 = 3 := by omega
  have e : ∀ (j : ℕ) (s : Fin 4), (p + j) % 4 = s.val → Ring.sl 4 (p + j) = s := fun j s hj => Fin.ext (by rw [← hj]; rfl)
  rcases h with h | h | h | h
  · rw [show Ring.sl 4 p = 0 from e 0 0 (by simpa using h), e 1 1 (by simp; omega), e 2 2 (by simp; omega), e 3 3 (by simp; omega)]
  · rw [show Ring.sl 4 p = 1 from e 0 1 (by simpa using h), e 1 2 (by simp; omega), e 2 3 (by simp; omega), e 3 0 (by simp; omega)]
    iintro ⟨H1, H2, H3, H0⟩; isplitl [H0]; iexact H0; isplitl [H1]; iexact H1; isplitl [H2]; iexact H2; iexact H3
  · rw [show Ring.sl 4 p = 2 from e 0 2 (by simpa using h), e 1 3 (by simp; omega), e 2 0 (by simp; omega), e 3 1 (by simp; omega)]
    iintro ⟨H2, H3, H0, H1⟩; isplitl [H0]; iexact H0; isplitl [H1]; iexact H1; isplitl [H2]; iexact H2; iexact H3
  · rw [show Ring.sl 4 p = 3 from e 0 3 (by simpa using h), e 1 0 (by simp; omega), e 2 1 (by simp; omega), e 3 2 (by simp; omega)]
    iintro ⟨H3, H0, H1, H2⟩; isplitl [H0]; iexact H0; isplitl [H1]; iexact H1; isplitl [H2]; iexact H2; iexact H3

/-- Past the schedule's end every slot is free. -/
theorem ring_end {n T p : ℕ} (h : T ≤ p) :
    ringAt c X7 X8 n T p ⊢ iprop(Free c X7 X8 0 ∗ Free c X7 X8 1 ∗ Free c X7 X8 2 ∗ Free c X7 X8 3) := by
  unfold ringAt
  rw [role_ge c X7 X8 (show ¬ p < T by omega), role_ge c X7 X8 (show ¬ p + 1 < T by omega), role_ge c X7 X8 (show ¬ p + 2 < T by omega)]
  exact four_of_roles (Free c X7 X8) p

end Roles

section Body

variable (c : Dev nD) (X7 : Buf (Elt F) (a7.view.loc (c : Thread nD τ))) (X8 : Buf (Elt F) (a8.view.loc (c : Thread nD τ)))
  (arg0 : Memref sig .tc .smem S2 .i32) (harg0 : arg0.IsWhole) (arg1 : Memref sig .tc .smem S4 .i32) (harg1 : arg1.IsWhole) (arg2 : Memref sig .tc .vmem S2x32x64 .bf16) (harg2 : arg2.IsWhole) (arg3 : Memref sig .tc .vmem S2x1x4x64 .bf16) (harg3 : arg3.IsWhole) (arg4 : Memref sig .tc .vmem S2x1x4x64 .bf16) (harg4 : arg4.IsWhole) (arg5 : Memref sig .tc .vmem S4x64 .i32) (harg5 : arg5.IsWhole) (arg6 : Memref sig .tc .vmem S4x1 .i32) (harg6 : arg6.IsWhole) (arg9 : Memref sig .tc .vmem S2x32x64 .bf16) (harg9 : arg9.IsWhole) (arg10 : Memref sig .tc .vmem S2x1x4x64 .fp8e4m3) (harg10 : arg10.IsWhole) (arg11 : Memref sig .tc .vmem S4x64 .f32) (harg11 : arg11.IsWhole) (arg12 : Memref sig .tc .vmem S2x1x4x64 .fp8e4m3) (harg12 : arg12.IsWhole) (arg13 : Memref sig .tc .smem S4 .f32) (harg13 : arg13.IsWhole)
  (g0 : Buf (Elt F) (arg0.view.loc (c : Thread nD τ)))
  (g1 : Buf (Elt F) (arg1.view.loc (c : Thread nD τ)))
  (g2 : Buf (Elt F) (arg2.view.loc (c : Thread nD τ)))
  (g3 : Buf (Elt F) (arg3.view.loc (c : Thread nD τ)))
  (g4 : Buf (Elt F) (arg4.view.loc (c : Thread nD τ)))
  (g5 : Buf (Elt F) (arg5.view.loc (c : Thread nD τ)))
  (g6 : Buf (Elt F) (arg6.view.loc (c : Thread nD τ)))
  (g9 : Buf (Elt F) (arg9.view.loc (c : Thread nD τ)))
  (g10 : Buf (Elt F) (arg10.view.loc (c : Thread nD τ)))
  (g11 : Buf (Elt F) (arg11.view.loc (c : Thread nD τ)))
  (g12 : Buf (Elt F) (arg12.view.loc (c : Thread nD τ)))
  (g13 : Buf (Elt F) (arg13.view.loc (c : Thread nD τ)))

abbrev bodyG : Prog (TpuEff nD τ sig (Elt F) Λ₀ .tc) PUnit :=
  cc0_fp8_decode_attention arg0 harg0 arg1 harg1 arg2 harg2 arg3 harg3 arg4 harg4 arg5 harg5 arg6 harg6 a7 (Memref.isWhole_whole _) a8 (Memref.isWhole_whole _) arg9 harg9 arg10 harg10 arg11 harg11 arg12 harg12 arg13 harg13 b14 (Memref.isWhole_whole _) b15 (Memref.isWhole_whole _) sm16

abbrev heldP {sp : Space} {s : Shape} {e : EltTy} (m : Memref sig .tc sp s e) (g : Buf (Elt F) (m.view.loc (c : Thread nD τ))) : sProp 𝕄 :=
  m.view.loc (c : Thread nD τ) ↦[m.view.set]{fullShare} g

/-- What the body reads and leaves. -/
abbrev INS : sProp 𝕄 := iprop(heldP c arg0 g0 ∗ heldP c arg1 g1 ∗ heldP c arg2 g2 ∗ heldP c arg3 g3 ∗ heldP c arg4 g4 ∗ heldP c arg5 g5 ∗ heldP c arg6 g6)
abbrev OUTS : sProp 𝕄 := iprop(heldP c arg9 g9 ∗ heldP c arg10 g10 ∗ heldP c arg11 g11 ∗ heldP c arg12 g12 ∗ heldP c arg13 g13)
abbrev FREES : sProp 𝕄 := iprop(Free c X7 X8 0 ∗ Free c X7 X8 1 ∗ Free c X7 X8 2 ∗ Free c X7 X8 3)

/-! The body's loads, by name. -/
abbrev ld20 : Vec F S1x32x64 .bf16 := arg2.view.readAt (Elt F) (Rect.unit (s := S2x32x64) ![0, 0, 0] S1x32x64.size inb_S2x32x64_S1x32x64_0_0_0).toLoadRect g2
abbrev ld21 : Vec F S1x32x64 .bf16 := arg2.view.readAt (Elt F) (Rect.unit (s := S2x32x64) ![1, 0, 0] S1x32x64.size inb_S2x32x64_S1x32x64_1_0_0).toLoadRect g2
abbrev ld30 : Vec F S1x1x4x64 .bf16 := arg3.view.readAt (Elt F) (Rect.unit (s := S2x1x4x64) ![0, 0, 0, 0] S1x1x4x64.size inb_S2x1x4x64_S1x1x4x64_0_0_0_0).toLoadRect g3
abbrev ld31 : Vec F S1x1x4x64 .bf16 := arg3.view.readAt (Elt F) (Rect.unit (s := S2x1x4x64) ![1, 0, 0, 0] S1x1x4x64.size inb_S2x1x4x64_S1x1x4x64_1_0_0_0).toLoadRect g3
abbrev ld40 : Vec F S1x1x4x64 .bf16 := arg4.view.readAt (Elt F) (Rect.unit (s := S2x1x4x64) ![0, 0, 0, 0] S1x1x4x64.size inb_S2x1x4x64_S1x1x4x64_0_0_0_0).toLoadRect g4
abbrev ld41 : Vec F S1x1x4x64 .bf16 := arg4.view.readAt (Elt F) (Rect.unit (s := S2x1x4x64) ![1, 0, 0, 0] S1x1x4x64.size inb_S2x1x4x64_S1x1x4x64_1_0_0_0).toLoadRect g4
abbrev ld5 : Vec F S4x64 .i32 := arg5.view.readAt (Elt F) (Rect.unit (s := S4x64) ![0, 0] S4x64.size inb_S4x64_S4x64_0_0).toLoadRect g5
abbrev ld6 : Vec F S4x1 .i32 := arg6.view.readAt (Elt F) (Rect.unit (s := S4x1) ![0, 0] S4x1.size inb_S4x1_S4x1_0_0).toLoadRect g6
abbrev wd0 : Elt F .i32 := arg1.view.readAt (Elt F) (Rect.unit (s := S4) ![0] S1.size inb_S4_S1_0).toLoadRect g1 (Shape.Idx.first (by decide))
abbrev wd1 : Elt F .i32 := arg1.view.readAt (Elt F) (Rect.unit (s := S4) ![1] S1.size inb_S4_S1_1).toLoadRect g1 (Shape.Idx.first (by decide))
abbrev wd2 : Elt F .i32 := arg1.view.readAt (Elt F) (Rect.unit (s := S4) ![2] S1.size inb_S4_S1_2).toLoadRect g1 (Shape.Idx.first (by decide))
abbrev wd3 : Elt F .i32 := arg1.view.readAt (Elt F) (Rect.unit (s := S4) ![3] S1.size inb_S4_S1_3).toLoadRect g1 (Shape.Idx.first (by decide))

/-- Which (row, column) pairs of the block-diagonal layout carry a head's own query. -/
def hmask : IVec S32x256 1 :=
  k0_pay30 k0_pay27 (iota .tc S32x256 32 [1] iota_S32x256_d1_w32) 64#32 k0_pay28 k0_pay29 (Scalar.extui (Scalar.cmpi .sgt 64#32 0#32)) (Scalar.cmpi .slt 64#32 0#32)
/-- Keys and values of step `p` of a schedule whose first `n` steps are sequence 0's. -/
def stepK (n p : ℕ) : Vec F S1x256x4096 .fp8e4m3 := blkK c X7 (bOf n p) (cOf n p)
def stepV (n p : ℕ) : Vec F S1x256x4096 .fp8e4m3 := blkV c X8 (bOf n p) (cOf n p)

/-- The laid-out query of each sequence, its running values at the loop's start and its end, its output row. -/
def qd0 : FVec F S32x256 .bf16 := k0_pay40 hmask (k0_pay38 (k0_pay32 (ld5 c arg5 g5)) (ld20 c arg2 g2))
def qd1 : FVec F S32x256 .bf16 := k0_pay65 hmask (k0_pay59 (ld5 c arg5 g5)) (k0_pay63 (ld21 c arg2 g2))
def init0 : ACC F :=
  (k0_pay41 (k0_pay31 (ld30 c arg3 g3) (ld5 c arg5 g5)) (k0_pay38 (k0_pay32 (ld5 c arg5 g5)) (ld20 c arg2 g2)), k0_pay42,
    k0_pay43 (k0_pay35 (k0_pay33 (ld40 c arg4 g4)) (k0_pay34 (ld6 c arg6 g6))))
def init1 : ACC F :=
  (k0_pay66 (k0_pay58 (k0_pay57 (ld31 c arg3 g3) (ld5 c arg5 g5))) (k0_pay59 (ld5 c arg5 g5)) (k0_pay63 (ld21 c arg2 g2)), k0_pay67,
    k0_pay68 (k0_pay60 (ld41 c arg4 g4) (ld6 c arg6 g6)))
def st0 (k : ℕ) : ACC F :=
  runAcc (qd0 c arg2 arg5 g2 g5) (len0 c arg0 g0) (fun i => stepK c X7 (nch (len0 c arg0 g0)) i) (fun i => stepV c X8 (nch (len0 c arg0 g0)) i)
    (init0 c arg2 arg3 arg4 arg5 arg6 g2 g3 g4 g5 g6) k
def st1 (k : ℕ) : ACC F :=
  runAcc (qd1 c arg2 arg5 g2 g5) (len1 c arg0 g0) (fun i => stepK c X7 (nch (len0 c arg0 g0)) (nch (len0 c arg0 g0) + i)) (fun i => stepV c X8 (nch (len0 c arg0 g0)) (nch (len0 c arg0 g0) + i))
    (init1 c arg2 arg3 arg4 arg5 arg6 g2 g3 g4 g5 g6) k
def out0 : FVec F S1x32x64 .bf16 :=
  k0_pay56 (k0_pay26 (ld6 c arg6 g6)) hmask (st0 c X7 X8 arg0 arg2 arg3 arg4 arg5 arg6 g0 g2 g3 g4 g5 g6 (nch (len0 c arg0 g0))).2.1
    (st0 c X7 X8 arg0 arg2 arg3 arg4 arg5 arg6 g0 g2 g3 g4 g5 g6 (nch (len0 c arg0 g0))).2.2 (Scalar.ofBits .f32 0x00000000#32)
def out1 : FVec F S1x32x64 .bf16 :=
  k0_pay13 (k0_pay26 (ld6 c arg6 g6)) hmask (st1 c X7 X8 arg0 arg2 arg3 arg4 arg5 arg6 g0 g2 g3 g4 g5 g6 (nch (len1 c arg0 g0))).2.1
    (st1 c X7 X8 arg0 arg2 arg3 arg4 arg5 arg6 g0 g2 g3 g4 g5 g6 (nch (len1 c arg0 g0))).2.2

/-- What the body leaves in each output's staging buffer. -/
def o9 : Buf (Elt F) (arg9.view.loc (c : Thread nD τ)) :=
  arg9.view.writes (Elt F) g9 [⟨Rect.unit (s := S2x32x64) ![1, 0, 0] S1x32x64.size inb_S2x32x64_S1x32x64_1_0_0, out1 c X7 X8 arg0 arg2 arg3 arg4 arg5 arg6 g0 g2 g3 g4 g5 g6⟩,
    ⟨Rect.unit (s := S2x32x64) ![0, 0, 0] S1x32x64.size inb_S2x32x64_S1x32x64_0_0_0, out0 c X7 X8 arg0 arg2 arg3 arg4 arg5 arg6 g0 g2 g3 g4 g5 g6⟩]
def o10 : Buf (Elt F) (arg10.view.loc (c : Thread nD τ)) :=
  arg10.view.writes (Elt F) arg10.view.junk [⟨Rect.unit (s := S2x1x4x64) ![1, 0, 0, 0] S1x1x4x64.size inb_S2x1x4x64_S1x1x4x64_1_0_0_0, k0_pay61 (k0_pay57 (ld31 c arg3 g3) (ld5 c arg5 g5))⟩,
    ⟨Rect.unit (s := S2x1x4x64) ![0, 0, 0, 0] S1x1x4x64.size inb_S2x1x4x64_S1x1x4x64_0_0_0_0, k0_pay36 (k0_pay31 (ld30 c arg3 g3) (ld5 c arg5 g5))⟩]
def o11 : Buf (Elt F) (arg11.view.loc (c : Thread nD τ)) :=
  arg11.view.writes (Elt F) arg11.view.junk [⟨Rect.unit (s := S4x64) ![0, 0] S4x64.size inb_S4x64_S4x64_0_0, k0_pay32 (ld5 c arg5 g5)⟩]
def o12 : Buf (Elt F) (arg12.view.loc (c : Thread nD τ)) :=
  arg12.view.writes (Elt F) arg12.view.junk [⟨Rect.unit (s := S2x1x4x64) ![1, 0, 0, 0] S1x1x4x64.size inb_S2x1x4x64_S1x1x4x64_1_0_0_0, k0_pay62 (ld41 c arg4 g4) (ld6 c arg6 g6)⟩,
    ⟨Rect.unit (s := S2x1x4x64) ![0, 0, 0, 0] S1x1x4x64.size inb_S2x1x4x64_S1x1x4x64_0_0_0_0, k0_pay37 (k0_pay33 (ld40 c arg4 g4)) (k0_pay34 (ld6 c arg6 g6))⟩]
def o13 : Buf (Elt F) (arg13.view.loc (c : Thread nD τ)) :=
  arg13.view.writes (Elt F) arg13.view.junk [⟨Rect.unit (s := S4) ![3] S1.size inb_S4_S1_3, fun _ => k0_pay25 (wd3 c arg1 g1)⟩, ⟨Rect.unit (s := S4) ![2] S1.size inb_S4_S1_2, fun _ => k0_pay24 (wd2 c arg1 g1)⟩,
    ⟨Rect.unit (s := S4) ![1] S1.size inb_S4_S1_1, fun _ => k0_pay23 (wd1 c arg1 g1)⟩, ⟨Rect.unit (s := S4) ![0] S1.size inb_S4_S1_0, fun _ => k0_pay22 (wd0 c arg1 g1)⟩]

/-- The same, as the contents the stores leave, whatever the buffer held. -/
def c9 : S2x32x64.Idx → Elt F .bf16 := View.canon [⟨Rect.unit (s := S2x32x64) ![1, 0, 0] S1x32x64.size inb_S2x32x64_S1x32x64_1_0_0, out1 c X7 X8 arg0 arg2 arg3 arg4 arg5 arg6 g0 g2 g3 g4 g5 g6⟩,
    ⟨Rect.unit (s := S2x32x64) ![0, 0, 0] S1x32x64.size inb_S2x32x64_S1x32x64_0_0_0, out0 c X7 X8 arg0 arg2 arg3 arg4 arg5 arg6 g0 g2 g3 g4 g5 g6⟩]
def c10 : S2x1x4x64.Idx → Elt F .fp8e4m3 := View.canon [⟨Rect.unit (s := S2x1x4x64) ![1, 0, 0, 0] S1x1x4x64.size inb_S2x1x4x64_S1x1x4x64_1_0_0_0, k0_pay61 (k0_pay57 (ld31 c arg3 g3) (ld5 c arg5 g5))⟩,
    ⟨Rect.unit (s := S2x1x4x64) ![0, 0, 0, 0] S1x1x4x64.size inb_S2x1x4x64_S1x1x4x64_0_0_0_0, k0_pay36 (k0_pay31 (ld30 c arg3 g3) (ld5 c arg5 g5))⟩]
def c11 : S4x64.Idx → Elt F .f32 := View.canon [⟨Rect.unit (s := S4x64) ![0, 0] S4x64.size inb_S4x64_S4x64_0_0, k0_pay32 (ld5 c arg5 g5)⟩]
def c12 : S2x1x4x64.Idx → Elt F .fp8e4m3 := View.canon [⟨Rect.unit (s := S2x1x4x64) ![1, 0, 0, 0] S1x1x4x64.size inb_S2x1x4x64_S1x1x4x64_1_0_0_0, k0_pay62 (ld41 c arg4 g4) (ld6 c arg6 g6)⟩,
    ⟨Rect.unit (s := S2x1x4x64) ![0, 0, 0, 0] S1x1x4x64.size inb_S2x1x4x64_S1x1x4x64_0_0_0_0, k0_pay37 (k0_pay33 (ld40 c arg4 g4)) (k0_pay34 (ld6 c arg6 g6))⟩]
def c13 : S4.Idx → Elt F .f32 := View.canon [⟨Rect.unit (s := S4) ![3] S1.size inb_S4_S1_3, fun _ => k0_pay25 (wd3 c arg1 g1)⟩, ⟨Rect.unit (s := S4) ![2] S1.size inb_S4_S1_2, fun _ => k0_pay24 (wd2 c arg1 g1)⟩,
    ⟨Rect.unit (s := S4) ![1] S1.size inb_S4_S1_1, fun _ => k0_pay23 (wd1 c arg1 g1)⟩, ⟨Rect.unit (s := S4) ![0] S1.size inb_S4_S1_0, fun _ => k0_pay22 (wd0 c arg1 g1)⟩]
theorem read_o9 : arg9.view.read (Elt F) (o9 c X7 X8 arg0 arg2 arg3 arg4 arg5 arg6 arg9 g0 g2 g3 g4 g5 g6 g9) = c9 c X7 X8 arg0 arg2 arg3 arg4 arg5 arg6 g0 g2 g3 g4 g5 g6 := by
  refine View.read_writes_eq_canon _ _ _ fun y => ?_
  have h1 : (y 1).val < 32 := (y 1).isLt
  have h2 : (y 2).val < 64 := (y 2).isLt
  have h0 : (y 0).val < 2 := (y 0).isLt
  rcases Nat.lt_or_ge (y 0).val 1 with hy | hy
  · refine ⟨_, List.mem_cons_of_mem _ List.mem_cons_self, ?_⟩
    rw [Rect.mem_set_unit]; intro i; fin_cases i
    · show 0 ≤ (y 0).val ∧ (y 0).val < 0 + 1; omega
    · show 0 ≤ (y 1).val ∧ (y 1).val < 0 + 32; omega
    · show 0 ≤ (y 2).val ∧ (y 2).val < 0 + 64; omega
  · refine ⟨_, List.mem_cons_self, ?_⟩
    rw [Rect.mem_set_unit]; intro i; fin_cases i
    · show 1 ≤ (y 0).val ∧ (y 0).val < 1 + 1; omega
    · show 0 ≤ (y 1).val ∧ (y 1).val < 0 + 32; omega
    · show 0 ≤ (y 2).val ∧ (y 2).val < 0 + 64; omega
theorem read_o10 : arg10.view.read (Elt F) (o10 c arg3 arg5 arg10 g3 g5) = c10 c arg3 arg5 g3 g5 := View.read_writes_junk_eq_canon _ _
theorem read_o11 : arg11.view.read (Elt F) (o11 c arg5 arg11 g5) = c11 c arg5 g5 := View.read_writes_junk_eq_canon _ _
theorem read_o12 : arg12.view.read (Elt F) (o12 c arg4 arg6 arg12 g4 g6) = c12 c arg4 arg6 g4 g6 := View.read_writes_junk_eq_canon _ _
theorem read_o13 : arg13.view.read (Elt F) (o13 c arg1 arg13 g1) = c13 c arg1 g1 := View.read_writes_junk_eq_canon _ _

abbrev FREES0 : sProp 𝕄 := iprop(Free c X7 X8 (Ring.sl 4 0) ∗ Free c X7 X8 (Ring.sl 4 1) ∗ Free c X7 X8 (Ring.sl 4 2) ∗ Free c X7 X8 (Ring.sl 4 3))

set_option maxHeartbeats 1000000 in
theorem bodyRun (hL0 : InR (len0 c arg0 g0)) (hL1 : InR (len1 c arg0 g0)) (W) (Q : PUnit → sProp 𝕄) :
    iprop((INS c arg0 arg1 arg2 arg3 arg4 arg5 arg6 g0 g1 g2 g3 g4 g5 g6 ∗ OUTS c arg9 arg10 arg11 arg12 arg13 g9 g10 g11 g12 g13 ∗ FREES0 c X7 X8 ∗ owes (c : Thread nD τ) 0 W)
        ∗ (iprop(INS c arg0 arg1 arg2 arg3 arg4 arg5 arg6 g0 g1 g2 g3 g4 g5 g6 ∗ OUTS c arg9 arg10 arg11 arg12 arg13 (o9 c X7 X8 arg0 arg2 arg3 arg4 arg5 arg6 arg9 g0 g2 g3 g4 g5 g6 g9) (o10 c arg3 arg5 arg10 g3 g5) (o11 c arg5 arg11 g5) (o12 c arg4 arg6 arg12 g4 g6) (o13 c arg1 arg13 g1) ∗ FREES c X7 X8 ∗ ∃ W, owes (c : Thread nD τ) 0 W) -∗ Q ⟨⟩))
      ⊢ wp frame (wpE (defs₀ (F := F)) 𝒱₀ (c : Thread nD τ) none) Set.univ (bodyG arg0 harg0 arg1 harg1 arg2 harg2 arg3 harg3 arg4 harg4 arg5 harg5 arg6 harg6 arg9 harg9 arg10 harg10 arg11 harg11 arg12 harg12 arg13 harg13) Q := by
  iintro ⟨⟨⟨H0, H1, H2, H3, H4, H5, H6⟩, ⟨H9, H10, H11, H12, H13⟩, ⟨HS0, HS1, HS2, HS3⟩, HW⟩, Hk⟩
  sl_exec
  have hL0' : InR (bodyRun.sl.r c arg0 g0) := hL0
  have hck2 : k0_chk2 (bodyRun.sl.r c arg0 g0) := chk2 hL0'
  sl_exec
  have hL1' : InR (bodyRun.sl.r_1 c arg0 g0) := hL1
  have hck1 : k0_chk1 (bodyRun.sl.r c arg0 g0) (bodyRun.sl.r_1 c arg0 g0) := chk1 hL0' hL1'
  by_cases hg1 : 1 < nch (bodyRun.sl.r c arg0 g0) + nch (bodyRun.sl.r_1 c arg0 g0)
  · have hc1 : k0_cond1 (bodyRun.sl.r c arg0 g0) (bodyRun.sl.r_1 c arg0 g0) = 1#1 := (cond1_iff hL0' hL1').mpr (by omega)
    have hc2 : k0_cond2 (bodyRun.sl.r c arg0 g0) (bodyRun.sl.r_1 c arg0 g0) = 1#1 := (cond2_iff hL0' hL1').mpr (by omega)
    ihave HS0 := (entails_of_eq (show Free c X7 X8 (Ring.sl 4 0) = iprop((∃ f, kP c (Ring.sl 4 0) f) ∗ (∃ f, vP c (Ring.sl 4 0) f) ∗ cellP c (Ring.sl 4 0) 0 ∗ cellP c (Ring.sl 4 0) 1 ∗ w7 c X7 (Ring.sl 4 0) ∗ w8 c X8 (Ring.sl 4 0)) from rfl)) $$ HS0
    icases HS0 with ⟨⟨%e0, HK0⟩, ⟨%d0, HV0⟩, HC0, HD0, HX0, HY0⟩
    ihave HX0 := ((w7_eq c X7 (Ring.sl 4 0) (bOf (nch (bodyRun.sl.r c arg0 g0)) 0) (cOf (nch (bodyRun.sl.r c arg0 g0)) 0)).1) $$ HX0
    ihave HY0 := ((w8_eq c X8 (Ring.sl 4 0) (bOf (nch (bodyRun.sl.r c arg0 g0)) 0) (cOf (nch (bodyRun.sl.r c arg0 g0)) 0)).1) $$ HY0
    icases HX0 with ⟨HX0, HZ0⟩
    icases HY0 with ⟨HY0, HU0⟩
    ihave HS1 := (entails_of_eq (show Free c X7 X8 (Ring.sl 4 1) = iprop((∃ f, kP c (Ring.sl 4 1) f) ∗ (∃ f, vP c (Ring.sl 4 1) f) ∗ cellP c (Ring.sl 4 1) 0 ∗ cellP c (Ring.sl 4 1) 1 ∗ w7 c X7 (Ring.sl 4 1) ∗ w8 c X8 (Ring.sl 4 1)) from rfl)) $$ HS1
    icases HS1 with ⟨⟨%e1, HK1⟩, ⟨%d1, HV1⟩, HC1, HD1, HX1, HY1⟩
    ihave HX1 := ((w7_eq c X7 (Ring.sl 4 1) (bOf (nch (bodyRun.sl.r c arg0 g0)) 1) (cOf (nch (bodyRun.sl.r c arg0 g0)) 1)).1) $$ HX1
    ihave HY1 := ((w8_eq c X8 (Ring.sl 4 1) (bOf (nch (bodyRun.sl.r c arg0 g0)) 1) (cOf (nch (bodyRun.sl.r c arg0 g0)) 1)).1) $$ HY1
    icases HX1 with ⟨HX1, HZ1⟩
    icases HY1 with ⟨HY1, HU1⟩
    by_cases hg : 2 < nch (bodyRun.sl.r c arg0 g0) + nch (bodyRun.sl.r_1 c arg0 g0)
    · have hc3 : k0_cond3 (bodyRun.sl.r c arg0 g0) (bodyRun.sl.r_1 c arg0 g0) = 1#1 := (cond3_iff hL0' hL1').mpr hg
      ihave HS2 := (entails_of_eq (show Free c X7 X8 (Ring.sl 4 2) = iprop((∃ f, kP c (Ring.sl 4 2) f) ∗ (∃ f, vP c (Ring.sl 4 2) f) ∗ cellP c (Ring.sl 4 2) 0 ∗ cellP c (Ring.sl 4 2) 1 ∗ w7 c X7 (Ring.sl 4 2) ∗ w8 c X8 (Ring.sl 4 2)) from rfl)) $$ HS2
      icases HS2 with ⟨⟨%e2, HK2⟩, ⟨%d2, HV2⟩, HC2, HD2, HX2, HY2⟩
      ihave HX2 := ((w7_eq c X7 (Ring.sl 4 2) (bOf (nch (bodyRun.sl.r c arg0 g0)) 2) (cOf (nch (bodyRun.sl.r c arg0 g0)) 2)).1) $$ HX2
      ihave HY2 := ((w8_eq c X8 (Ring.sl 4 2) (bOf (nch (bodyRun.sl.r c arg0 g0)) 2) (cOf (nch (bodyRun.sl.r c arg0 g0)) 2)).1) $$ HY2
      icases HX2 with ⟨HX2, HZ2⟩
      icases HY2 with ⟨HY2, HU2⟩
      sl_exec
      ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HC1 HD1 HZ1 HU1 HC2 HD2 HZ2 HU2 HS3]
      · unfold resAt ringAt
        isplitl [H0]; iexact H0
        isplitl [HW]; iexists _; iexact HW
        isplitl [HC0 HD0 HZ0 HU0]
        · rw [role_lt c X7 X8 (show 0 < nch (bodyRun.sl.r c arg0 g0) + nch (bodyRun.sl.r_1 c arg0 g0) by omega)]
          unfold Infl
          isplitl [HC0]; iexists e0; iexact HC0
          isplitl [HD0]; iexists d0; iexact HD0
          isplitl [HZ0]; iexact HZ0
          iexact HU0
        isplitl [HC1 HD1 HZ1 HU1]
        · rw [role_lt c X7 X8 (show 1 < nch (bodyRun.sl.r c arg0 g0) + nch (bodyRun.sl.r_1 c arg0 g0) by omega)]
          unfold Infl
          isplitl [HC1]; iexists e1; iexact HC1
          isplitl [HD1]; iexists d1; iexact HD1
          isplitl [HZ1]; iexact HZ1
          iexact HU1
        isplitl [HC2 HD2 HZ2 HU2]
        · rw [role_lt c X7 X8 (show 2 < nch (bodyRun.sl.r c arg0 g0) + nch (bodyRun.sl.r_1 c arg0 g0) by omega)]
          unfold Infl
          isplitl [HC2]; iexists e2; iexact HC2
          isplitl [HD2]; iexists d2; iexact HD2
          isplitl [HZ2]; iexact HZ2
          iexact HU2
        iexact HS3
      sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
          iexact HR
        · iintro %y ⟨%hy, HR⟩
          isplitl []
          · ipureintro
            rw [hy, hx]; rfl
          iexact HR
      · isplitl []
        · ipureintro; rfl
        iexact HR
      iintro %x1 ⟨%hx1, HR⟩
      have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
      rw [hT1] at hx1 ⊢
      sl_exec
      sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
          iexact HR
        · iintro %y ⟨%hy, HR⟩
          isplitl []
          · ipureintro
            rw [hy, hx]; rfl
          iexact HR
      · isplitl []
        · ipureintro; rfl
        iexact HR
      iintro %x3 ⟨%hx3, HR⟩
      have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
      rw [hT3] at hx3 ⊢
      sl_exec
      sl_step
      ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
      icases HR with ⟨H0, HW, HR⟩
      ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
      iapply Hk
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H9 H10 H11 H12 H13]
      · isplitl [H9]
        · rw [hx3, hx1]; iexact H9
        isplitl [H10]; iexact H10
        isplitl [H11]; iexact H11
        isplitl [H12]; iexact H12
        iexact H13
      isplitl [HF]; iexact HF
      iexact HW
    · have hc3 : ¬ k0_cond3 (bodyRun.sl.r c arg0 g0) (bodyRun.sl.r_1 c arg0 g0) = 1#1 := fun h => hg ((cond3_iff hL0' hL1').mp h)
      sl_exec
      ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HC1 HD1 HZ1 HU1 HS2 HS3]
      · unfold resAt ringAt
        isplitl [H0]; iexact H0
        isplitl [HW]; iexists _; iexact HW
        isplitl [HC0 HD0 HZ0 HU0]
        · rw [role_lt c X7 X8 (show 0 < nch (bodyRun.sl.r c arg0 g0) + nch (bodyRun.sl.r_1 c arg0 g0) by omega)]
          unfold Infl
          isplitl [HC0]; iexists e0; iexact HC0
          isplitl [HD0]; iexists d0; iexact HD0
          isplitl [HZ0]; iexact HZ0
          iexact HU0
        isplitl [HC1 HD1 HZ1 HU1]
        · rw [role_lt c X7 X8 (show 1 < nch (bodyRun.sl.r c arg0 g0) + nch (bodyRun.sl.r_1 c arg0 g0) by omega)]
          unfold Infl
          isplitl [HC1]; iexists e1; iexact HC1
          isplitl [HD1]; iexists d1; iexact HD1
          isplitl [HZ1]; iexact HZ1
          iexact HU1
        isplitl [HS2]
        · rw [role_ge c X7 X8 (show ¬ 0 + 2 < nch (bodyRun.sl.r c arg0 g0) + nch (bodyRun.sl.r_1 c arg0 g0) by omega)]
          iexact HS2
        iexact HS3
      sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
          iexact HR
        · iintro %y ⟨%hy, HR⟩
          isplitl []
          · ipureintro
            rw [hy, hx]; rfl
          iexact HR
      · isplitl []
        · ipureintro; rfl
        iexact HR
      iintro %x1 ⟨%hx1, HR⟩
      have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
      rw [hT1] at hx1 ⊢
      sl_exec
      sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
      case region =>
        intro k x
        iintro ⟨%hx, HR⟩
        iapply (wp_wand_r Idealize.ShloMosaic.frame (wpE (defs₀ (F := F)) 𝒱₀ (c : Thread nD τ) none) Set.univ)
        isplitl [HR]
        · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
          iexact HR
        · iintro %y ⟨%hy, HR⟩
          isplitl []
          · ipureintro
            rw [hy, hx]; rfl
          iexact HR
      · isplitl []
        · ipureintro; rfl
        iexact HR
      iintro %x3 ⟨%hx3, HR⟩
      have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
      rw [hT3] at hx3 ⊢
      sl_exec
      sl_step
      ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
      icases HR with ⟨H0, HW, HR⟩
      ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
      iapply Hk
      isplitl [H0 H1 H2 H3 H4 H5 H6]
      · isplitl [H0]; iexact H0
        isplitl [H1]; iexact H1
        isplitl [H2]; iexact H2
        isplitl [H3]; iexact H3
        isplitl [H4]; iexact H4
        isplitl [H5]; iexact H5
        iexact H6
      isplitl [H9 H10 H11 H12 H13]
      · isplitl [H9]
        · rw [hx3, hx1]; iexact H9
        isplitl [H10]; iexact H10
        isplitl [H11]; iexact H11
        isplitl [H12]; iexact H12
        iexact H13
      isplitl [HF]; iexact HF
      iexact HW
  by_cases hg0 : 0 < nch (bodyRun.sl.r c arg0 g0) + nch (bodyRun.sl.r_1 c arg0 g0)
  · have hc1 : k0_cond1 (bodyRun.sl.r c arg0 g0) (bodyRun.sl.r_1 c arg0 g0) = 1#1 := (cond1_iff hL0' hL1').mpr hg0
    have hc2 : ¬ k0_cond2 (bodyRun.sl.r c arg0 g0) (bodyRun.sl.r_1 c arg0 g0) = 1#1 := fun h => by have := (cond2_iff hL0' hL1').mp h; omega
    have hc3 : ¬ k0_cond3 (bodyRun.sl.r c arg0 g0) (bodyRun.sl.r_1 c arg0 g0) = 1#1 := fun h => by have := (cond3_iff hL0' hL1').mp h; omega
    ihave HS0 := (entails_of_eq (show Free c X7 X8 (Ring.sl 4 0) = iprop((∃ f, kP c (Ring.sl 4 0) f) ∗ (∃ f, vP c (Ring.sl 4 0) f) ∗ cellP c (Ring.sl 4 0) 0 ∗ cellP c (Ring.sl 4 0) 1 ∗ w7 c X7 (Ring.sl 4 0) ∗ w8 c X8 (Ring.sl 4 0)) from rfl)) $$ HS0
    icases HS0 with ⟨⟨%e0, HK0⟩, ⟨%d0, HV0⟩, HC0, HD0, HX0, HY0⟩
    ihave HX0 := ((w7_eq c X7 (Ring.sl 4 0) (bOf (nch (bodyRun.sl.r c arg0 g0)) 0) (cOf (nch (bodyRun.sl.r c arg0 g0)) 0)).1) $$ HX0
    ihave HY0 := ((w8_eq c X8 (Ring.sl 4 0) (bOf (nch (bodyRun.sl.r c arg0 g0)) 0) (cOf (nch (bodyRun.sl.r c arg0 g0)) 0)).1) $$ HY0
    icases HX0 with ⟨HX0, HZ0⟩
    icases HY0 with ⟨HY0, HU0⟩
    sl_exec
    ihave HR : (resAt c X7 X8 arg0 g0 (nch (bodyRun.sl.r c arg0 g0)) (nch (bodyRun.sl.r c arg0 g0) + nch (bodyRun.sl.r_1 c arg0 g0)) 0) $$ [H0 HW HC0 HD0 HZ0 HU0 HS1 HS2 HS3]
    · unfold resAt ringAt
      isplitl [H0]; iexact H0
      isplitl [HW]; iexists _; iexact HW
      isplitl [HC0 HD0 HZ0 HU0]
      · rw [role_lt c X7 X8 (show 0 < nch (bodyRun.sl.r c arg0 g0) + nch (bodyRun.sl.r_1 c arg0 g0) by omega)]
        unfold Infl
        isplitl [HC0]; iexists e0; iexact HC0
        isplitl [HD0]; iexists d0; iexact HD0
        isplitl [HZ0]; iexact HZ0
        iexact HU0
      isplitl [HS1]
      · rw [role_ge c X7 X8 (show ¬ 0 + 1 < nch (bodyRun.sl.r c arg0 g0) + nch (bodyRun.sl.r_1 c arg0 g0) by omega)]
        iexact HS1
      isplitl [HS2]
      · rw [role_ge c X7 X8 (show ¬ 0 + 2 < nch (bodyRun.sl.r c arg0 g0) + nch (bodyRun.sl.r_1 c arg0 g0) by omega)]
        iexact HS2
      iexact HS3
    sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
    case region =>
      intro k x
      iintro ⟨%hx, HR⟩
      iapply (wp_wand_r Idealize.ShloMosaic.frame (wpE (defs₀ (F := F)) 𝒱₀ (c : Thread nD τ) none) Set.univ)
      isplitl [HR]
      · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
        iexact HR
      · iintro %y ⟨%hy, HR⟩
        isplitl []
        · ipureintro
          rw [hy, hx]; rfl
        iexact HR
    · isplitl []
      · ipureintro; rfl
      iexact HR
    iintro %x1 ⟨%hx1, HR⟩
    have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
    rw [hT1] at hx1 ⊢
    sl_exec
    sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
    case region =>
      intro k x
      iintro ⟨%hx, HR⟩
      iapply (wp_wand_r Idealize.ShloMosaic.frame (wpE (defs₀ (F := F)) 𝒱₀ (c : Thread nD τ) none) Set.univ)
      isplitl [HR]
      · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
        iexact HR
      · iintro %y ⟨%hy, HR⟩
        isplitl []
        · ipureintro
          rw [hy, hx]; rfl
        iexact HR
    · isplitl []
      · ipureintro; rfl
      iexact HR
    iintro %x3 ⟨%hx3, HR⟩
    have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
    rw [hT3] at hx3 ⊢
    sl_exec
    sl_step
    ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
    icases HR with ⟨H0, HW, HR⟩
    ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
    iapply Hk
    isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [H9 H10 H11 H12 H13]
    · isplitl [H9]
      · rw [hx3, hx1]; iexact H9
      isplitl [H10]; iexact H10
      isplitl [H11]; iexact H11
      isplitl [H12]; iexact H12
      iexact H13
    isplitl [HF]; iexact HF
    iexact HW
  have hc1 : ¬ k0_cond1 (bodyRun.sl.r c arg0 g0) (bodyRun.sl.r_1 c arg0 g0) = 1#1 := fun h => by have := (cond1_iff hL0' hL1').mp h; omega
  have hc2 : ¬ k0_cond2 (bodyRun.sl.r c arg0 g0) (bodyRun.sl.r_1 c arg0 g0) = 1#1 := fun h => by have := (cond2_iff hL0' hL1').mp h; omega
  have hc3 : ¬ k0_cond3 (bodyRun.sl.r c arg0 g0) (bodyRun.sl.r_1 c arg0 g0) = 1#1 := fun h => by have := (cond3_iff hL0' hL1').mp h; omega
  sl_exec
  ihave HR : (resAt c X7 X8 arg0 g0 (nch (bodyRun.sl.r c arg0 g0)) (nch (bodyRun.sl.r c arg0 g0) + nch (bodyRun.sl.r_1 c arg0 g0)) 0) $$ [H0 HW HS0 HS1 HS2 HS3]
  · unfold resAt ringAt
    isplitl [H0]; iexact H0
    isplitl [HW]; iexists _; iexact HW
    isplitl [HS0]
    · rw [role_ge c X7 X8 (show ¬ 0 < nch (bodyRun.sl.r c arg0 g0) + nch (bodyRun.sl.r_1 c arg0 g0) by omega)]
      iexact HS0
    isplitl [HS1]
    · rw [role_ge c X7 X8 (show ¬ 0 + 1 < nch (bodyRun.sl.r c arg0 g0) + nch (bodyRun.sl.r_1 c arg0 g0) by omega)]
      iexact HS1
    isplitl [HS2]
    · rw [role_ge c X7 X8 (show ¬ 0 + 2 < nch (bodyRun.sl.r c arg0 g0) + nch (bodyRun.sl.r_1 c arg0 g0) by omega)]
      iexact HS2
    iexact HS3
  sl_for (fun k x => iprop(⌜x = st0 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) k)) $$ [HR]
  case region =>
    intro k x
    iintro ⟨%hx, HR⟩
    iapply (wp_wand_r Idealize.ShloMosaic.frame (wpE (defs₀ (F := F)) 𝒱₀ (c : Thread nD τ) none) Set.univ)
    isplitl [HR]
    · iapply (tripRun1 c X7 X8 arg0 harg0 arg1 harg1 arg2 harg2 arg3 harg3 arg4 harg4 arg5 harg5 arg6 harg6 arg9 harg9 arg10 harg10 arg11 harg11 arg12 harg12 arg13 harg13 g0 _ _ _ _ _ _ _ _ _ _ hL0' hL1' k x)
      iexact HR
    · iintro %y ⟨%hy, HR⟩
      isplitl []
      · ipureintro
        rw [hy, hx]; rfl
      iexact HR
  · isplitl []
    · ipureintro; rfl
    iexact HR
  iintro %x1 ⟨%hx1, HR⟩
  have hT1 : Scf.trips (k0_t1_loop (bodyRun.sl.r c arg0 g0)).lb (k0_t1_loop (bodyRun.sl.r c arg0 g0)).ub (k0_t1_loop (bodyRun.sl.r c arg0 g0)).st = nch (bodyRun.sl.r c arg0 g0) := trips1_eq hL0'
  rw [hT1] at hx1 ⊢
  sl_exec
  sl_for (fun k x => iprop(⌜x = st1 c X7 X8 arg0 arg2 arg3 arg4 arg5 arg6 g0 g2 g3 g4 g5 g6 k⌝ ∗ resAt c X7 X8 arg0 g0 (nch (bodyRun.sl.r c arg0 g0)) (nch (bodyRun.sl.r c arg0 g0) + nch (bodyRun.sl.r_1 c arg0 g0)) (nch (bodyRun.sl.r c arg0 g0) + k))) $$ [HR]
  case region =>
    intro k x
    iintro ⟨%hx, HR⟩
    iapply (wp_wand_r Idealize.ShloMosaic.frame (wpE (defs₀ (F := F)) 𝒱₀ (c : Thread nD τ) none) Set.univ)
    isplitl [HR]
    · iapply (tripRun3 c X7 X8 arg0 harg0 arg1 harg1 arg2 harg2 arg3 harg3 arg4 harg4 arg5 harg5 arg6 harg6 arg9 harg9 arg10 harg10 arg11 harg11 arg12 harg12 arg13 harg13 g0 _ _ _ _ _ _ _ hL0' hL1' k x)
      iexact HR
    · iintro %y ⟨%hy, HR⟩
      isplitl []
      · ipureintro
        rw [hy, hx]; rfl
      iexact HR
  · isplitl []
    · ipureintro; rfl
    iexact HR
  iintro %x3 ⟨%hx3, HR⟩
  have hT3 : Scf.trips (k0_t3_loop (bodyRun.sl.r_1 c arg0 g0)).lb (k0_t3_loop (bodyRun.sl.r_1 c arg0 g0)).ub (k0_t3_loop (bodyRun.sl.r_1 c arg0 g0)).st = nch (bodyRun.sl.r_1 c arg0 g0) := trips3_eq hL1'
  rw [hT3] at hx3 ⊢
  sl_exec
  sl_step
  ihave HR := (entails_of_eq (show resAt c X7 X8 arg0 g0 (nch (bodyRun.sl.r c arg0 g0)) (nch (bodyRun.sl.r c arg0 g0) + nch (bodyRun.sl.r_1 c arg0 g0)) (nch (bodyRun.sl.r c arg0 g0) + nch (bodyRun.sl.r_1 c arg0 g0)) = iprop(lensP c arg0 g0 ∗ (∃ W, owes (c : Thread nD τ) 0 W) ∗ ringAt c X7 X8 (nch (bodyRun.sl.r c arg0 g0)) (nch (bodyRun.sl.r c arg0 g0) + nch (bodyRun.sl.r_1 c arg0 g0)) (nch (bodyRun.sl.r c arg0 g0) + nch (bodyRun.sl.r_1 c arg0 g0))) from rfl)) $$ HR
  icases HR with ⟨H0, HW, HR⟩
  ihave HF := (ring_end c X7 X8 (n := nch (bodyRun.sl.r c arg0 g0)) (T := nch (bodyRun.sl.r c arg0 g0) + nch (bodyRun.sl.r_1 c arg0 g0)) (p := nch (bodyRun.sl.r c arg0 g0) + nch (bodyRun.sl.r_1 c arg0 g0)) (le_refl _)) $$ HR
  iapply Hk
  isplitl [H0 H1 H2 H3 H4 H5 H6]
  · isplitl [H0]; iexact H0
    isplitl [H1]; iexact H1
    isplitl [H2]; iexact H2
    isplitl [H3]; iexact H3
    isplitl [H4]; iexact H4
    isplitl [H5]; iexact H5
    iexact H6
  isplitl [H9 H10 H11 H12 H13]
  · isplitl [H9]
    · rw [hx3, hx1]; iexact H9
    isplitl [H10]; iexact H10
    isplitl [H11]; iexact H11
    isplitl [H12]; iexact H12
    iexact H13
  isplitl [HF]; iexact HF
  iexact HW

end Body

end Cert.Kernel.Run

end
-- ==== Proof.Bits.Launch.lean ====
/-
  The launch: the host lines before the pallas_call, the pallas_call, the reshape after it. Its region invariant holds
  the two cache arrays, the two slot buffers and the slots' cells at zero; the run ends with every array at the
  contents the body computes and every semaphore counter at zero.
-/
module

public import proofs.«01_k».proof.Defs
public import proofs.«01_k».proof.Proof.Bits.Chk
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameSuffix
public import Idealize.ShloMosaic.Lib.Ring
public import Idealize.ShloMosaic.Lib.Affine
public import proofs.«01_k».proof.Proof.Bits.Body
public import proofs.«01_k».proof.Proof.PreIn
public import Idealize.ShloMosaic.Lib.Tactic

@[expose] public section

noncomputable section

namespace Cert.Kernel.Run

open Cert.Kernel Cert.Kernel.Gen Cert.Kernel.Chk Cert.Proof.Words
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

variable {F : FTy → Type} [FloatOps F]

local notation "𝕄" => MT nD τ sig Unit (Elt F) ℕ (UU nD τ) ℕ

variable (m : (ℓ : Loc nD τ sig) → Buf (Elt F) ℓ) (ρ : Dev nD → PrngReg)

/-! ## The kernel's own semaphores: two cells per slot -/

abbrev osem : Fin 8 → SemLoc sig := ![.dma (csm 0 0).sem, .dma (csm 0 1).sem, .dma (csm 1 0).sem, .dma (csm 1 1).sem, .dma (csm 2 0).sem, .dma (csm 2 1).sem, .dma (csm 3 0).sem, .dma (csm 3 1).sem]
theorem ownSemFacts : Pipeline.OwnSemFacts spec0 osem := by decide

/-! ## The slots of a buffer tile it -/

abbrev SL (s : Fin 4) : Finset S4x256x4096.Idx := (Rect.unit (s := S4x256x4096) (slotOff s) S1x256x4096.size (inb_slot s)).set
omit [FloatOps F] in
theorem k14_set (s : Fin 4) : (k14 s).view.set = SL s := (View.set_reshape _ _).trans (View.set_slice_whole _ _)
omit [FloatOps F] in
theorem v15_set (s : Fin 4) : (v15 s).view.set = SL s := (View.set_reshape _ _).trans (View.set_slice_whole _ _)
theorem mem_SL (s : Fin 4) (y : S4x256x4096.Idx) : y ∈ SL s ↔ (y 0).val = s.val := by
  rw [Rect.mem_set_unit]
  have h1 : (y 1).val < 256 := (y 1).isLt
  have h2 : (y 2).val < 4096 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 4096; omega
theorem SL_disjoint : ∀ s s' : Fin 4, s ≠ s' → Disjoint (SL s) (SL s') := by
  intro s s' hne; rw [Finset.disjoint_left]; intro y hy hy'; rw [mem_SL] at hy hy'; exact hne (Fin.ext (hy.symm.trans hy'))
theorem SL_cover : (Finset.univ : Finset (Fin 4)).biUnion SL = Finset.univ := by
  ext y; simp only [Finset.mem_biUnion, Finset.mem_univ, true_and, iff_true]
  exact ⟨⟨(y 0).val, (y 0).isLt⟩, by rw [mem_SL]⟩
omit [FloatOps F] in
theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

omit [FloatOps F] in
theorem kP_eq (c : Dev nD) (s : Fin 4) (f) : kP c s f = (((c : Thread nD τ).loc cc0_scratch0) ↦[SL s]{fullShare} f : sProp 𝕄) :=
  congrArg (fun S => (_ ↦[S]{fullShare} f : sProp 𝕄)) (k14_set s)
/-- The buffer whole is its four slots, and back. -/
theorem k_split (c : Dev nD) :
    iprop(∃ f : Buf (Elt F) ((c : Thread nD τ).loc cc0_scratch0), ((c : Thread nD τ).loc cc0_scratch0) ↦{fullShare} f)
      ⊢ (iprop((∃ f, kP c 0 f) ∗ (∃ f, kP c 1 f) ∗ (∃ f, kP c 2 f) ∗ ∃ f, kP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) SL SL_disjoint SL_cover f).trans (bigSep_fin4 _))) $$ H
  icases H2 with ⟨H0, H1, H2, H3⟩
  isplitl [H0]
  · iexists f; iapply (entails_of_eq (kP_eq c 0 f).symm); iexact H0
  isplitl [H1]
  · iexists f; iapply (entails_of_eq (kP_eq c 1 f).symm); iexact H1
  isplitl [H2]
  · iexists f; iapply (entails_of_eq (kP_eq c 2 f).symm); iexact H2
  · iexists f; iapply (entails_of_eq (kP_eq c 3 f).symm); iexact H3
theorem k_join (c : Dev nD) :
    iprop((∃ f, kP c 0 f) ∗ (∃ f, kP c 1 f) ∗ (∃ f, kP c 2 f) ∗ ∃ f, kP c 3 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) SL SL_disjoint SL_cover f0)
  irw [bigSep_fin4]
  isplitl [H0]
  · iexists f0; iapply (entails_of_eq (kP_eq c 0 f0)); iexact H0
  isplitl [H1]
  · iexists f1; iapply (entails_of_eq (kP_eq c 1 f1)); iexact H1
  isplitl [H2]
  · iexists f2; iapply (entails_of_eq (kP_eq c 2 f2)); iexact H2
  · iexists f3; iapply (entails_of_eq (kP_eq c 3 f3)); iexact H3

omit [FloatOps F] in
theorem vP_eq (c : Dev nD) (s : Fin 4) (f) : vP c s f = (((c : Thread nD τ).loc cc0_scratch1) ↦[SL s]{fullShare} f : sProp 𝕄) :=
  congrArg (fun S => (_ ↦[S]{fullShare} f : sProp 𝕄)) (v15_set s)
/-- The buffer whole is its four slots, and back. -/
theorem v_split (c : Dev nD) :
    iprop(∃ f : Buf (Elt F) ((c : Thread nD τ).loc cc0_scratch1), ((c : Thread nD τ).loc cc0_scratch1) ↦{fullShare} f)
      ⊢ (iprop((∃ f, vP c 0 f) ∗ (∃ f, vP c 1 f) ∗ (∃ f, vP c 2 f) ∗ ∃ f, vP c 3 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) SL SL_disjoint SL_cover f).trans (bigSep_fin4 _))) $$ H
  icases H2 with ⟨H0, H1, H2, H3⟩
  isplitl [H0]
  · iexists f; iapply (entails_of_eq (vP_eq c 0 f).symm); iexact H0
  isplitl [H1]
  · iexists f; iapply (entails_of_eq (vP_eq c 1 f).symm); iexact H1
  isplitl [H2]
  · iexists f; iapply (entails_of_eq (vP_eq c 2 f).symm); iexact H2
  · iexists f; iapply (entails_of_eq (vP_eq c 3 f).symm); iexact H3
theorem v_join (c : Dev nD) :
    iprop((∃ f, vP c 0 f) ∗ (∃ f, vP c 1 f) ∗ (∃ f, vP c 2 f) ∗ ∃ f, vP c 3 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch1) SL SL_disjoint SL_cover f0)
  irw [bigSep_fin4]
  isplitl [H0]
  · iexists f0; iapply (entails_of_eq (vP_eq c 0 f0)); iexact H0
  isplitl [H1]
  · iexists f1; iapply (entails_of_eq (vP_eq c 1 f1)); iexact H1
  isplitl [H2]
  · iexists f2; iapply (entails_of_eq (vP_eq c 2 f2)); iexact H2
  · iexists f3; iapply (entails_of_eq (vP_eq c 3 f3)); iexact H3

/-- A cache array whole is the four slots' read shares of it, and back. -/
theorem w7_split (c : Dev nD) (X : Buf (Elt F) (a7.view.loc (c : Thread nD τ))) :
    (a7.view.loc (c : Thread nD τ) ↦{fullShare} X : sProp 𝕄) ⊣⊢ iprop(w7 c X 0 ∗ w7 c X 1 ∗ w7 c X 2 ∗ w7 c X 3) := by
  have e := (pointsTo_share (Ix := Unit) (Name := ℕ) (U := UU nD τ) (Lvl := ℕ) (ℓ := a7.view.loc (c : Thread nD τ)) (I := Finset.univ) (f := X) (PosShare.mem_left_op_right fullShare))
  have e1 := (pointsTo_share (Ix := Unit) (Name := ℕ) (U := UU nD τ) (Lvl := ℕ) (ℓ := a7.view.loc (c : Thread nD τ)) (I := Finset.univ) (f := X) (PosShare.mem_left_op_right fullShare.left))
  have e2 := (pointsTo_share (Ix := Unit) (Name := ℕ) (U := UU nD τ) (Lvl := ℕ) (ℓ := a7.view.loc (c : Thread nD τ)) (I := Finset.univ) (f := X) (PosShare.mem_left_op_right fullShare.right))
  rw [show w7 c X 0 = (a7.view.loc (c : Thread nD τ) ↦{fullShare.left.left} X : sProp 𝕄) from rfl, show w7 c X 1 = (a7.view.loc (c : Thread nD τ) ↦{fullShare.left.right} X : sProp 𝕄) from rfl,
    show w7 c X 2 = (a7.view.loc (c : Thread nD τ) ↦{fullShare.right.left} X : sProp 𝕄) from rfl, show w7 c X 3 = (a7.view.loc (c : Thread nD τ) ↦{fullShare.right.right} X : sProp 𝕄) from rfl]
  constructor
  · iintro H
    ihave H := e.1 $$ H
    icases H with ⟨HL, HR⟩
    ihave HL := e1.1 $$ HL
    ihave HR := e2.1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply e.2
    isplitl [H0 H1]
    · iapply e1.2
      isplitl [H0]; · iexact H0
      iexact H1
    · iapply e2.2
      isplitl [H2]; · iexact H2
      iexact H3

/-- A cache array whole is the four slots' read shares of it, and back. -/
theorem w8_split (c : Dev nD) (X : Buf (Elt F) (a8.view.loc (c : Thread nD τ))) :
    (a8.view.loc (c : Thread nD τ) ↦{fullShare} X : sProp 𝕄) ⊣⊢ iprop(w8 c X 0 ∗ w8 c X 1 ∗ w8 c X 2 ∗ w8 c X 3) := by
  have e := (pointsTo_share (Ix := Unit) (Name := ℕ) (U := UU nD τ) (Lvl := ℕ) (ℓ := a8.view.loc (c : Thread nD τ)) (I := Finset.univ) (f := X) (PosShare.mem_left_op_right fullShare))
  have e1 := (pointsTo_share (Ix := Unit) (Name := ℕ) (U := UU nD τ) (Lvl := ℕ) (ℓ := a8.view.loc (c : Thread nD τ)) (I := Finset.univ) (f := X) (PosShare.mem_left_op_right fullShare.left))
  have e2 := (pointsTo_share (Ix := Unit) (Name := ℕ) (U := UU nD τ) (Lvl := ℕ) (ℓ := a8.view.loc (c : Thread nD τ)) (I := Finset.univ) (f := X) (PosShare.mem_left_op_right fullShare.right))
  rw [show w8 c X 0 = (a8.view.loc (c : Thread nD τ) ↦{fullShare.left.left} X : sProp 𝕄) from rfl, show w8 c X 1 = (a8.view.loc (c : Thread nD τ) ↦{fullShare.left.right} X : sProp 𝕄) from rfl,
    show w8 c X 2 = (a8.view.loc (c : Thread nD τ) ↦{fullShare.right.left} X : sProp 𝕄) from rfl, show w8 c X 3 = (a8.view.loc (c : Thread nD τ) ↦{fullShare.right.right} X : sProp 𝕄) from rfl]
  constructor
  · iintro H
    ihave H := e.1 $$ H
    icases H with ⟨HL, HR⟩
    ihave HL := e1.1 $$ HL
    ihave HR := e2.1 $$ HR
    icases HL with ⟨H0, H1⟩
    icases HR with ⟨H2, H3⟩
    isplitl [H0]; · iexact H0
    isplitl [H1]; · iexact H1
    isplitl [H2]; · iexact H2
    iexact H3
  · iintro ⟨H0, H1, H2, H3⟩
    iapply e.2
    isplitl [H0 H1]
    · iapply e1.2
      isplitl [H0]; · iexact H0
      iexact H1
    · iapply e2.2
      isplitl [H2]; · iexact H2
      iexact H3

/-! ## The pipeline's proof data -/

abbrev XA7 (c : Dev nD) : Buf (Elt F) (a7.view.loc (c : Thread nD τ)) := V m c main_v3
abbrev XA8 (c : Dev nD) : Buf (Elt F) (a8.view.loc (c : Thread nD τ)) := V m c main_v5
abbrev HH : Finset (Ref sig .tc) := {main_v3, main_v5}
theorem bigSep_HH (Ψ : Ref sig .tc → sProp 𝕄) : bigSep HH Ψ = iprop(Ψ main_v3 ∗ Ψ main_v5) :=
  (bigSep_insert (i := main_v3) (s := {main_v5}) (by decide)).trans (congrArg (fun x => iprop(Ψ main_v3 ∗ x)) bigSep_singleton)
abbrev Φ (c : Dev nD) : sProp 𝕄 := Pipeline.ΦD osem spec0 HH (V m) c

abbrev stg0 (t : Fin cfg0.N) : Memref sig .tc .smem S2 .i32 := win0_0.stage (cfg0.slots t 0)
abbrev hst0 (t : Fin cfg0.N) : (stg0 t).IsWhole := hstage0_0 0
/-- Window 0's staging buffer, holding its block. -/
abbrev G0 (c : Dev nD) (t : Fin cfg0.N) : Buf (Elt F) ((stg0 t).view.loc (c : Thread nD τ)) := (stg0 t).view.rep (iblk m c 0 t)
abbrev stg1 (t : Fin cfg0.N) : Memref sig .tc .smem S4 .i32 := win0_1.stage (cfg0.slots t 1)
abbrev hst1 (t : Fin cfg0.N) : (stg1 t).IsWhole := hstage0_1 0
/-- Window 1's staging buffer, holding its block. -/
abbrev G1 (c : Dev nD) (t : Fin cfg0.N) : Buf (Elt F) ((stg1 t).view.loc (c : Thread nD τ)) := (stg1 t).view.rep (iblk m c 1 t)
abbrev stg2 (t : Fin cfg0.N) : Memref sig .tc .vmem S2x32x64 .bf16 := win0_2.stage (cfg0.slots t 2)
abbrev hst2 (t : Fin cfg0.N) : (stg2 t).IsWhole := hstage0_2 0
/-- Window 2's staging buffer, holding its block. -/
abbrev G2 (c : Dev nD) (t : Fin cfg0.N) : Buf (Elt F) ((stg2 t).view.loc (c : Thread nD τ)) := (stg2 t).view.rep (iblk m c 2 t)
abbrev stg3 (t : Fin cfg0.N) : Memref sig .tc .vmem S2x1x4x64 .bf16 := win0_3.stage (cfg0.slots t 3)
abbrev hst3 (t : Fin cfg0.N) : (stg3 t).IsWhole := hstage0_3 0
/-- Window 3's staging buffer, holding its block. -/
abbrev G3 (c : Dev nD) (t : Fin cfg0.N) : Buf (Elt F) ((stg3 t).view.loc (c : Thread nD τ)) := (stg3 t).view.rep (iblk m c 3 t)
abbrev stg4 (t : Fin cfg0.N) : Memref sig .tc .vmem S2x1x4x64 .bf16 := win0_4.stage (cfg0.slots t 4)
abbrev hst4 (t : Fin cfg0.N) : (stg4 t).IsWhole := hstage0_4 0
/-- Window 4's staging buffer, holding its block. -/
abbrev G4 (c : Dev nD) (t : Fin cfg0.N) : Buf (Elt F) ((stg4 t).view.loc (c : Thread nD τ)) := (stg4 t).view.rep (iblk m c 4 t)
abbrev stg5 (t : Fin cfg0.N) : Memref sig .tc .vmem S4x64 .i32 := win0_5.stage (cfg0.slots t 5)
abbrev hst5 (t : Fin cfg0.N) : (stg5 t).IsWhole := hstage0_5 0
/-- Window 5's staging buffer, holding its block. -/
abbrev G5 (c : Dev nD) (t : Fin cfg0.N) : Buf (Elt F) ((stg5 t).view.loc (c : Thread nD τ)) := (stg5 t).view.rep (iblk m c 5 t)
abbrev stg6 (t : Fin cfg0.N) : Memref sig .tc .vmem S4x1 .i32 := win0_6.stage (cfg0.slots t 6)
abbrev hst6 (t : Fin cfg0.N) : (stg6 t).IsWhole := hstage0_6 0
/-- Window 6's staging buffer, holding its block. -/
abbrev G6 (c : Dev nD) (t : Fin cfg0.N) : Buf (Elt F) ((stg6 t).view.loc (c : Thread nD τ)) := (stg6 t).view.rep (iblk m c 6 t)
abbrev stg7 (t : Fin cfg0.N) : Memref sig .tc .vmem S2x32x64 .bf16 := win0_7.stage (cfg0.slots t 7)
abbrev hst7 (t : Fin cfg0.N) : (stg7 t).IsWhole := hstage0_7 0
abbrev stg8 (t : Fin cfg0.N) : Memref sig .tc .vmem S2x1x4x64 .fp8e4m3 := win0_8.stage (cfg0.slots t 8)
abbrev hst8 (t : Fin cfg0.N) : (stg8 t).IsWhole := hstage0_8 0
abbrev stg9 (t : Fin cfg0.N) : Memref sig .tc .vmem S4x64 .f32 := win0_9.stage (cfg0.slots t 9)
abbrev hst9 (t : Fin cfg0.N) : (stg9 t).IsWhole := hstage0_9 0
abbrev stg10 (t : Fin cfg0.N) : Memref sig .tc .vmem S2x1x4x64 .fp8e4m3 := win0_10.stage (cfg0.slots t 10)
abbrev hst10 (t : Fin cfg0.N) : (stg10 t).IsWhole := hstage0_10 0
abbrev stg11 (t : Fin cfg0.N) : Memref sig .tc .smem S4 .f32 := win0_11.stage (cfg0.slots t 11)
abbrev hst11 (t : Fin cfg0.N) : (stg11 t).IsWhole := hstage0_11 0

/-- The arrays the pallas_call writes, as its one point leaves them. -/
def fin7 (c : Dev nD) (t : Fin cfg0.N) : S2x32x64.Idx → Elt F .bf16 := c9 c (XA7 m c) (XA8 m c) (stg0 t) (stg2 t) (stg3 t) (stg4 t) (stg5 t) (stg6 t) (G0 m c t) (G2 m c t) (G3 m c t) (G4 m c t) (G5 m c t) (G6 m c t)
def fin8 (c : Dev nD) (t : Fin cfg0.N) : S2x1x4x64.Idx → Elt F .fp8e4m3 := c10 c (stg3 t) (stg5 t) (G3 m c t) (G5 m c t)
def fin9 (c : Dev nD) (t : Fin cfg0.N) : S4x64.Idx → Elt F .f32 := c11 c (stg5 t) (G5 m c t)
def fin10 (c : Dev nD) (t : Fin cfg0.N) : S2x1x4x64.Idx → Elt F .fp8e4m3 := c12 c (stg4 t) (stg6 t) (G4 m c t) (G6 m c t)
def fin11 (c : Dev nD) (t : Fin cfg0.N) : S4.Idx → Elt F .f32 := c13 c (stg1 t) (G1 m c t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => fin7 m c t
    | ⟨8, _⟩ => fin8 m c t
    | ⟨9, _⟩ => fin9 m c t
    | ⟨10, _⟩ => fin10 m c t
    | ⟨11, _⟩ => fin11 m c t
  Φ _ := Φ m c
  q _ := fullShare
  owed _ := 0

theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem before_w3 (c : Dev nD) (t : Fin cfg0.N) (d) : (dats m 0 c).before 3 t d = iblk m c 3 t := by
  unfold Dat.before; rw [if_pos (fetch0_3 t)]; unfold Dat.fetched Dat.blockOf iblk; dsimp only [dats]; rfl
theorem before_w4 (c : Dev nD) (t : Fin cfg0.N) (d) : (dats m 0 c).before 4 t d = iblk m c 4 t := by
  unfold Dat.before; rw [if_pos (fetch0_4 t)]; unfold Dat.fetched Dat.blockOf iblk; dsimp only [dats]; rfl
theorem before_w5 (c : Dev nD) (t : Fin cfg0.N) (d) : (dats m 0 c).before 5 t d = iblk m c 5 t := by
  unfold Dat.before; rw [if_pos (fetch0_5 t)]; unfold Dat.fetched Dat.blockOf iblk; dsimp only [dats]; rfl
theorem before_w6 (c : Dev nD) (t : Fin cfg0.N) (d) : (dats m 0 c).before 6 t d = iblk m c 6 t := by
  unfold Dat.before; rw [if_pos (fetch0_6 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = fin7 m c t := by dsimp only [dats]
theorem after_w8 (c : Dev nD) (t : Fin cfg0.N) : (dats m 0 c).after 8 t = fin8 m c t := by dsimp only [dats]
theorem after_w9 (c : Dev nD) (t : Fin cfg0.N) : (dats m 0 c).after 9 t = fin9 m c t := by dsimp only [dats]
theorem after_w10 (c : Dev nD) (t : Fin cfg0.N) : (dats m 0 c).after 10 t = fin10 m c t := by dsimp only [dats]
theorem after_w11 (c : Dev nD) (t : Fin cfg0.N) : (dats m 0 c).after 11 t = fin11 m c t := by dsimp only [dats]

/-! ## The body obligation -/

/-- The precondition as the proof uses it: on every core both lengths lie between 1 and 131072. -/
def PreOK : Prop := ∀ (c : Dev nD) (j), InR (m ((c : Thread nD τ).loc main_arg5) j)

theorem ok0 (h : PreOK m) (c : Dev nD) (t : Fin cfg0.N) : InR (len0 c (stg0 t) (G0 m c t)) := by
  unfold len0; rw [View.readAt_apply, View.read_rep]
  unfold iblk; rw [View.read_apply, show V m c (Pipeline.arrRef spec0 0) = _ from V_main_arg5 m c]
  exact h c _
theorem ok1 (h : PreOK m) (c : Dev nD) (t : Fin cfg0.N) : InR (len1 c (stg0 t) (G0 m c t)) := by
  unfold len1; rw [View.readAt_apply, View.read_rep]
  unfold iblk; rw [View.read_apply, show V m c (Pipeline.arrRef spec0 0) = _ from V_main_arg5 m c]
  exact h c _

theorem defs_tc : (defs₀ (F := F)) .tc cfg0.body
    = fun a => bodyG (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (win0_5.stage (a.2 5)) (hstage0_5 0) (win0_6.stage (a.2 6)) (hstage0_6 0) (win0_7.stage (a.2 7)) (hstage0_7 0) (win0_8.stage (a.2 8)) (hstage0_8 0) (win0_9.stage (a.2 9)) (hstage0_9 0) (win0_10.stage (a.2 10)) (hstage0_10 0) (win0_11.stage (a.2 11)) (hstage0_11 0) := rfl
theorem prog_eq (t : Fin cfg0.N) : (defs₀ (F := F)) .tc cfg0.body (cfg0.bodyArgs t (cfg0.slots t)) = bodyG (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) :=
  (congrFun defs_tc _).trans rfl

/-- The invariant, opened: the four slots free, each with its buffers, its cells and its shares of the caches. -/
theorem Φ_open (c : Dev nD) : (Φ m c : sProp 𝕄) ⊣⊢ iprop((∃ r, prngReg c r) ∗ FREES c (XA7 m c) (XA8 m c)) := by
  unfold Φ Pipeline.ΦD Pipeline.ownSems0 FREES Free
  rw [scopedRest0_eq, bigSep_fin8, bigSep_HH]
  constructor
  · iintro ⟨⟨Hk, Hv⟩, Hp, ⟨C00, C01, C10, C11, C20, C21, C30, C31⟩, H7, H8⟩
    ihave Hk := (k_split c) $$ Hk
    ihave Hv := (v_split c) $$ Hv
    ihave H7 := (w7_split c (XA7 m c)).1 $$ H7
    ihave H8 := (w8_split c (XA8 m c)).1 $$ H8
    icases Hk with ⟨K0, K1, K2, K3⟩
    icases Hv with ⟨V0, V1, V2, V3⟩
    icases H7 with ⟨X0, X1, X2, X3⟩
    icases H8 with ⟨Y0, Y1, Y2, Y3⟩
    isplitl [Hp]; · iexact Hp
    isplitl [K0 V0 C00 C01 X0 Y0]
    · isplitl [K0]; iexact K0
      isplitl [V0]; iexact V0
      isplitl [C00]; iexact C00
      isplitl [C01]; iexact C01
      isplitl [X0]; iexact X0
      iexact Y0
    isplitl [K1 V1 C10 C11 X1 Y1]
    · isplitl [K1]; iexact K1
      isplitl [V1]; iexact V1
      isplitl [C10]; iexact C10
      isplitl [C11]; iexact C11
      isplitl [X1]; iexact X1
      iexact Y1
    isplitl [K2 V2 C20 C21 X2 Y2]
    · isplitl [K2]; iexact K2
      isplitl [V2]; iexact V2
      isplitl [C20]; iexact C20
      isplitl [C21]; iexact C21
      isplitl [X2]; iexact X2
      iexact Y2
    · isplitl [K3]; iexact K3
      isplitl [V3]; iexact V3
      isplitl [C30]; iexact C30
      isplitl [C31]; iexact C31
      isplitl [X3]; iexact X3
      iexact Y3
  · iintro ⟨Hp, ⟨K0, V0, C00, C01, X0, Y0⟩, ⟨K1, V1, C10, C11, X1, Y1⟩, ⟨K2, V2, C20, C21, X2, Y2⟩, ⟨K3, V3, C30, C31, X3, Y3⟩⟩
    isplitl [K0 K1 K2 K3 V0 V1 V2 V3]
    · isplitl [K0 K1 K2 K3]
      · iapply (k_join c)
        isplitl [K0]; iexact K0
        isplitl [K1]; iexact K1
        isplitl [K2]; iexact K2
        iexact K3
      · iapply (v_join c)
        isplitl [V0]; iexact V0
        isplitl [V1]; iexact V1
        isplitl [V2]; iexact V2
        iexact V3
    isplitl [Hp]; · iexact Hp
    isplitl [C00 C01 C10 C11 C20 C21 C30 C31]
    · isplitl [C00]; iexact C00
      isplitl [C01]; iexact C01
      isplitl [C10]; iexact C10
      isplitl [C11]; iexact C11
      isplitl [C20]; iexact C20
      isplitl [C21]; iexact C21
      isplitl [C30]; iexact C30
      iexact C31
    isplitl [X0 X1 X2 X3]
    · iapply (w7_split c (XA7 m c)).2
      isplitl [X0]; iexact X0
      isplitl [X1]; iexact X1
      isplitl [X2]; iexact X2
      iexact X3
    · iapply (w8_split c (XA8 m c)).2
      isplitl [Y0]; iexact Y0
      isplitl [Y1]; iexact Y1
      isplitl [Y2]; iexact Y2
      iexact Y3

set_option maxHeartbeats 2000000 in
set_option backward.isDefEq.respectTransparency.types false in
theorem body_obligation (h : PreOK m) (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6, after_w0, after_w1, after_w2, after_w3, after_w4, after_w5, after_w6, after_w7, after_w8, after_w9, after_w10, after_w11]
  rw [show (dats m 0 c).Φ t.castSucc = Φ m c from rfl, show (dats m 0 c).Φ t.succ = Φ m c from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, -, H9⟩, ⟨%d8, %g8, -, H10⟩, ⟨%d9, %g9, -, H11⟩, ⟨%d10, %g10, -, H12⟩, ⟨%d11, %g11, -, H13⟩⟩
  ihave HF := (Φ_open m c).1 $$ HΦ
  icases HF with ⟨Hp, HF⟩
  ihave H0 := (pointsTo_rep_entails (c : Thread nD τ) (stg0 t) g0 fullShare) $$ H0
  ihave H1 := (pointsTo_rep_entails (c : Thread nD τ) (stg1 t) g1 fullShare) $$ H1
  ihave H2 := (pointsTo_rep_entails (c : Thread nD τ) (stg2 t) g2 fullShare) $$ H2
  ihave H3 := (pointsTo_rep_entails (c : Thread nD τ) (stg3 t) g3 fullShare) $$ H3
  ihave H4 := (pointsTo_rep_entails (c : Thread nD τ) (stg4 t) g4 fullShare) $$ H4
  ihave H5 := (pointsTo_rep_entails (c : Thread nD τ) (stg5 t) g5 fullShare) $$ H5
  ihave H6 := (pointsTo_rep_entails (c : Thread nD τ) (stg6 t) g6 fullShare) $$ H6
  rw [hg0, hg1, hg2, hg3, hg4, hg5, hg6]
  sl_rw [prog_eq t]
  iapply (bodyRun c (XA7 m c) (XA8 m c) (stg0 t) (hst0 t) (stg1 t) (hst1 t) (stg2 t) (hst2 t) (stg3 t) (hst3 t) (stg4 t) (hst4 t) (stg5 t) (hst5 t) (stg6 t) (hst6 t) (stg7 t) (hst7 t) (stg8 t) (hst8 t) (stg9 t) (hst9 t) (stg10 t) (hst10 t) (stg11 t) (hst11 t) (G0 m c t) (G1 m c t) (G2 m c t) (G3 m c t) (G4 m c t) (G5 m c t) (G6 m c t) g7 g8 g9 g10 g11 (ok0 m h c t) (ok1 m h c t) W)
  isplitl [H0 H1 H2 H3 H4 H5 H6 H9 H10 H11 H12 H13 HF HW]
  · isplitl [H0 H1 H2 H3 H4 H5 H6]
    · isplitl [H0]; iexact H0
      isplitl [H1]; iexact H1
      isplitl [H2]; iexact H2
      isplitl [H3]; iexact H3
      isplitl [H4]; iexact H4
      isplitl [H5]; iexact H5
      iexact H6
    isplitl [H9 H10 H11 H12 H13]
    · isplitl [H9]; iexact H9
      isplitl [H10]; iexact H10
      isplitl [H11]; iexact H11
      isplitl [H12]; iexact H12
      iexact H13
    isplitl [HF]; iexact HF
    iexact HW
  · iintro ⟨⟨H0, H1, H2, H3, H4, H5, H6⟩, ⟨H9, H10, H11, H12, H13⟩, HF, ⟨%W', HW⟩⟩
    isplitl [Hp HF]
    · iapply (Φ_open m c).2
      isplitl [Hp]; iexact Hp
      iexact HF
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    isplitl [H3]
    · iexists _; isplitr; · ipureintro; exact View.read_rep _ _
      iexact H3
    isplitl [H4]
    · iexists _; isplitr; · ipureintro; exact View.read_rep _ _
      iexact H4
    isplitl [H5]
    · iexists _; isplitr; · ipureintro; exact View.read_rep _ _
      iexact H5
    isplitl [H6]
    · iexists _; isplitr; · ipureintro; exact View.read_rep _ _
      iexact H6
    isplitl [H9]
    · iexists _; isplitr; · ipureintro; exact read_o9 (g9 := g7) ..
      iexact H9
    isplitl [H10]
    · iexists _; isplitr; · ipureintro; exact read_o10 ..
      iexact H10
    isplitl [H11]
    · iexists _; isplitr; · ipureintro; exact read_o11 ..
      iexact H11
    isplitl [H12]
    · iexists _; isplitr; · ipureintro; exact read_o12 ..
      iexact H12
    · iexists _; isplitr; · ipureintro; exact read_o13 ..
      iexact H13

/-! ## The run -/

set_option maxHeartbeats 800000 in
theorem hmainD : Pipeline.HMainK (Ix := Unit) (Name := ℕ) (U := UU nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches neither cache array. -/
theorem sfx_subD : ∀ ops ∈ ([hostOps1] : List (List (HloOp τ sig (Elt F)))), ∀ op ∈ ops,
    op.bufs ⊆ Pipeline.tailRefsBut sig Pipeline.Prefetch.none spec0 HH := by
  intro ops hops op hop
  simp only [List.mem_cons, List.mem_nil_iff, or_false] at hops
  rcases hops with rfl
  refine Pipeline.sub_tailRefsBut _ _ _ _ ((List.forall_iff_forall_mem.mp hostOps1_sub) op hop) (fun k => k.elim0) ?_
  simp only [hostOps1, List.mem_cons, List.mem_nil_iff, or_false] at hop
  rcases hop with rfl
  intro b hb
  simp only [HH, Finset.mem_insert, Finset.mem_singleton] at hb
  rw [StableHlo.reshape_bufs, Finset.mem_insert, Finset.mem_singleton, not_or]
  rcases hb with rfl | rfl <;> exact ⟨StableHlo.devRef_ne_of_ne (by decide), StableHlo.devRef_ne_of_ne (by decide)⟩

set_option backward.isDefEq.respectTransparency.types false in
/-- From any memory whose lengths lie between 1 and 131072: every weakly fair execution of @main terminates, and every
    final state has the pipeline's arrays at the computed contents, every other buffer at what the host lines leave,
    and every semaphore counter at zero. -/
theorem run_main (h : PreOK m) : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around cfgs (dats m) 0 launch0 osem defs₀ 𝒱₀ ownSemFacts HH (by decide) m ρ main
    (hbody := fun c => (body_obligation m h c).loose) (hshare := fun c => (dats m 0 c).share_full fun _ => rfl)
    (howed := fun _ _ => rfl) (V₀ := V0 m) (opss := [hostOps1]) (hsub := sfx_subD) (hfresh := sfx_fresh) (hkeep := sfx_keeps)
    (hmain := hmainD m) (hA := fun _ _ => rfl) (hin := fun _ => .rfl) (hout := fun _ => .rfl)
    (Q' := _) (hQ' := fun _ h => h)

/-- No host operation after the region writes `main_arg0`: it ends as launched. -/
theorem W_main_arg0 (dats : (p : Fin _) → (c : Dev nD) → Dat τ (Elt F) Unit ℕ (UU nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg3`: it ends as launched. -/
theorem W_main_arg3 (dats : (p : Fin _) → (c : Dev nD) → Dat τ (Elt F) Unit ℕ (UU nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UU nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- The argument arrays end as launched. -/
theorem args_kept (r : PUnit × MemSt nD τ sig (Elt F))
    (h : Pipeline.FramePost cfgs (dats m) 0 (Pipeline.afterTail₀ cfgs (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(((h c).2 main_arg0 (Pipeline.mem_restRefs_of main_arg0 (by decide) (by decide))).trans (W_main_arg0 m (dats m) c)),
      ((h c).1 3).trans (((dats m 0 c).arrAt_in 3 rfl _).trans (V_main_arg1 m c)),
      ((h c).1 4).trans (((dats m 0 c).arrAt_in 4 rfl _).trans (V_main_arg2 m c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 0).trans (((dats m 0 c).arrAt_in 0 rfl _).trans (V_main_arg5 m c)),
      ((h c).1 5).trans (((dats m 0 c).arrAt_in 5 rfl _).trans (V_main_arg6 m c)),
      ((h c).1 1).trans (((dats m 0 c).arrAt_in 1 rfl _).trans (V_main_arg7 m c))⟩

end Cert.Kernel.Run

end
-- ==== Proof.Math.lean ====
/-
  The softmax over a cache and one new row, on the extended reals: what an online pass over chunks of 4096 columns
  accumulates, and that it is the softmax taken at once.
-/
module

public import Idealize.ShloMosaic.PureOps.Ideal
public import Idealize.ShloMosaic.PureOps.Ideal.Laws
public import Mathlib.Data.EReal.Operations
public import Mathlib.Algebra.BigOperators.Intervals
public import Mathlib.Tactic.Ring
public import Mathlib.Tactic.NormNum
public import Mathlib.Tactic.Positivity

@[expose] public section

noncomputable section

namespace Cert.Proof.Soft

open Idealize.ShloMosaic

/-- A score's weight against a maximum. -/
def w (s m : EReal) : EReal := Ideal.exp (s - m)

theorem w_bot (m : EReal) : w ⊥ m = 0 := by
  unfold w; rw [sub_eq_add_neg, EReal.bot_add]; rfl

theorem w_top (s : EReal) : w s ⊤ = 0 := by
  unfold w; rw [sub_eq_add_neg, EReal.neg_top, EReal.add_bot]; rfl

theorem w_coe (x y : ℝ) : w x y = ((Real.exp (x - y) : ℝ) : EReal) := by
  unfold w; rw [← EReal.coe_sub]; rfl

/-- Against a maximum that is no smaller, a weight is a nonnegative real. -/
theorem w_real {s m : EReal} (h : s ≤ m) : ∃ r : ℝ, 0 ≤ r ∧ w s m = (r : EReal) := by
  induction m with
  | top => exact ⟨0, le_rfl, by rw [w_top]; rfl⟩
  | bot => rw [le_bot_iff] at h; subst h; exact ⟨0, le_rfl, by rw [w_bot]; rfl⟩
  | coe y =>
    induction s with
    | bot => exact ⟨0, le_rfl, by rw [w_bot]; rfl⟩
    | top => exact absurd h (by simp)
    | coe x => exact ⟨_, (Real.exp_pos _).le, w_coe x y⟩

/-- Weights compose along rising maxima. -/
theorem w_mul {s m m' : EReal} (h : s ≤ m) (h' : m ≤ m') : w m m' * w s m = w s m' := by
  induction m' with
  | top => rw [w_top, w_top, zero_mul]
  | bot => rw [le_bot_iff] at h'; subst h'; rw [le_bot_iff] at h; subst h; simp [w_bot]
  | coe z =>
    induction m with
    | top => exact absurd h' (by simp)
    | bot => rw [le_bot_iff] at h; subst h; simp [w_bot]
    | coe y =>
      induction s with
      | bot => simp [w_bot]
      | top => exact absurd h (by simp)
      | coe x =>
        rw [w_coe, w_coe, w_coe, ← EReal.coe_mul, ← Real.exp_add]
        congr 2; ring

/-- A nonnegative real goes inside a sum. -/
theorem real_mul_sum {ι : Type} (r : ℝ) (hr : 0 ≤ r) (S : Finset ι) (f : ι → EReal) : (r : EReal) * ∑ i ∈ S, f i = ∑ i ∈ S, (r : EReal) * f i := by
  classical
  induction S using Finset.induction_on with
  | empty => simp
  | insert a S ha ih => rw [Finset.sum_insert ha, Finset.sum_insert ha, EReal.left_distrib_of_nonneg_of_ne_top (by exact_mod_cast hr) (EReal.coe_ne_top r), ih]

theorem real_mul_add (r : ℝ) (hr : 0 ≤ r) (a b : EReal) : (r : EReal) * (a + b) = r * a + r * b :=
  EReal.left_distrib_of_nonneg_of_ne_top (by exact_mod_cast hr) (EReal.coe_ne_top r) _ _

/-- The scale of a key and the score scale may be taken into the query. -/
theorem score_eq {ι : Type} [Fintype ι] (q k : ι → EReal) (s : ι → EReal) (c : ℝ) (hc : 0 ≤ c) :
    ∑ d, (q d * s d * c) * k d = (∑ d, q d * (k d * s d)) * c := by
  rw [mul_comm _ (c : EReal), real_mul_sum c hc]
  refine Finset.sum_congr rfl fun d _ => ?_
  rw [mul_comm (q d * s d) (c : EReal), mul_assoc, mul_assoc, mul_comm (k d)]

section Run

variable (sn vn : EReal) (s v : ℕ → EReal)

/-- The maximum of the new score and of the first `k` chunks' scores; their weights' sum; the weighted sum of values. -/
def bnd (k : ℕ) : EReal := max sn ((Finset.range (4096 * k)).sup s)
def L (k : ℕ) : EReal := w sn (bnd sn s k) + ∑ t ∈ Finset.range (4096 * k), w (s t) (bnd sn s k)
def A (k : ℕ) : EReal := w sn (bnd sn s k) * vn + ∑ t ∈ Finset.range (4096 * k), w (s t) (bnd sn s k) * v t

/-- One chunk of the online pass. -/
def rstep (i : ℕ) (x : EReal × EReal × EReal) : EReal × EReal × EReal :=
  let m' := max x.1 (Finset.univ.fold max ⊥ fun j : Fin 4096 => s (4096 * i + j.val))
  (m', w x.1 m' * x.2.1 + ∑ j : Fin 4096, w (s (4096 * i + j.val)) m', w x.1 m' * x.2.2 + ∑ j : Fin 4096, w (s (4096 * i + j.val)) m' * v (4096 * i + j.val))
/-- The online pass: it starts from the new row alone, with weight one. -/
def rrun : ℕ → EReal × EReal × EReal
  | 0 => (sn, 1, vn)
  | k + 1 => rstep s v k (rrun k)

theorem sn_le (k : ℕ) : sn ≤ bnd sn s k := le_max_left _ _
theorem s_le {k t : ℕ} (h : t < 4096 * k) : s t ≤ bnd sn s k := (Finset.le_sup (f := s) (Finset.mem_range.2 h)).trans (le_max_right _ _)

theorem range_succ (k : ℕ) (f : ℕ → EReal) : ∑ t ∈ Finset.range (4096 * (k + 1)), f t = ∑ t ∈ Finset.range (4096 * k), f t + ∑ j : Fin 4096, f (4096 * k + j.val) := by
  rw [show 4096 * (k + 1) = 4096 * k + 4096 by ring, Finset.sum_range_add, Finset.sum_range (fun i => f (4096 * k + i))]

theorem fold_max {n : ℕ} (f : Fin n → EReal) : Finset.univ.fold max ⊥ f = Finset.univ.sup f := rfl

theorem bnd_succ (k : ℕ) : bnd sn s (k + 1) = max (bnd sn s k) (Finset.univ.fold max ⊥ fun j : Fin 4096 => s (4096 * k + j.val)) := by
  rw [fold_max]
  unfold bnd
  apply le_antisymm
  · refine max_le (le_max_of_le_left (le_max_left _ _)) (Finset.sup_le fun t ht => ?_)
    rw [Finset.mem_range] at ht
    rcases Nat.lt_or_ge t (4096 * k) with h | h
    · exact le_max_of_le_left (le_max_of_le_right (Finset.le_sup (f := s) (Finset.mem_range.2 h)))
    · refine le_max_of_le_right ?_
      have e : s t = (fun j : Fin 4096 => s (4096 * k + j.val)) ⟨t - 4096 * k, by omega⟩ := by
        show s t = s (4096 * k + (t - 4096 * k)); congr 1; omega
      rw [e]; exact Finset.le_sup (f := fun j : Fin 4096 => s (4096 * k + j.val)) (Finset.mem_univ _)
  · refine max_le (max_le (le_max_left _ _) (le_max_of_le_right (Finset.sup_mono (Finset.range_mono (by omega))))) (le_max_of_le_right (Finset.sup_le fun j _ => ?_))
    exact Finset.le_sup (f := s) (Finset.mem_range.2 (by have := j.isLt; omega))

theorem bnd_mono (k : ℕ) : bnd sn s k ≤ bnd sn s (k + 1) := by rw [bnd_succ]; exact le_max_left _ _

theorem bnd_zero : bnd sn s 0 = sn := by unfold bnd; simp

theorem rrun_one : rrun sn vn s v 1 = (bnd sn s 1, L sn s 1, A sn vn s v 1) := by
  have e := bnd_succ sn s 0
  rw [bnd_zero] at e
  show rstep s v 0 (sn, 1, vn) = _
  unfold rstep L A
  dsimp only
  rw [← e, range_succ, range_succ, mul_one]
  simp

theorem L_succ (k : ℕ) : L sn s (k + 1) = w (bnd sn s k) (bnd sn s (k + 1)) * L sn s k + ∑ j : Fin 4096, w (s (4096 * k + j.val)) (bnd sn s (k + 1)) := by
  unfold L
  obtain ⟨r, hr, e⟩ := w_real (bnd_mono sn s k)
  rw [range_succ, ← add_assoc]
  congr 1
  rw [e, real_mul_add r hr, real_mul_sum r hr, ← e, w_mul (sn_le sn s k) (bnd_mono sn s k)]
  congr 1
  exact Finset.sum_congr rfl fun t ht => (w_mul (s_le sn s (Finset.mem_range.1 ht)) (bnd_mono sn s k)).symm

theorem A_succ (k : ℕ) : A sn vn s v (k + 1) = w (bnd sn s k) (bnd sn s (k + 1)) * A sn vn s v k + ∑ j : Fin 4096, w (s (4096 * k + j.val)) (bnd sn s (k + 1)) * v (4096 * k + j.val) := by
  unfold A
  obtain ⟨r, hr, e⟩ := w_real (bnd_mono sn s k)
  rw [range_succ, ← add_assoc]
  congr 1
  rw [e, real_mul_add r hr, real_mul_sum r hr, ← e, ← mul_assoc, w_mul (sn_le sn s k) (bnd_mono sn s k)]
  congr 1
  refine Finset.sum_congr rfl fun t ht => ?_
  rw [← mul_assoc, w_mul (s_le sn s (Finset.mem_range.1 ht)) (bnd_mono sn s k)]

/-- The online pass holds, after each chunk, the maximum, the weights' sum and the weighted sum so far. -/
theorem rrun_eq (k : ℕ) : rrun sn vn s v (k + 1) = (bnd sn s (k + 1), L sn s (k + 1), A sn vn s v (k + 1)) := by
  induction k with
  | zero => exact rrun_one sn vn s v
  | succ k ih =>
    show rstep s v (k + 1) (rrun sn vn s v (k + 1)) = _
    rw [ih, L_succ sn s (k + 1), A_succ sn vn s v (k + 1), bnd_succ sn s (k + 1)]
    rfl

theorem L_real (k : ℕ) : ∃ r : ℝ, 0 ≤ r ∧ L sn s k = (r : EReal) := by
  have key : ∀ S : Finset ℕ, (∀ t ∈ S, s t ≤ bnd sn s k) → ∃ r : ℝ, 0 ≤ r ∧ ∑ t ∈ S, w (s t) (bnd sn s k) = (r : EReal) := by
    intro S
    induction S using Finset.induction_on with
    | empty => intro _; exact ⟨0, le_rfl, by simp⟩
    | insert a S ha ih =>
      intro h
      obtain ⟨r, hr, e⟩ := ih fun t ht => h t (Finset.mem_insert_of_mem ht)
      obtain ⟨r', hr', e'⟩ := w_real (h a (Finset.mem_insert_self _ _))
      exact ⟨r' + r, add_nonneg hr' hr, by rw [Finset.sum_insert ha, e, e', EReal.coe_add]⟩
  obtain ⟨r, hr, e⟩ := key (Finset.range (4096 * k)) fun t ht => s_le sn s (Finset.mem_range.1 ht)
  obtain ⟨r', hr', e'⟩ := w_real (sn_le sn s k)
  exact ⟨r' + r, add_nonneg hr' hr, by unfold L; rw [e, e', EReal.coe_add]⟩

/-- A weight is nonnegative. -/
theorem w_nonneg (a b : EReal) : 0 ≤ w a b := by
  unfold w
  induction (a - b) with
  | bot => exact le_rfl
  | top => exact le_top
  | coe x => show (0 : EReal) ≤ ((Real.exp x : ℝ) : EReal); exact_mod_cast (Real.exp_pos x).le

/-- The normalised weighted sum, normalised at once or weight by weight. -/
theorem norm_eq (k : ℕ) (vs : ℝ) (hvs : 0 < vs) :
    A sn vn s v k * Ideal.div vs (L sn s k)
      = (∑ t ∈ Finset.range (4096 * k), (w (s t) (bnd sn s k) * Ideal.div 1 (L sn s k) * vs) * v t) + (w sn (bnd sn s k) * Ideal.div 1 (L sn s k) * vs) * vn := by
  obtain ⟨l, hl, e⟩ := L_real sn s k
  rcases hl.lt_or_eq with hpos | h0
  · have hne : (l : EReal) ≠ 0 := by exact_mod_cast hpos.ne'
    rw [e]
    have d1 : Ideal.div (vs : EReal) (l : EReal) = ((vs * l⁻¹ : ℝ) : EReal) := by
      unfold Ideal.div; rw [if_neg hne, EReal.coe_mul, EReal.coe_inv]
    have d2 : Ideal.div 1 (l : EReal) = ((l⁻¹ : ℝ) : EReal) := by
      unfold Ideal.div; rw [if_neg hne, one_mul, EReal.coe_inv]
    rw [d1, d2]
    have hc : 0 ≤ vs * l⁻¹ := by positivity
    have step : ∀ a b : EReal, a * ((l⁻¹ : ℝ) : EReal) * (vs : EReal) * b = ((vs * l⁻¹ : ℝ) : EReal) * (a * b) := by
      intro a b
      rw [mul_assoc a, ← EReal.coe_mul, mul_comm l⁻¹ vs, mul_comm a, mul_assoc]
    simp only [step]
    unfold A
    rw [mul_comm, real_mul_add _ hc, real_mul_sum _ hc, add_comm]
  · have z : L sn s k = 0 := by rw [e, ← h0]; rfl
    have hn : w sn (bnd sn s k) = 0 ∧ ∑ t ∈ Finset.range (4096 * k), w (s t) (bnd sn s k) = 0 := by
      have h1 := w_nonneg sn (bnd sn s k)
      have h2 : 0 ≤ ∑ t ∈ Finset.range (4096 * k), w (s t) (bnd sn s k) := Finset.sum_nonneg fun t _ => w_nonneg _ _
      unfold L at z
      constructor
      · exact le_antisymm (by rw [← z]; exact le_add_of_nonneg_right h2) h1
      · exact le_antisymm (by rw [← z]; exact le_add_of_nonneg_left h1) h2
    have ht : ∀ t ∈ Finset.range (4096 * k), w (s t) (bnd sn s k) = 0 := (Finset.sum_eq_zero_iff_of_nonneg fun t _ => w_nonneg _ _).1 hn.2
    have hA : A sn vn s v k = 0 := by
      unfold A; rw [hn.1, zero_mul, zero_add]
      exact Finset.sum_eq_zero fun t h => by rw [ht t h, zero_mul]
    rw [hA, zero_mul, hn.1, zero_mul, zero_mul, zero_mul, add_zero]
    exact (Finset.sum_eq_zero fun t h => by rw [ht t h, zero_mul, zero_mul, zero_mul]).symm

/-- Columns past the length carry the least score and add nothing, so the softmax over the whole cache is the same. -/
theorem whole (k T : ℕ) (hkT : 4096 * k ≤ T) (hs : ∀ t, 4096 * k ≤ t → s t = ⊥) :
    max (Finset.univ.fold max ⊥ fun t : Fin T => s t.val) sn = bnd sn s k
      ∧ (∀ f : ℕ → EReal, (∀ t, s t = ⊥ → f t = 0) → ∑ t : Fin T, f t.val = ∑ t ∈ Finset.range (4096 * k), f t) := by
  constructor
  · rw [max_comm, fold_max]
    unfold bnd
    congr 1
    apply le_antisymm
    · refine Finset.sup_le fun t _ => ?_
      rcases Nat.lt_or_ge t.val (4096 * k) with h | h
      · exact Finset.le_sup (f := s) (Finset.mem_range.2 h)
      · rw [hs _ h]; exact bot_le
    · refine Finset.sup_le fun t ht => ?_
      exact Finset.le_sup (f := fun t : Fin T => s t.val) (Finset.mem_univ ⟨t, by have := Finset.mem_range.1 ht; omega⟩)
  · intro f hf
    rw [← Finset.sum_range f]
    refine (Finset.sum_subset (Finset.range_mono hkT) fun t _ h => hf t (hs t ?_)).symm
    rw [Finset.mem_range] at h; omega

/-- What the online pass returns is the softmax taken at once. -/
theorem online (k T : ℕ) (hkT : 4096 * (k + 1) ≤ T) (hs : ∀ t, 4096 * (k + 1) ≤ t → s t = ⊥) (vs : ℝ) (hvs : 0 < vs) (m D : EReal)
    (hm : m = max (Finset.univ.fold max ⊥ fun t : Fin T => s t.val) sn) (hD : D = (∑ t : Fin T, w (s t.val) m) + w sn m) :
    (rrun sn vn s v (k + 1)).2.2 * Ideal.div vs (rrun sn vn s v (k + 1)).2.1
      = (∑ t : Fin T, (w (s t.val) m * Ideal.div 1 D * vs) * v t.val) + (w sn m * Ideal.div 1 D * vs) * vn := by
  obtain ⟨e1, e2⟩ := whole sn s (k + 1) T hkT hs
  rw [e1] at hm
  subst hm
  have hD' : D = L sn s (k + 1) := by
    rw [hD, e2 (fun t => w (s t) (bnd sn s (k + 1))) fun t h => by rw [h, w_bot]]
    unfold L; rw [add_comm]
  subst hD'
  rw [rrun_eq]
  show A sn vn s v (k + 1) * Ideal.div vs (L sn s (k + 1)) = _
  rw [norm_eq sn vn s v (k + 1) vs hvs]
  rw [e2 (fun t => (w (s t) (bnd sn s (k + 1)) * Ideal.div 1 (L sn s (k + 1)) * vs) * v t) fun t h => by rw [h, w_bot, zero_mul, zero_mul, zero_mul]]

end Run

end Cert.Proof.Soft

end
-- ==== Proof.Spec.lean ====
/-
  What the attention step computes, in the argument arrays: the quantised new row, the powers of two of the scales, the
  scores, and the softmax's weighted sum; and the words of a power of two.
-/
module

public import proofs.«01_k».proof.Proof.Math
public import Idealize.ShloMosaic.Lib.Pointwise

@[expose] public section

set_option maxRecDepth 16384

noncomputable section

namespace Cert.Proof.Spec

open Idealize.ShloMosaic Cert.Proof.Soft

/-- Two to a signed exponent. -/
def P (e : BitVec 32) : EReal := Ideal.exp2 ((e.toInt : ℝ) : EReal)

theorem P_coe (e : BitVec 32) : P e = (((2 : ℝ) ^ (e.toInt) : ℝ) : EReal) := by
  show ((Real.rpow 2 (e.toInt : ℝ) : ℝ) : EReal) = _
  congr 1
  exact Real.rpow_intCast 2 e.toInt

theorem P_pos (e : BitVec 32) : 0 < ((2 : ℝ) ^ (e.toInt) : ℝ) := by positivity

/-- The word of a power of two: the exponent, shifted by the bias, in the exponent's place. -/
theorem word (e : BitVec 32) (h1 : -126 ≤ e.toInt) (h2 : e.toInt ≤ 126) :
    Ideal.ofBits .f32 (IntOp.shli .vector (IntOp.addi e 127#32) 23#32) = P e := by
  rw [P_coe]
  have h127 : (127#32 : BitVec 32).toInt = 127 := by decide
  obtain ⟨n, hn, hn2, he⟩ : ∃ n : ℕ, 1 ≤ n ∧ n ≤ 253 ∧ e + 127#32 = BitVec.ofNat 32 n := by
    refine ⟨(e.toInt + 127).toNat, by omega, by omega, ?_⟩
    apply BitVec.eq_of_toInt_eq
    rw [BitVec.toInt_add, h127, BitVec.toInt_ofNat', Int.toNat_of_nonneg (by omega)]
  have hi : e.toInt = (n : ℤ) - 127 := by
    have h3 := congrArg BitVec.toInt he
    rw [BitVec.toInt_add, h127, BitVec.toInt_ofNat'] at h3
    rw [Int.bmod_eq_of_le (by omega) (by omega), Int.bmod_eq_of_le (by omega) (by omega)] at h3
    omega
  have hw : IntOp.shli .vector (IntOp.addi e 127#32) 23#32 = BitVec.ofNat 32 (n * 2 ^ 23) := by
    show (e + 127#32) <<< 23 = _
    rw [he]
    apply BitVec.eq_of_toNat_eq
    rw [BitVec.toNat_shiftLeft, BitVec.toNat_ofNat, BitVec.toNat_ofNat, Nat.shiftLeft_eq, Nat.mod_eq_of_lt (show n < 2 ^ 32 by omega)]
  rw [hw, hi]
  show Ideal.ieee 8 23 _ = _
  have e1 : (BitVec.extractLsb' (8 + 23) 1 (BitVec.ofNat 32 (n * 2 ^ 23)) == 1#1) = false := by
    rw [beq_eq_false_iff_ne]
    intro h
    have := congrArg BitVec.toNat h
    rw [BitVec.extractLsb'_toNat, BitVec.toNat_ofNat, Nat.shiftRight_eq_div_pow] at this
    simp at this
    omega
  have e2 : (BitVec.extractLsb' 23 8 (BitVec.ofNat 32 (n * 2 ^ 23))).toNat = n := by
    rw [BitVec.extractLsb'_toNat, BitVec.toNat_ofNat, Nat.shiftRight_eq_div_pow]
    omega
  have e3 : (BitVec.extractLsb' 0 23 (BitVec.ofNat 32 (n * 2 ^ 23))).toNat = 0 := by
    rw [BitVec.extractLsb'_toNat, BitVec.toNat_ofNat, Nat.shiftRight_eq_div_pow]
    omega
  unfold Ideal.ieee
  simp only [e1, e2, e3]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  norm_num

/-- The least score's word, and the score scale's. -/
theorem bot_word : Ideal.ofBits .f32 0xFF800000#32 = (⊥ : EReal) := by
  show Ideal.ieee 8 23 (0xFF800000#32 : BitVec 32) = (⊥ : EReal)
  unfold Ideal.ieee
  have e1 : (BitVec.extractLsb' (8 + 23) 1 (0xFF800000#32) == 1#1) = true := by decide
  have e2 : (BitVec.extractLsb' 23 8 (0xFF800000#32)).toNat = 255 := by decide
  have e3 : (BitVec.extractLsb' 0 23 (0xFF800000#32)).toNat = 0 := by decide
  simp only [e1, e2, e3]
  norm_num

theorem eighth_word : ∃ r : ℝ, 0 ≤ r ∧ Ideal.ofBits .f32 0x3E000000#32 = (r : EReal) := by
  show ∃ r : ℝ, 0 ≤ r ∧ Ideal.ieee 8 23 (0x3E000000#32 : BitVec 32) = (r : EReal)
  unfold Ideal.ieee
  have e1 : (BitVec.extractLsb' (8 + 23) 1 (0x3E000000#32) == 1#1) = false := by decide
  have e2 : (BitVec.extractLsb' 23 8 (0x3E000000#32)).toNat = 124 := by decide
  simp only [e1, e2]
  rw [if_neg (by omega), if_neg (by omega)]
  refine ⟨_, ?_, rfl⟩
  simp only [Bool.false_eq_true, if_false, one_mul]
  positivity

theorem neg_toInt (e : BitVec 32) (h1 : -126 ≤ e.toInt) (h2 : e.toInt ≤ 126) : (IntOp.subi 0#32 e).toInt = -e.toInt := by
  show (0#32 - e).toInt = _
  rw [BitVec.toInt_sub, show (0#32 : BitVec 32).toInt = 0 by decide, Int.bmod_eq_of_le (by omega) (by omega)]
  omega

section Step

variable (x : (⟨4, ![2, 1, 32, 64]⟩ : Shape).Idx → EReal) (kn vn : (⟨4, ![2, 1, 4, 64]⟩ : Shape).Idx → EReal)
  (K V : (⟨4, ![2, 131072, 4, 64]⟩ : Shape).Idx → EReal) (ln : (⟨1, ![2]⟩ : Shape).Idx → BitVec 32)
  (ke : (⟨2, ![4, 64]⟩ : Shape).Idx → BitVec 32) (ve : (⟨1, ![4]⟩ : Shape).Idx → BitVec 32)

/-- The cache head that a query head reads. -/
def hg (h : Fin 32) : Fin 4 := ⟨h.val / 8, by omega⟩
/-- The score scale, one eighth. -/
def c8 : EReal := Ideal.ofBits .f32 0x3E000000#32
/-- A value held to the range of the eight-bit format. -/
def clip (y : EReal) : EReal := min (Ideal.ofBits .f32 0x43E00000#32) (max (Ideal.ofBits .f32 0xC3E00000#32) y)
/-- The new row's codes. -/
def kcode (b : Fin 2) (g : Fin 4) (d : Fin 64) : EReal := clip (kn (ix4 b 0 g d) * P (IntOp.subi 0#32 (ke (ix2 g d))))
def vcode (b : Fin 2) (g : Fin 4) (d : Fin 64) : EReal := clip (vn (ix4 b 0 g d) * P (IntOp.subi 0#32 (ve (ix1 g))))
/-- The score of a cache column, least past the sequence's length; the new row's score; a cache column's value. -/
def score (b : Fin 2) (h : Fin 32) (t : ℕ) : EReal :=
  if ht : t < 131072 then (if (t : ℤ) < (ln (ix1 b)).toInt then (∑ d : Fin 64, x (ix4 b 0 h d) * (K (ix4 b ⟨t, ht⟩ (hg h) d) * P (ke (ix2 (hg h) d)))) * c8 else ⊥) else ⊥
def newscore (b : Fin 2) (h : Fin 32) : EReal := (∑ d : Fin 64, x (ix4 b 0 h d) * (kcode kn ke b (hg h) d * P (ke (ix2 (hg h) d)))) * c8
def val (b : Fin 2) (h : Fin 32) (d : Fin 64) (t : ℕ) : EReal := if ht : t < 131072 then V (ix4 b ⟨t, ht⟩ (hg h) d) else 0
/-- The maximum, the weights' sum, the output. -/
def mx (b : Fin 2) (h : Fin 32) : EReal := max (Finset.univ.fold max ⊥ fun t : Fin 131072 => score x K ln ke b h t.val) (newscore x kn ke b h)
def den (b : Fin 2) (h : Fin 32) : EReal :=
  (∑ t : Fin 131072, w (score x K ln ke b h t.val) (mx x kn K ln ke b h)) + w (newscore x kn ke b h) (mx x kn K ln ke b h)
def out (b : Fin 2) (h : Fin 32) (d : Fin 64) : EReal :=
  (∑ t : Fin 131072, (w (score x K ln ke b h t.val) (mx x kn K ln ke b h) * Ideal.div 1 (den x kn K ln ke b h) * P (ve (ix1 (hg h)))) * val V b h d t.val)
    + (w (newscore x kn ke b h) (mx x kn K ln ke b h) * Ideal.div 1 (den x kn K ln ke b h) * P (ve (ix1 (hg h)))) * vcode vn ve b (hg h) d

/-- The online pass over the chunks that hold the sequence computes the output. -/
theorem out_of_run (b : Fin 2) (h : Fin 32) (d : Fin 64) (N : ℕ) (hN0 : 0 < N) (hN : N ≤ 32) (hl : (ln (ix1 b)).toInt ≤ 4096 * N) :
    (rrun (newscore x kn ke b h) (vcode vn ve b (hg h) d) (score x K ln ke b h) (val V b h d) N).2.2
        * Ideal.div (P (ve (ix1 (hg h)))) (rrun (newscore x kn ke b h) (vcode vn ve b (hg h) d) (score x K ln ke b h) (val V b h d) N).2.1
      = out x kn vn K V ln ke ve b h d := by
  obtain ⟨k, rfl⟩ : ∃ k, N = k + 1 := ⟨N - 1, by omega⟩
  rw [P_coe]
  rw [online (newscore x kn ke b h) (vcode vn ve b (hg h) d) (score x K ln ke b h) (val V b h d) k 131072 (by omega) ?_ _ (P_pos _) (mx x kn K ln ke b h) (den x kn K ln ke b h) rfl rfl]
  · unfold out; rw [P_coe]
  · intro t ht
    unfold score
    split
    · rw [if_neg (by push_cast at hl; omega)]
    · rfl

/-- A sum over the four heads' columns of what is nonzero in one head's columns only. -/
theorem sum_own (f : Fin 256 → EReal) (g : Fin 4) (h0 : ∀ c, c.val / 64 ≠ g.val → f c = 0) :
    ∑ c, f c = ∑ d : Fin 64, f ⟨64 * g.val + d.val, by omega⟩ := by
  symm
  refine Finset.sum_of_injOn (fun d : Fin 64 => (⟨64 * g.val + d.val, by omega⟩ : Fin 256)) ?_ ?_ ?_ ?_
  · intro a _ b _ hab
    have := congrArg Fin.val hab
    exact Fin.ext (by simpa using this)
  · intro a _; exact Finset.mem_coe.2 (Finset.mem_univ _)
  · intro c _ hc
    refine h0 c fun hcg => hc ⟨⟨c.val % 64, by omega⟩, Finset.mem_coe.2 (Finset.mem_univ _), Fin.ext ?_⟩
    show 64 * g.val + c.val % 64 = c.val
    omega
  · intro a _; rfl

end Step

end Cert.Proof.Spec
end
-- ==== Proof.KVals.lean ====
/-
  The kernel's payloads at an index over the extended reals, and its online pass as the row-level one.
-/
module

public import proofs.«01_k».proof.Proof.Body
public import proofs.«01_k».proof.Proof.Spec

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic

/-- Four pieces of 64 columns, each the same row's: the column within its piece. -/
theorem four_cols {α : Type} (w : Fin 256) (f : Fin 64 → α) :
    (if h1 : w.val < 64 then f ⟨w.val, h1⟩ else if h2 : w.val - 64 < 64 then f ⟨w.val - 64, h2⟩
      else if h3 : w.val - 64 - 64 < 64 then f ⟨w.val - 64 - 64, h3⟩ else f ⟨w.val - 64 - 64 - 64, by omega⟩) = f ⟨w.val % 64, by omega⟩ := by
  split_ifs <;> exact congrArg f (Fin.ext (by dsimp only; omega))

/-- Four pieces of eight rows, one per cache head. -/
theorem four_rows {α : Type} (h : Fin 32) (f : Fin 4 → α) :
    (if _h1 : h.val < 8 then f 0 else if _h2 : h.val - 8 < 8 then f 1 else if _h3 : h.val - 8 - 8 < 8 then f 2 else f 3) = f (hg h) := by
  unfold hg
  split_ifs <;> refine congrArg f (Fin.ext ?_)
  · show 0 = h.val / 8; omega
  · show 1 = h.val / 8; omega
  · show 2 = h.val / 8; omega
  · show 3 = h.val / 8; omega

theorem divh : ∀ h : Fin 32, (Scalar.select
        (IntOp.andi
          (IntOp.cmpi CmpIPredicate.ne
            (IntOp.subi (BitVec.setWidth 32 (IntOp.cmpi CmpIPredicate.sgt (BitVec.ofNat 32 h.val) 0#32))
              (BitVec.setWidth 32 (IntOp.cmpi CmpIPredicate.slt (BitVec.ofNat 32 h.val) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 h.val) 8#32) 0#32))
        (IntOp.subi (IntOp.divsi ArithUnit.vector (BitVec.ofNat 32 h.val) 8#32) 1#32)
        (IntOp.divsi ArithUnit.vector (BitVec.ofNat 32 h.val) 8#32)) = BitVec.ofNat 32 (h.val / 8) := by
  decide +kernel

theorem divw : ∀ w : Fin 256, (Scalar.select
        (IntOp.andi
          (IntOp.cmpi CmpIPredicate.ne
            (IntOp.subi (BitVec.setWidth 32 (IntOp.cmpi CmpIPredicate.sgt (BitVec.ofNat 32 w.val) 0#32))
              (BitVec.setWidth 32 (IntOp.cmpi CmpIPredicate.slt (BitVec.ofNat 32 w.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 w.val) 64#32) 0#32))
        (IntOp.subi (IntOp.divsi ArithUnit.vector (BitVec.ofNat 32 w.val) 64#32) 1#32)
        (IntOp.divsi ArithUnit.vector (BitVec.ofNat 32 w.val) 64#32)) = BitVec.ofNat 32 (w.val / 64) := by
  decide +kernel

theorem eqw : ∀ a b : Fin 4, IntOp.cmpi .eq (BitVec.ofNat 32 a.val) (BitVec.ofNat 32 b.val) = BitVec.ofBool (decide (a.val = b.val)) := by decide

/-- The mask carries a row's own head's columns. -/
theorem hmask_at (h : Fin 32) (w : Fin 256) : hmask (ix2 h w) = BitVec.ofBool (decide (h.val / 8 = w.val / 64)) := by
  pointwise [hmask, k0_pay30, k0_pay27, k0_pay28, k0_pay29]
  rw [divh, divw]
  exact eqw ⟨h.val / 8, by omega⟩ ⟨w.val / 64, by omega⟩

theorem select_ofBool {α : Type} (p : Prop) [Decidable p] (a b : α) : Scalar.select (BitVec.ofBool (decide p)) a b = if p then a else b := by
  by_cases h : p
  · rw [if_pos h, decide_eq_true h]; rfl
  · rw [if_neg h, decide_eq_false h]; rfl

/-- The mask of a chunk's columns against the sequence's length. -/
theorem mask_at (i : ℕ) (hi : i < 32) (len : BitVec 32) (h : Fin 32) (j : Fin 4096) :
    maskAt i len (ix2 h j) = BitVec.ofBool (decide (((4096 * i + j.val : ℕ) : ℤ) < len.toInt)) := by
  pointwise [maskAt]
  have e : IntOp.addi (Scalar.muli (Scf.iv (0#32) (1#32) i) 4096#32) (BitVec.ofNat 32 j.val) = BitVec.ofNat 32 (4096 * i + j.val) := by
    have h1 : Scf.iv (0#32) (1#32) i = BitVec.ofNat 32 i := by
      apply BitVec.eq_of_toInt_eq
      rw [toInt_of_isInt (isInt_iv i (by omega)), BitVec.toInt_ofNat', Int.bmod_eq_of_le (by omega) (by omega)]
    rw [h1]
    show BitVec.ofNat 32 i * 4096#32 + BitVec.ofNat 32 j.val = _
    apply BitVec.eq_of_toNat_eq
    rw [BitVec.toNat_add, BitVec.toNat_mul, BitVec.toNat_ofNat, BitVec.toNat_ofNat, BitVec.toNat_ofNat, BitVec.toNat_ofNat]
    omega
  rw [e]
  show BitVec.ofBool ((BitVec.ofNat 32 (4096 * i + j.val)).slt len) = _
  rw [BitVec.slt, BitVec.toInt_ofNat', Int.bmod_eq_of_le (by omega) (by omega)]

/-- The laid-out query. -/
theorem qd_at (ks : FVec Ideal S4x64 .f32) (x : Vec Ideal S1x32x64 .bf16) (h : Fin 32) (w : Fin 256) :
    k0_pay40 (F := Ideal) hmask (k0_pay38 ks x) (ix2 h w) = if h.val / 8 = w.val / 64 then x (ix3 0 h ⟨w.val % 64, by omega⟩) * ks (ix2 (hg h) ⟨w.val % 64, by omega⟩) * c8 else 0 := by
  have e : k0_pay40 (F := Ideal) hmask (k0_pay38 ks x) (ix2 h w) = Scalar.select (hmask (ix2 h w)) (k0_pay38 (F := Ideal) ks x (ix2 h ⟨w.val % 64, by omega⟩) * c8) 0 := by
    generalize k0_pay38 (F := Ideal) ks x = y
    pointwise [k0_pay40, k0_pay39]
    exact congrArg (fun z => Scalar.select _ z _) (four_cols w fun j => y (ix2 h j) * c8)
  rw [e, hmask_at, select_ofBool]
  congr 2
  pointwise [k0_pay38]
  exact congrArg (fun z => x (ix3 0 h ⟨w.val % 64, by omega⟩) * z) (four_rows h fun g => ks (ix2 g ⟨w.val % 64, by omega⟩))
theorem qd_at' (ks : FVec Ideal S4x64 .f32) (x : Vec Ideal S1x32x64 .bf16) (h : Fin 32) (w : Fin 256) :
    k0_pay65 (F := Ideal) hmask ks (k0_pay63 x) (ix2 h w) = if h.val / 8 = w.val / 64 then x (ix3 0 h ⟨w.val % 64, by omega⟩) * ks (ix2 (hg h) ⟨w.val % 64, by omega⟩) * c8 else 0 :=
  (show k0_pay65 (F := Ideal) hmask ks (k0_pay63 x) (ix2 h w) = k0_pay40 (F := Ideal) hmask (k0_pay38 ks x) (ix2 h w) from rfl).trans (qd_at ks x h w)

/-- The new row's score, as the kernel takes it. -/
theorem sn_at (k : FVec Ideal S4x64 .fp8e4m3) (ks : FVec Ideal S4x64 .f32) (x : Vec Ideal S1x32x64 .bf16) (h : Fin 32) :
    k0_pay41 (F := Ideal) k (k0_pay38 ks x) (ix2 h 0) = ∑ d : Fin 64, (x (ix3 0 h d) * ks (ix2 (hg h) d) * c8) * k (ix2 (hg h) d) := by
  pointwise [k0_pay41, k0_pay39, k0_pay38]
  refine Finset.sum_congr rfl fun d _ => ?_
  exact congrArg₂ (fun a b => x (ix3 0 h d) * a * c8 * b) (four_rows h fun g => ks (ix2 g d)) (four_rows h fun g => k (ix2 g d))
theorem sn_at' (k : FVec Ideal S4x64 .fp8e4m3) (ks : FVec Ideal S4x64 .f32) (x : Vec Ideal S1x32x64 .bf16) (h : Fin 32) :
    k0_pay66 (F := Ideal) k ks (k0_pay63 x) (ix2 h 0) = ∑ d : Fin 64, (x (ix3 0 h d) * ks (ix2 (hg h) d) * c8) * k (ix2 (hg h) d) :=
  (show k0_pay66 (F := Ideal) k ks (k0_pay63 x) (ix2 h 0) = k0_pay41 (F := Ideal) k (k0_pay38 ks x) (ix2 h 0) from rfl).trans (sn_at k ks x h)

/-- The new row's value, laid out. -/
theorem vn_at (k : FVec Ideal S4x64 .fp8e4m3) (h : Fin 32) (w : Fin 256) : k0_pay43 (F := Ideal) k (ix2 h w) = k (ix2 (hg h) ⟨w.val % 64, by omega⟩) := by
  pointwise [k0_pay43]
  refine Eq.trans ?_ (four_rows h fun g => k (ix2 g ⟨w.val % 64, by omega⟩))
  exact four_cols w fun j => if _h1 : h.val < 8 then k (ix2 0 j) else if _h2 : h.val - 8 < 8 then k (ix2 1 j) else if _h3 : h.val - 8 - 8 < 8 then k (ix2 2 j) else k (ix2 3 j)
theorem vn_at' (k : FVec Ideal S4x64 .fp8e4m3) (h : Fin 32) (w : Fin 256) : k0_pay68 (F := Ideal) k (ix2 h w) = k (ix2 (hg h) ⟨w.val % 64, by omega⟩) :=
  (show k0_pay68 (F := Ideal) k (ix2 h w) = k0_pay43 (F := Ideal) k (ix2 h w) from rfl).trans (vn_at k h w)

theorem one_at (h : Fin 32) : k0_pay42 (F := Ideal) (ix2 h 0) = (1 : EReal) := by pointwise [k0_pay42]
theorem one_at' (h : Fin 32) : k0_pay67 (F := Ideal) (ix2 h 0) = (1 : EReal) := by pointwise [k0_pay67]

/-- The codes and the scales. -/
theorem kc_at (k : Vec Ideal S1x1x4x64 .bf16) (e : Vec Ideal S4x64 .i32) (he : ∀ j, -126 ≤ (e j).toInt ∧ (e j).toInt ≤ 126) (g : Fin 4) (d : Fin 64) :
    k0_pay31 (F := Ideal) k e (ix2 g d) = clip (k (ix4 0 0 g d) * P (IntOp.subi 0#32 (e (ix2 g d)))) := by
  pointwise [k0_pay31]
  obtain ⟨h1, h2⟩ := he (ix2 g d)
  have hn := neg_toInt _ h1 h2
  rw [word _ (by omega) (by omega)]
  rfl
theorem kc_at' (k : Vec Ideal S1x1x4x64 .bf16) (e : Vec Ideal S4x64 .i32) (he : ∀ j, -126 ≤ (e j).toInt ∧ (e j).toInt ≤ 126) (g : Fin 4) (d : Fin 64) :
    k0_pay58 (F := Ideal) (k0_pay57 k e) (ix2 g d) = clip (k (ix4 0 0 g d) * P (IntOp.subi 0#32 (e (ix2 g d)))) :=
  (show k0_pay58 (F := Ideal) (k0_pay57 k e) (ix2 g d) = k0_pay31 (F := Ideal) k e (ix2 g d) from rfl).trans (kc_at k e he g d)
theorem vc_at (k : Vec Ideal S1x1x4x64 .bf16) (e : Vec Ideal S4x1 .i32) (he : ∀ j, -126 ≤ (e j).toInt ∧ (e j).toInt ≤ 126) (g : Fin 4) (d : Fin 64) :
    k0_pay60 (F := Ideal) k e (ix2 g d) = clip (k (ix4 0 0 g d) * P (IntOp.subi 0#32 (e (ix2 g 0)))) := by
  pointwise [k0_pay60]
  obtain ⟨h1, h2⟩ := he (ix2 g 0)
  have hn := neg_toInt _ h1 h2
  rw [word _ (by omega) (by omega)]
  rfl
theorem vc_at' (k : Vec Ideal S1x1x4x64 .bf16) (e : Vec Ideal S4x1 .i32) (he : ∀ j, -126 ≤ (e j).toInt ∧ (e j).toInt ≤ 126) (g : Fin 4) (d : Fin 64) :
    k0_pay35 (F := Ideal) (k0_pay33 k) (k0_pay34 e) (ix2 g d) = clip (k (ix4 0 0 g d) * P (IntOp.subi 0#32 (e (ix2 g 0)))) :=
  (show k0_pay35 (F := Ideal) (k0_pay33 k) (k0_pay34 e) (ix2 g d) = k0_pay60 (F := Ideal) k e (ix2 g d) from rfl).trans (vc_at k e he g d)
theorem ks_at (e : Vec Ideal S4x64 .i32) (he : ∀ j, -126 ≤ (e j).toInt ∧ (e j).toInt ≤ 126) (g : Fin 4) (d : Fin 64) :
    k0_pay32 (F := Ideal) e (ix2 g d) = P (e (ix2 g d)) := by
  pointwise [k0_pay32]
  exact word _ (he _).1 (he _).2
theorem ks_at' (e : Vec Ideal S4x64 .i32) (he : ∀ j, -126 ≤ (e j).toInt ∧ (e j).toInt ≤ 126) (g : Fin 4) (d : Fin 64) :
    k0_pay59 (F := Ideal) e (ix2 g d) = P (e (ix2 g d)) :=
  (show k0_pay59 (F := Ideal) e (ix2 g d) = k0_pay32 (F := Ideal) e (ix2 g d) from rfl).trans (ks_at e he g d)
theorem vs_at (e : Vec Ideal S4x1 .i32) (he : ∀ j, -126 ≤ (e j).toInt ∧ (e j).toInt ≤ 126) (g : Fin 4) :
    k0_pay26 (F := Ideal) e (ix2 g 0) = P (e (ix2 g 0)) := by
  pointwise [k0_pay26]
  exact word _ (he _).1 (he _).2
theorem vw_at (e : BitVec 32) (h1 : -126 ≤ e.toInt) (h2 : e.toInt ≤ 126) :
    k0_pay22 (F := Ideal) e = P e ∧ k0_pay23 (F := Ideal) e = P e ∧ k0_pay24 (F := Ideal) e = P e ∧ k0_pay25 (F := Ideal) e = P e :=
  ⟨word e h1 h2, word e h1 h2, word e h1 h2, word e h1 h2⟩

/-- A row's output: its own head's columns, normalised and scaled. -/
theorem o_at (vs : FVec Ideal S4x1 .f32) (l : FVec Ideal S32x1 .f32) (a : FVec Ideal S32x256 .f32) (h : Fin 32) (d : Fin 64) :
    k0_pay13 (F := Ideal) vs hmask l a (ix3 0 h d) = a (ix2 h ⟨64 * (hg h).val + d.val, by have := (hg h).isLt; omega⟩) * Ideal.div (vs (ix2 (hg h) 0)) (l (ix2 h 0)) := by
  pointwise [k0_pay13]
  refine congrArg₂ (· * ·) ?_ (congrArg (fun z => Ideal.div z _) (four_rows h fun g => vs (ix2 g 0)))
  rw [hmask_at, hmask_at, hmask_at, hmask_at, select_ofBool, select_ofBool, select_ofBool, select_ofBool]
  dsimp only
  rw [show d.val / 64 = 0 by omega, show (64 + d.val) / 64 = 1 by omega, show (128 + d.val) / 64 = 2 by omega, show (192 + d.val) / 64 = 3 by omega]
  have hh : h.val / 8 = 0 ∨ h.val / 8 = 1 ∨ h.val / 8 = 2 ∨ h.val / 8 = 3 := by omega
  unfold hg
  rcases hh with e | e | e | e <;> simp [e]
theorem o_at' (vs : FVec Ideal S4x1 .f32) (l : FVec Ideal S32x1 .f32) (a : FVec Ideal S32x256 .f32) (h : Fin 32) (d : Fin 64) :
    k0_pay56 (F := Ideal) vs hmask l a (Scalar.ofBits .f32 0x00000000#32) (ix3 0 h d) = a (ix2 h ⟨64 * (hg h).val + d.val, by have := (hg h).isLt; omega⟩) * Ideal.div (vs (ix2 (hg h) 0)) (l (ix2 h 0)) :=
  (show k0_pay56 (F := Ideal) vs hmask l a (Scalar.ofBits .f32 0x00000000#32) (ix3 0 h d) = k0_pay13 (F := Ideal) vs hmask l a (ix3 0 h d) from rfl).trans (o_at vs l a h d)

/-- A chunk's scores, unmasked. -/
theorem s_at (q : FVec Ideal S32x256 .bf16) (K : Vec Ideal S1x256x4096 .fp8e4m3) (h : Fin 32) (j : Fin 4096) :
    k0_pay14 (F := Ideal) q K (ix2 h j) = ∑ c : Fin 256, q (ix2 h c) * K (ix3 0 c j) := by
  pointwise [k0_pay14]

/-- The online pass over the chunks, at a row and a column, is the row-level pass. -/
theorem run_at (q : FVec Ideal S32x256 .bf16) (len : BitVec 32) (Kc Vc : ℕ → Vec Ideal S1x256x4096 .fp8e4m3) (init : ACC Ideal) (h : Fin 32) (w : Fin 256) (N : ℕ)
    (s v : ℕ → EReal)
    (hs : ∀ i < N, ∀ j : Fin 4096, Scalar.select (maskAt i len (ix2 h j)) (k0_pay14 (F := Ideal) q (Kc i) (ix2 h j)) ⊥ = s (4096 * i + j.val))
    (hv : ∀ i < N, ∀ j : Fin 4096, Vc i (ix3 0 w j) = v (4096 * i + j.val)) (h1 : init.2.1 (ix2 h 0) = (1 : EReal)) :
    ∀ k ≤ N, ((runAcc q len Kc Vc init k).1 (ix2 h 0), (runAcc q len Kc Vc init k).2.1 (ix2 h 0), (runAcc q len Kc Vc init k).2.2 (ix2 h w))
      = rrun (init.1 (ix2 h 0)) (init.2.2 (ix2 h w)) s v k := by
  intro k
  induction k with
  | zero => intro _; show (init.1 (ix2 h 0), init.2.1 (ix2 h 0), init.2.2 (ix2 h w)) = _; rw [h1]; rfl
  | succ k ih =>
    intro hk
    show _ = rstep s v k (rrun _ _ s v k)
    rw [← ih (by omega)]
    unfold rstep
    have e45 : ∀ (m : FVec Ideal S32x1 .f32), k0_pay45 (F := Ideal) m (k0_pay14 q (Kc k)) (maskAt k len) (ix2 h 0) = max (m (ix2 h 0)) (Finset.univ.fold max ⊥ fun j : Fin 4096 => s (4096 * k + j.val)) := by
      intro m
      have hs' := hs k (by omega)
      generalize k0_pay14 (F := Ideal) q (Kc k) = S at hs' ⊢
      generalize maskAt k len = M at hs' ⊢
      pointwise [k0_pay45, k0_pay44]
      rw [bot_word]
      simp only [hs']
    have e44 : ∀ j, k0_pay44 (F := Ideal) (k0_pay14 q (Kc k)) (maskAt k len) (ix2 h j) = s (4096 * k + j.val) := by
      intro j
      have hs' := hs k (by omega) j
      generalize k0_pay14 (F := Ideal) q (Kc k) = S at hs' ⊢
      generalize maskAt k len = M at hs' ⊢
      pointwise [k0_pay44]
      rw [bot_word, hs']
    show (k0_pay45 (F := Ideal) (runAcc q len Kc Vc init k).1 (k0_pay14 q (Kc k)) (maskAt k len) (ix2 h 0), k0_pay48 (F := Ideal) (runAcc q len Kc Vc init k).1 (runAcc q len Kc Vc init k).2.1 (k0_pay14 q (Kc k)) (maskAt k len) (ix2 h 0), k0_pay49 (F := Ideal) (runAcc q len Kc Vc init k).1 (runAcc q len Kc Vc init k).2.2 (k0_pay14 q (Kc k)) (maskAt k len) (Vc k) (ix2 h w)) = _
    have hv' := hv k (by omega)
    have e48 : ∀ (m l : FVec Ideal S32x1 .f32) S M, k0_pay48 (F := Ideal) m l S M (ix2 h 0) = Cert.Proof.Soft.w (m (ix2 h 0)) (k0_pay45 (F := Ideal) m S M (ix2 h 0)) * l (ix2 h 0) + ∑ j : Fin 4096, Cert.Proof.Soft.w (k0_pay44 (F := Ideal) S M (ix2 h j)) (k0_pay45 (F := Ideal) m S M (ix2 h 0)) := by
      intro m l S M
      pointwise [k0_pay48, k0_pay47, k0_pay46]
      rfl
    have e49 : ∀ (m : FVec Ideal S32x1 .f32) (l : FVec Ideal S32x256 .f32) S M V, k0_pay49 (F := Ideal) m l S M V (ix2 h w) = Cert.Proof.Soft.w (m (ix2 h 0)) (k0_pay45 (F := Ideal) m S M (ix2 h 0)) * l (ix2 h w) + ∑ j : Fin 4096, Cert.Proof.Soft.w (k0_pay44 (F := Ideal) S M (ix2 h j)) (k0_pay45 (F := Ideal) m S M (ix2 h 0)) * V (ix3 0 w j) := by
      intro m l S M V
      pointwise [k0_pay49, k0_pay47, k0_pay46]
      rfl
    rw [e48, e49]
    simp only [e45, e44, hv']

end Cert.KernelIdeal.Vals

end
-- ==== Proof.KArr.lean ====
/-
  What the kernel's body reads, at an index of the argument arrays.
-/
module

public import proofs.«01_k».proof.Proof.Launch
public import proofs.«01_k».proof.Proof.KVals
public import Idealize.ShloMosaic.Lib.Pipeline.ValueKit
public import Idealize.ShloMosaic.Lib.StableHlo.ReadAt

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic

variable (m : (ℓ : Loc nD τ sig) → Buf (Elt Ideal) ℓ) (c : Dev nD)

/-- The argument arrays, at the types that the specification reads. -/
abbrev ax : (⟨4, ![2, 1, 32, 64]⟩ : Shape).Idx → EReal := m ((c.tc : Thread nD τ).loc main_arg0)
abbrev akn : (⟨4, ![2, 1, 4, 64]⟩ : Shape).Idx → EReal := m ((c.tc : Thread nD τ).loc main_arg1)
abbrev avn : (⟨4, ![2, 1, 4, 64]⟩ : Shape).Idx → EReal := m ((c.tc : Thread nD τ).loc main_arg2)
abbrev aK : (⟨4, ![2, 131072, 4, 64]⟩ : Shape).Idx → EReal := m ((c.tc : Thread nD τ).loc main_arg3)
abbrev aV : (⟨4, ![2, 131072, 4, 64]⟩ : Shape).Idx → EReal := m ((c.tc : Thread nD τ).loc main_arg4)
abbrev aln : (⟨1, ![2]⟩ : Shape).Idx → BitVec 32 := m ((c.tc : Thread nD τ).loc main_arg5)
abbrev ake : (⟨2, ![4, 64]⟩ : Shape).Idx → BitVec 32 := m ((c.tc : Thread nD τ).loc main_arg6)
abbrev ave : (⟨1, ![4]⟩ : Shape).Idx → BitVec 32 := m ((c.tc : Thread nD τ).loc main_arg7)

/-- The arrays that the host line lays out for the launch. -/
theorem v0_at (b : Fin 2) (h : Fin 32) (d : Fin 64) : V m c main_v0 (ix3 b h d) = ax m c (ix4 b 0 h d) := by
  unfold V
  after_reads_at
theorem v1_at (g : Fin 4) : V m c main_v1 (ix2 g 0) = ave m c (ix1 g) := by
  unfold V
  after_reads_at
theorem v3_at (b : Fin 2) (w : Fin 256) (t : Fin 131072) : V m c main_v3 (ix3 b w t) = aK m c (ix4 b t ⟨w.val / 64, by omega⟩ ⟨w.val % 64, by omega⟩) := by
  unfold V
  after_reads_at
theorem v5_at (b : Fin 2) (w : Fin 256) (t : Fin 131072) : V m c main_v5 (ix3 b w t) = aV m c (ix4 b t ⟨w.val / 64, by omega⟩ ⟨w.val % 64, by omega⟩) := by
  unfold V
  after_reads_at

/-- The launch's input blocks are its whole arrays. -/
theorem i0 : ∀ a, win0_0.index t0_0 a = 0 := by decide
theorem i1 : ∀ a, win0_1.index t0_0 a = 0 := by decide
theorem i2 : ∀ a, win0_2.index t0_0 a = 0 := by decide
theorem i3 : ∀ a, win0_3.index t0_0 a = 0 := by decide
theorem i4 : ∀ a, win0_4.index t0_0 a = 0 := by decide
theorem i5 : ∀ a, win0_5.index t0_0 a = 0 := by decide
theorem i6 : ∀ a, win0_6.index t0_0 a = 0 := by decide
theorem b0 : iblk m c 0 t0_0 = aln m c := by funext j; blk_ext [iblk, V_main_arg5, i0]
theorem b1 : iblk m c 1 t0_0 = ave m c := by funext j; blk_ext [iblk, V_main_arg7, i1]
theorem b2 : iblk m c 2 t0_0 = V m c main_v0 := by funext j; blk_ext [iblk, i2]
theorem b3 : iblk m c 3 t0_0 = akn m c := by funext j; blk_ext [iblk, V_main_arg1, i3]
theorem b4 : iblk m c 4 t0_0 = avn m c := by funext j; blk_ext [iblk, V_main_arg2, i4]
theorem b5 : iblk m c 5 t0_0 = ake m c := by funext j; blk_ext [iblk, V_main_arg6, i5]
theorem b6 : iblk m c 6 t0_0 = V m c main_v1 := by funext j; blk_ext [iblk, i6]

theorem len0_eq : len0 c (stg0 t0_0) (G0 m c t0_0) = aln m c (ix1 0) := by
  unfold len0; rw [View.readAt_eq_ld, View.read_rep, b0]
  pointwise
theorem len1_eq : len1 c (stg0 t0_0) (G0 m c t0_0) = aln m c (ix1 1) := by
  unfold len1; rw [View.readAt_eq_ld, View.read_rep, b0]
  pointwise
theorem ld20_at (h : Fin 32) (d : Fin 64) : ld20 c (stg2 t0_0) (G2 m c t0_0) (ix3 0 h d) = ax m c (ix4 0 0 h d) := by
  rw [ld20, View.readAt_eq_ld, View.read_rep, b2]
  pointwise
  exact v0_at m c 0 h d
theorem ld21_at (h : Fin 32) (d : Fin 64) : ld21 c (stg2 t0_0) (G2 m c t0_0) (ix3 0 h d) = ax m c (ix4 1 0 h d) := by
  rw [ld21, View.readAt_eq_ld, View.read_rep, b2]
  pointwise
  exact v0_at m c 1 h d
theorem ld30_at (g : Fin 4) (d : Fin 64) : ld30 c (stg3 t0_0) (G3 m c t0_0) (ix4 0 0 g d) = akn m c (ix4 0 0 g d) := by
  rw [ld30, View.readAt_eq_ld, View.read_rep, b3]
  pointwise
theorem ld31_at (g : Fin 4) (d : Fin 64) : ld31 c (stg3 t0_0) (G3 m c t0_0) (ix4 0 0 g d) = akn m c (ix4 1 0 g d) := by
  rw [ld31, View.readAt_eq_ld, View.read_rep, b3]
  pointwise
theorem ld40_at (g : Fin 4) (d : Fin 64) : ld40 c (stg4 t0_0) (G4 m c t0_0) (ix4 0 0 g d) = avn m c (ix4 0 0 g d) := by
  rw [ld40, View.readAt_eq_ld, View.read_rep, b4]
  pointwise
theorem ld41_at (g : Fin 4) (d : Fin 64) : ld41 c (stg4 t0_0) (G4 m c t0_0) (ix4 0 0 g d) = avn m c (ix4 1 0 g d) := by
  rw [ld41, View.readAt_eq_ld, View.read_rep, b4]
  pointwise
theorem ld5_at (g : Fin 4) (d : Fin 64) : ld5 c (stg5 t0_0) (G5 m c t0_0) (ix2 g d) = ake m c (ix2 g d) := by
  rw [ld5, View.readAt_eq_ld, View.read_rep, b5]
  pointwise
theorem ld6_at (g : Fin 4) : ld6 c (stg6 t0_0) (G6 m c t0_0) (ix2 g 0) = ave m c (ix1 g) := by
  rw [ld6, View.readAt_eq_ld, View.read_rep, b6]
  pointwise
  exact v1_at m c g

/-- A block of a cache, at an index. -/
theorem blkK_at (b : Fin 2) (cc : Fin 32) (w : Fin 256) (j : Fin 4096) :
    blkK c (XA7 m c) b cc (ix3 0 w j) = aK m c (ix4 b ⟨4096 * cc.val + j.val, by omega⟩ ⟨w.val / 64, by omega⟩ ⟨w.val % 64, by omega⟩) := by
  rw [← v3_at]
  unfold blkK
  rw [View.readAt_apply]
  refine congrArg (V m c main_v3) (funext fun a => Fin.ext ?_)
  fin_cases a
  · show b.val + 0 * 1 = b.val; omega
  · show 0 + 1 * w.val = w.val; omega
  · show 4096 * cc.val + 1 * j.val = 4096 * cc.val + j.val; omega
theorem blkV_at (b : Fin 2) (cc : Fin 32) (w : Fin 256) (j : Fin 4096) :
    blkV c (XA8 m c) b cc (ix3 0 w j) = aV m c (ix4 b ⟨4096 * cc.val + j.val, by omega⟩ ⟨w.val / 64, by omega⟩ ⟨w.val % 64, by omega⟩) := by
  rw [← v5_at]
  unfold blkV
  rw [View.readAt_apply]
  refine congrArg (V m c main_v5) (funext fun a => Fin.ext ?_)
  fin_cases a
  · show b.val + 0 * 1 = b.val; omega
  · show 0 + 1 * w.val = w.val; omega
  · show 4096 * cc.val + 1 * j.val = 4096 * cc.val + j.val; omega

end Cert.KernelIdeal.Vals

end
-- ==== Proof.KRows.lean ====
/-
  The kernel's results other than the attention output, at an index of the argument arrays.
-/
module

public import proofs.«01_k».proof.Proof.KArr

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic

variable (m : (ℓ : Loc nD τ sig) → Buf (Elt Ideal) ℓ) (c : Dev nD)

theorem ix2_eta (j : S4x64.Idx) : ∃ (g : Fin 4) (d : Fin 64), j = ix2 g d := ⟨j 0, j 1, by funext a; fin_cases a <;> rfl⟩
theorem ix2_eta1 (j : S4x1.Idx) : ∃ g : Fin 4, j = ix2 g 0 := ⟨j 0, by funext a; fin_cases a; · rfl
                                                                       · exact Subsingleton.elim (α := Fin 1) _ _⟩

/-- The exponents that the body loads are in range when the arguments' are. -/
theorem ld5_in (hke : ∀ j, -126 ≤ (ake m c j).toInt ∧ (ake m c j).toInt ≤ 126) (j : S4x64.Idx) :
    -126 ≤ (ld5 c (stg5 t0_0) (G5 m c t0_0) j).toInt ∧ (ld5 c (stg5 t0_0) (G5 m c t0_0) j).toInt ≤ 126 := by
  obtain ⟨g, d, rfl⟩ := ix2_eta j
  rw [ld5_at]
  exact hke _
theorem ld6_in (hve : ∀ j, -126 ≤ (ave m c j).toInt ∧ (ave m c j).toInt ≤ 126) (j : S4x1.Idx) :
    -126 ≤ (ld6 c (stg6 t0_0) (G6 m c t0_0) j).toInt ∧ (ld6 c (stg6 t0_0) (G6 m c t0_0) j).toInt ≤ 126 := by
  obtain ⟨g, rfl⟩ := ix2_eta1 j
  rw [ld6_at]
  exact hve _

/-- The words of the value exponents. -/
theorem wd0_eq : wd0 c (stg1 t0_0) (G1 m c t0_0) = ave m c (ix1 0) := by
  rw [wd0, View.readAt_eq_ld, View.read_rep, b1]
  pointwise
theorem wd1_eq : wd1 c (stg1 t0_0) (G1 m c t0_0) = ave m c (ix1 1) := by
  rw [wd1, View.readAt_eq_ld, View.read_rep, b1]
  pointwise
theorem wd2_eq : wd2 c (stg1 t0_0) (G1 m c t0_0) = ave m c (ix1 2) := by
  rw [wd2, View.readAt_eq_ld, View.read_rep, b1]
  pointwise
theorem wd3_eq : wd3 c (stg1 t0_0) (G1 m c t0_0) = ave m c (ix1 3) := by
  rw [wd3, View.readAt_eq_ld, View.read_rep, b1]
  pointwise

variable (hke : ∀ j, -126 ≤ (ake m c j).toInt ∧ (ake m c j).toInt ≤ 126) (hve : ∀ j, -126 ≤ (ave m c j).toInt ∧ (ave m c j).toInt ≤ 126)

include hke in
theorem kc0_at (g : Fin 4) (d : Fin 64) : k0_pay31 (F := Ideal) (ld30 c (stg3 t0_0) (G3 m c t0_0)) (ld5 c (stg5 t0_0) (G5 m c t0_0)) (ix2 g d) = kcode (akn m c) (ake m c) 0 g d := by
  rw [kc_at _ _ (ld5_in m c hke), ld30_at, ld5_at]; rfl
include hke in
theorem kc1_at (g : Fin 4) (d : Fin 64) : k0_pay58 (F := Ideal) (k0_pay57 (ld31 c (stg3 t0_0) (G3 m c t0_0)) (ld5 c (stg5 t0_0) (G5 m c t0_0))) (ix2 g d) = kcode (akn m c) (ake m c) 1 g d := by
  rw [kc_at' _ _ (ld5_in m c hke), ld31_at, ld5_at]; rfl
include hve in
theorem vc0_at (g : Fin 4) (d : Fin 64) : k0_pay35 (F := Ideal) (k0_pay33 (ld40 c (stg4 t0_0) (G4 m c t0_0))) (k0_pay34 (ld6 c (stg6 t0_0) (G6 m c t0_0))) (ix2 g d) = vcode (avn m c) (ave m c) 0 g d := by
  rw [vc_at' _ _ (ld6_in m c hve), ld40_at, ld6_at]; rfl
include hve in
theorem vc1_at (g : Fin 4) (d : Fin 64) : k0_pay60 (F := Ideal) (ld41 c (stg4 t0_0) (G4 m c t0_0)) (ld6 c (stg6 t0_0) (G6 m c t0_0)) (ix2 g d) = vcode (avn m c) (ave m c) 1 g d := by
  rw [vc_at _ _ (ld6_in m c hve), ld41_at, ld6_at]; rfl

/-- The stored rows are the codes, laid out. -/
theorem p36 (y : FVec Ideal S4x64 .fp8e4m3) (g : Fin 4) (d : Fin 64) : k0_pay36 (F := Ideal) y (ix4 0 0 g d) = y (ix2 g d) := by pointwise [k0_pay36]
theorem p37 (a : Vec Ideal S1x1x4x64 .bf16) (e : Vec Ideal S4x1 .i32) (g : Fin 4) (d : Fin 64) :
    k0_pay37 (F := Ideal) (k0_pay33 a) (k0_pay34 e) (ix4 0 0 g d) = k0_pay35 (F := Ideal) (k0_pay33 a) (k0_pay34 e) (ix2 g d) := by
  pointwise [k0_pay37, k0_pay35, k0_pay33, k0_pay34]
theorem p61 (a : Vec Ideal S1x1x4x64 .bf16) (e : Vec Ideal S4x64 .i32) (g : Fin 4) (d : Fin 64) :
    k0_pay61 (F := Ideal) (k0_pay57 a e) (ix4 0 0 g d) = k0_pay58 (F := Ideal) (k0_pay57 a e) (ix2 g d) := by
  pointwise [k0_pay61, k0_pay58, k0_pay57]
theorem p62 (a : Vec Ideal S1x1x4x64 .bf16) (e : Vec Ideal S4x1 .i32) (g : Fin 4) (d : Fin 64) :
    k0_pay62 (F := Ideal) a e (ix4 0 0 g d) = k0_pay60 (F := Ideal) a e (ix2 g d) := by
  pointwise [k0_pay62, k0_pay60]

end Cert.KernelIdeal.Vals

end
-- ==== Proof.KOut.lean ====
/-
  The attention output of a sequence, as the kernel's pass over its blocks leaves it.
-/
module

public import proofs.«01_k».proof.Proof.KVals

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic

variable (x : (⟨4, ![2, 1, 32, 64]⟩ : Shape).Idx → EReal) (kn vn : (⟨4, ![2, 1, 4, 64]⟩ : Shape).Idx → EReal)
  (K V : (⟨4, ![2, 131072, 4, 64]⟩ : Shape).Idx → EReal) (ln : (⟨1, ![2]⟩ : Shape).Idx → BitVec 32)
  (ke : (⟨2, ![4, 64]⟩ : Shape).Idx → BitVec 32) (ve : (⟨1, ![4]⟩ : Shape).Idx → BitVec 32)

/-- A column of a head's own, in the block-diagonal layout. -/
abbrev ow (h : Fin 32) (d : Fin 64) : Fin 256 := ⟨64 * (hg h).val + d.val, by have := (hg h).isLt; omega⟩

/-- The laid-out query against a column is the score of that column. -/
theorem dot_own (b : Fin 2) (q : FVec Ideal S32x256 .bf16) (y : Fin 256 → EReal) (z : Fin 4 → Fin 64 → EReal) (h : Fin 32)
    (hq : ∀ w : Fin 256, q (ix2 h w) = if h.val / 8 = w.val / 64 then x (ix4 b 0 h ⟨w.val % 64, by omega⟩) * P (ke (ix2 (hg h) ⟨w.val % 64, by omega⟩)) * c8 else 0)
    (hy : ∀ w : Fin 256, y w = z ⟨w.val / 64, by omega⟩ ⟨w.val % 64, by omega⟩) :
    (∑ w : Fin 256, q (ix2 h w) * y w) = (∑ d : Fin 64, x (ix4 b 0 h d) * (z (hg h) d * P (ke (ix2 (hg h) d)))) * c8 := by
  obtain ⟨r, hr, e8⟩ := eighth_word
  rw [sum_own (fun w => q (ix2 h w) * y w) (hg h) fun w hw => by
    rw [hq, if_neg (fun hh => hw (show w.val / 64 = h.val / 8 from hh.symm)), zero_mul]]
  unfold c8 at hq ⊢
  rw [e8] at hq ⊢
  rw [← score_eq _ _ _ r hr]
  refine Finset.sum_congr rfl fun d _ => ?_
  have hv : (hg h).val = h.val / 8 := rfl
  have e1 : (64 * (hg h).val + d.val) % 64 = d.val := by omega
  have e2 : (64 * (hg h).val + d.val) / 64 = (hg h).val := by omega
  rw [hq, hy, if_pos (by dsimp only; rw [e2]; exact hv.symm)]
  have f1 : (⟨(64 * (hg h).val + d.val) % 64, by omega⟩ : Fin 64) = d := Fin.ext e1
  have f2 : (⟨(64 * (hg h).val + d.val) / 64, by have := (hg h).isLt; omega⟩ : Fin 4) = hg h := Fin.ext e2
  dsimp only
  rw [f1, f2]

/-- The pass over a sequence's blocks, normalised and scaled, is the attention output. -/
theorem out_gen (b : Fin 2) (len : BitVec 32) (hlen : ln (ix1 b) = len) (hr : InR1 len) (q : FVec Ideal S32x256 .bf16)
    (Kc Vc : ℕ → Vec Ideal S1x256x4096 .fp8e4m3) (init : ACC Ideal) (vs : EReal) (h : Fin 32) (d : Fin 64)
    (hq : ∀ w : Fin 256, q (ix2 h w) = if h.val / 8 = w.val / 64 then x (ix4 b 0 h ⟨w.val % 64, by omega⟩) * P (ke (ix2 (hg h) ⟨w.val % 64, by omega⟩)) * c8 else 0)
    (hK : ∀ i (hi : i < 32), i < nch len → ∀ (w : Fin 256) (j : Fin 4096), Kc i (ix3 0 w j) = K (ix4 b ⟨4096 * i + j.val, by omega⟩ ⟨w.val / 64, by omega⟩ ⟨w.val % 64, by omega⟩))
    (hV : ∀ i (hi : i < 32), i < nch len → ∀ (w : Fin 256) (j : Fin 4096), Vc i (ix3 0 w j) = V (ix4 b ⟨4096 * i + j.val, by omega⟩ ⟨w.val / 64, by omega⟩ ⟨w.val % 64, by omega⟩))
    (h0 : init.1 (ix2 h 0) = ∑ d : Fin 64, (x (ix4 b 0 h d) * P (ke (ix2 (hg h) d)) * c8) * kcode kn ke b (hg h) d)
    (h1 : init.2.1 (ix2 h 0) = (1 : EReal)) (h2 : init.2.2 (ix2 h (ow h d)) = vcode vn ve b (hg h) d)
    (hvs : vs = P (ve (ix1 (hg h)))) :
    (runAcc q len Kc Vc init (nch len)).2.2 (ix2 h (ow h d)) * Ideal.div vs ((runAcc q len Kc Vc init (nch len)).2.1 (ix2 h 0))
      = out x kn vn K V ln ke ve b h d := by
  have hN := nch_le hr.inR
  have hN0 := nch_pos hr
  have hl : len.toInt ≤ 4096 * (nch len : ℤ) := by
    have := hr.1
    unfold nch; omega
  have e1 : (64 * (hg h).val + d.val) % 64 = d.val := by omega
  have e2 : (64 * (hg h).val + d.val) / 64 = (hg h).val := by omega
  have hn : init.1 (ix2 h 0) = newscore x kn ke b h := by
    obtain ⟨r, hr, e8⟩ := eighth_word
    rw [h0]
    unfold newscore c8
    rw [e8, score_eq _ _ _ r hr]
  have key := run_at q len Kc Vc init h (ow h d) (nch len) (score x K ln ke b h) (val V b h d) ?_ ?_ h1 (nch len) le_rfl
  · rw [hn, h2] at key
    have k1 := congrArg (fun p => p.2.1) key
    have k2 := congrArg (fun p => p.2.2) key
    dsimp only at k1 k2
    rw [k1, k2, hvs]
    exact out_of_run x kn vn K V ln ke ve b h d (nch len) hN0 hN (by rw [hlen]; exact hl)
  · intro i hi j
    rw [mask_at i (by omega) len, select_ofBool, s_at]
    unfold score
    rw [dif_pos (by omega), hlen]
    congr 1
    exact dot_own x ke b q (fun w => Kc i (ix3 0 w j)) (fun g d => K (ix4 b ⟨4096 * i + j.val, by omega⟩ g d)) h hq fun w => hK i (by omega) hi w j
  · intro i hi j
    rw [hV i (by omega) hi]
    unfold val
    rw [dif_pos (by omega)]
    have f1 : (⟨(64 * (hg h).val + d.val) % 64, by omega⟩ : Fin 64) = d := Fin.ext e1
    have f2 : (⟨(64 * (hg h).val + d.val) / 64, by have := (hg h).isLt; omega⟩ : Fin 4) = hg h := Fin.ext e2
    dsimp only
    rw [f1, f2]

end Cert.KernelIdeal.Vals

end
-- ==== Proof.KRes.lean ====
/-
  The kernel's results, at an index of the argument arrays.
-/
module

public import proofs.«01_k».proof.Proof.KRows
public import proofs.«01_k».proof.Proof.KOut

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic

variable (m : (ℓ : Loc nD τ sig) → Buf (Elt Ideal) ℓ) (c : Dev nD)
variable (hke : ∀ j, -126 ≤ (ake m c j).toInt ∧ (ake m c j).toInt ≤ 126) (hve : ∀ j, -126 ≤ (ave m c j).toInt ∧ (ave m c j).toInt ≤ 126)
  (hln : ∀ j, InR1 (aln m c j))

/-- The key codes. -/
theorem ix_row (x : S1x1x4x64.Idx) (g : Fin 4) (d : Fin 64) (h2 : (g : ℕ) = x 2) (h3 : (d : ℕ) = x 3) : x = ix4 0 0 g d := by
  funext a
  fin_cases a
  · exact Subsingleton.elim (α := Fin 1) _ _
  · exact Subsingleton.elim (α := Fin 1) _ _
  · exact Fin.ext h2.symm
  · exact Fin.ext h3.symm
theorem ix_tile (x : S1x32x64.Idx) (g : Fin 32) (d : Fin 64) (h2 : (g : ℕ) = x 1) (h3 : (d : ℕ) = x 2) : x = ix3 0 g d := by
  funext a
  fin_cases a
  · exact Subsingleton.elim (α := Fin 1) _ _
  · exact Fin.ext h2.symm
  · exact Fin.ext h3.symm

include hke in
theorem c10_at (b : Fin 2) (g : Fin 4) (d : Fin 64) : fin8 m c t0_0 (ix4 b 0 g d) = kcode (akn m c) (ake m c) b g d := by
  unfold fin8 c10
  canon_tiles x h
  · obtain rfl : b = 1 := Fin.ext (by have e : (b : ℕ) = 1 + x 0 := h0; show b.val = 1; omega)
    rw [ix_row x g d h2 h3, p61, kc1_at m c hke]
  · obtain rfl : b = 0 := Fin.ext (by have e : (b : ℕ) = x 0 := h0; show b.val = 0; omega)
    rw [ix_row x g d h2 h3, p36, kc0_at m c hke]

/-- The value codes. -/
theorem c12_at (hve : ∀ j, -126 ≤ (ave m c j).toInt ∧ (ave m c j).toInt ≤ 126) (b : Fin 2) (g : Fin 4) (d : Fin 64) : fin10 m c t0_0 (ix4 b 0 g d) = vcode (avn m c) (ave m c) b g d := by
  unfold fin10 c12
  canon_tiles x h
  · obtain rfl : b = 1 := Fin.ext (by have e : (b : ℕ) = 1 + x 0 := h0; show b.val = 1; omega)
    rw [ix_row x g d h2 h3, p62, vc1_at m c hve]
  · obtain rfl : b = 0 := Fin.ext (by have e : (b : ℕ) = x 0 := h0; show b.val = 0; omega)
    rw [ix_row x g d h2 h3, p37, vc0_at m c hve]

/-- The key scales. -/
theorem c11_at (hke : ∀ j, -126 ≤ (ake m c j).toInt ∧ (ake m c j).toInt ≤ 126) (g : Fin 4) (d : Fin 64) : fin9 m c t0_0 (ix2 g d) = P (ake m c (ix2 g d)) := by
  unfold fin9 c11
  canon_tiles x h
  rw [show x = ix2 g d from funext fun a => by fin_cases a; exacts [Fin.ext h0.symm, Fin.ext h1.symm], ks_at _ (ld5_in m c hke), ld5_at]

/-- The value scales. -/
theorem c13_at (hve : ∀ j, -126 ≤ (ave m c j).toInt ∧ (ave m c j).toInt ≤ 126) (g : Fin 4) : fin11 m c t0_0 (ix1 g) = P (ave m c (ix1 g)) := by
  unfold fin11 c13
  canon_tiles x h
  · obtain rfl : g = 3 := Fin.ext (by have e : (g : ℕ) = 3 + x 0 := h0; show g.val = 3; omega)
    rw [wd3_eq]; exact (vw_at _ (hve _).1 (hve _).2).2.2.2
  · obtain rfl : g = 2 := Fin.ext (by have e : (g : ℕ) = 2 + x 0 := h0; show g.val = 2; omega)
    rw [wd2_eq]; exact (vw_at _ (hve _).1 (hve _).2).2.2.1
  · obtain rfl : g = 1 := Fin.ext (by have e : (g : ℕ) = 1 + x 0 := h0; show g.val = 1; omega)
    rw [wd1_eq]; exact (vw_at _ (hve _).1 (hve _).2).2.1
  · obtain rfl : g = 0 := Fin.ext (by have e : (g : ℕ) = x 0 := h0; show g.val = 0; omega)
    rw [wd0_eq]; exact (vw_at _ (hve _).1 (hve _).2).1

/-- The attention output of sequence 0, and of sequence 1. -/
theorem bOf0 (n i : ℕ) (h : i < n) : bOf n i = 0 := if_neg (by omega)
theorem bOf1 (n i : ℕ) : bOf n (n + i) = 1 := if_pos (by omega)
theorem cOf0 (n i : ℕ) (h : i < n) (hi : i < 32) : cOf n i = ⟨i, hi⟩ := by
  unfold cOf; rw [if_neg (by omega)]; exact Fin.ext (Nat.mod_eq_of_lt (by omega))
theorem cOf1 (n i : ℕ) (hi : i < 32) : cOf n (n + i) = ⟨i, hi⟩ := by
  unfold cOf; rw [if_pos (by omega)]; exact Fin.ext ((congrArg (· % 32) (show n + i - n = i by omega)).trans (Nat.mod_eq_of_lt hi))

include hke hve hln in
theorem out0_at (h : Fin 32) (d : Fin 64) :
    out0 c (XA7 m c) (XA8 m c) (stg0 t0_0) (stg2 t0_0) (stg3 t0_0) (stg4 t0_0) (stg5 t0_0) (stg6 t0_0) (G0 m c t0_0) (G2 m c t0_0) (G3 m c t0_0) (G4 m c t0_0) (G5 m c t0_0) (G6 m c t0_0) (ix3 0 h d)
      = out (ax m c) (akn m c) (avn m c) (aK m c) (aV m c) (aln m c) (ake m c) (ave m c) 0 h d := by
  unfold out0
  rw [o_at']
  refine out_gen (ax m c) (akn m c) (avn m c) (aK m c) (aV m c) (aln m c) (ake m c) (ave m c) 0 _ (len0_eq m c).symm ((len0_eq m c).symm ▸ hln _) _ _ _ _ _ h d ?_ ?_ ?_ ?_ ?_ ?_ ?_
  · intro w
    unfold qd0
    rw [qd_at, ld20_at, ks_at _ (ld5_in m c hke), ld5_at]
  · intro i hi hn w j
    unfold stepK
    rw [bOf0 _ i hn, cOf0 _ i hn hi, blkK_at]
  · intro i hi hn w j
    unfold stepV
    rw [bOf0 _ i hn, cOf0 _ i hn hi, blkV_at]
  · unfold init0
    dsimp only
    rw [sn_at]
    refine Finset.sum_congr rfl fun d _ => ?_
    rw [ld20_at, ks_at _ (ld5_in m c hke), ld5_at, kc0_at m c hke]
  · exact one_at h
  · unfold init0
    dsimp only
    rw [vn_at, vc0_at m c hve]
    congr 1
    exact Fin.ext (show (64 * (hg h).val + d.val) % 64 = d.val by omega)
  · rw [vs_at _ (ld6_in m c hve), ld6_at]

include hke hve hln in
theorem out1_at (h : Fin 32) (d : Fin 64) :
    out1 c (XA7 m c) (XA8 m c) (stg0 t0_0) (stg2 t0_0) (stg3 t0_0) (stg4 t0_0) (stg5 t0_0) (stg6 t0_0) (G0 m c t0_0) (G2 m c t0_0) (G3 m c t0_0) (G4 m c t0_0) (G5 m c t0_0) (G6 m c t0_0) (ix3 0 h d)
      = out (ax m c) (akn m c) (avn m c) (aK m c) (aV m c) (aln m c) (ake m c) (ave m c) 1 h d := by
  unfold out1
  rw [o_at]
  refine out_gen (ax m c) (akn m c) (avn m c) (aK m c) (aV m c) (aln m c) (ake m c) (ave m c) 1 _ (len1_eq m c).symm ((len1_eq m c).symm ▸ hln _) _ _ _ _ _ h d ?_ ?_ ?_ ?_ ?_ ?_ ?_
  · intro w
    unfold qd1
    rw [qd_at', ld21_at, ks_at' _ (ld5_in m c hke), ld5_at]
  · intro i hi hn w j
    unfold stepK
    rw [bOf1 _ i, cOf1 _ i hi, blkK_at]
  · intro i hi hn w j
    unfold stepV
    rw [bOf1 _ i, cOf1 _ i hi, blkV_at]
  · unfold init1
    dsimp only
    rw [sn_at']
    refine Finset.sum_congr rfl fun d _ => ?_
    rw [ld21_at, ks_at' _ (ld5_in m c hke), ld5_at, kc1_at m c hke]
  · exact one_at' h
  · unfold init1
    dsimp only
    rw [vn_at', vc1_at m c hve]
    congr 1
    exact Fin.ext (show (64 * (hg h).val + d.val) % 64 = d.val by omega)
  · rw [vs_at _ (ld6_in m c hve), ld6_at]

include hke hve hln in
/-- The attention output of both sequences. -/
theorem c9_at (b : Fin 2) (h : Fin 32) (d : Fin 64) :
    fin7 m c t0_0 (ix3 b h d) = out (ax m c) (akn m c) (avn m c) (aK m c) (aV m c) (aln m c) (ake m c) (ave m c) b h d := by
  unfold fin7 c9
  canon_tiles x hx
  · obtain rfl : b = 1 := Fin.ext (by have e : (b : ℕ) = 1 + x 0 := hx0; show b.val = 1; omega)
    rw [ix_tile x h d hx1 hx2]
    exact out1_at m c hke hve hln h d
  · obtain rfl : b = 0 := Fin.ext (by have e : (b : ℕ) = x 0 := hx0; show b.val = 0; omega)
    rw [ix_tile x h d hx1 hx2]
    exact out0_at m c hke hve hln h d

/-- The launch's output arrays, in the argument arrays. -/
def go : S2x32x64.Idx → EReal := fun j => out (ax m c) (akn m c) (avn m c) (aK m c) (aV m c) (aln m c) (ake m c) (ave m c) (j 0) (j 1) (j 2)
def gk : S2x1x4x64.Idx → EReal := fun j => kcode (akn m c) (ake m c) (j 0) (j 2) (j 3)
def gv : S2x1x4x64.Idx → EReal := fun j => vcode (avn m c) (ave m c) (j 0) (j 2) (j 3)
def gks : S4x64.Idx → EReal := fun j => P (ake m c j)
def gvs : S4.Idx → EReal := fun j => P (ave m c j)

theorem ix4_eta (j : S2x1x4x64.Idx) : j = ix4 (j 0) 0 (j 2) (j 3) := by
  funext a
  fin_cases a
  · rfl
  · exact Subsingleton.elim (α := Fin 1) _ _
  · rfl
  · rfl
theorem ix3_eta (j : S2x32x64.Idx) : j = ix3 (j 0) (j 1) (j 2) := by funext a; fin_cases a <;> rfl
theorem ix1_eta (j : S4.Idx) : j = ix1 (j 0) := by funext a; fin_cases a; rfl

include hke hve hln in
theorem a7 : (dats (F := Ideal) m 0 c).arrAt 7 (cfgs 0).N = go m c := by
  refine (dats (F := Ideal) m 0 c).arrAt_eq_of_after_last 7 t0_0 (by decide +kernel) _ fun j => ?_
  blk_simp
  rw [after_w7]
  exact (congrArg _ (ix3_eta j)).trans (c9_at m c hke hve hln _ _ _)
include hke in
theorem a8 : (dats (F := Ideal) m 0 c).arrAt 8 (cfgs 0).N = gk m c := by
  refine (dats (F := Ideal) m 0 c).arrAt_eq_of_after_last 8 t0_0 (by decide +kernel) _ fun j => ?_
  blk_simp
  rw [after_w8]
  exact (congrArg _ (ix4_eta j)).trans (c10_at m c hke _ _ _)
include hke in
theorem a9 : (dats (F := Ideal) m 0 c).arrAt 9 (cfgs 0).N = gks m c := by
  refine (dats (F := Ideal) m 0 c).arrAt_eq_of_after_last 9 t0_0 (by decide +kernel) _ fun j => ?_
  blk_simp
  rw [after_w9]
  obtain ⟨g, d, rfl⟩ := ix2_eta j
  exact c11_at m c hke _ _
include hve in
theorem a10 : (dats (F := Ideal) m 0 c).arrAt 10 (cfgs 0).N = gv m c := by
  refine (dats (F := Ideal) m 0 c).arrAt_eq_of_after_last 10 t0_0 (by decide +kernel) _ fun j => ?_
  blk_simp
  rw [after_w10]
  exact (congrArg _ (ix4_eta j)).trans (c12_at m c hve _ _ _)
include hve in
theorem a11 : (dats (F := Ideal) m 0 c).arrAt 11 (cfgs 0).N = gvs m c := by
  refine (dats (F := Ideal) m 0 c).arrAt_eq_of_after_last 11 t0_0 (by decide +kernel) _ fun j => ?_
  blk_simp
  rw [after_w11]
  have e := ix1_eta j
  exact (congrArg _ e).trans ((c13_at m c hve _).trans (congrArg (fun z => P (ave m c z)) e.symm))

/-- The host's valuation once the launch has left its arrays. -/
abbrev tl : Valuation τ sig (Elt Ideal) := Pipeline.withArrays (cfgs 0).spec c (V0 m c) fun w => (dats (F := Ideal) m 0 c).arrAt w (cfgs 0).N

include hke hve hln in
/-- The attention output, in its result's shape. -/
theorem v7_at (b : Fin 2) (h : Fin 32) (d : Fin 64) :
    (StableHlo.after (List.flatten [hostOps1 (F := Ideal)]) (tl m c) (Proc.devRef .tc main_v7) : FVec Ideal S2x1x32x64 .bf16) (ix4 b 0 h d)
      = out (ax m c) (akn m c) (avn m c) (aK m c) (aV m c) (aln m c) (ake m c) (ave m c) b h d := by
  have e : (tl m c (Proc.devRef .tc main_v6_0) : FVec Ideal S2x32x64 .bf16) = go m c :=
    (Pipeline.withArrays_arr spec0 (by decide) c (V0 m c) _ 7).trans (a7 m c hke hve hln)
  generalize tl m c = W at e ⊢
  simp only [List.flatten_cons, List.flatten_nil, List.append_nil, hostOps1]
  after_reads_at
  exact congrFun e (ix3 b h d)

end Cert.KernelIdeal.Vals

end
-- ==== Proof.KRun.lean ====
/-
  The kernel's run, with its results in the argument arrays.
-/
module

public import proofs.«01_k».proof.Proof.KRes

@[expose] public section

set_option maxRecDepth 16384

noncomputable section

namespace Cert.KernelIdeal.Vals

open Cert.KernelIdeal Cert.KernelIdeal.Gen Cert.KernelIdeal.Run Cert.Proof.Words Cert.Proof.Spec Cert.Proof.Soft
open Idealize.ShloMosaic Idealize.SL.Sem

variable (m : (ℓ : Loc nD τ sig) → Buf (Elt Ideal) ℓ) (c : Dev nD)

/-- The attention output's array. -/
def gout : S2x1x32x64.Idx → EReal := fun j => out (ax m c) (akn m c) (avn m c) (aK m c) (aV m c) (aln m c) (ake m c) (ave m c) (j 0) (j 2) (j 3)

theorem ix_o (j : S2x1x32x64.Idx) : j = ix4 (j 0) 0 (j 2) (j 3) := by
  funext a
  fin_cases a
  · rfl
  · exact Subsingleton.elim (α := Fin 1) _ _
  · rfl
  · rfl

/-- The arguments in range, on every core. -/
def InRange : Prop := ∀ c : Dev nD, (∀ j, InR1 (aln m c j)) ∧ (∀ j, -126 ≤ (ake m c j).toInt ∧ (ake m c j).toInt ≤ 126) ∧ (∀ j, -126 ≤ (ave m c j).toInt ∧ (ave m c j).toInt ≤ 126)

/-- The kernel's run leaves the five results, as functions of its arguments, and its arguments. -/
theorem run_vals (ρ : Dev nD → PrngReg) (h : InRange m) :
    θ_run (defs (F := Ideal)) (onTc (τ := τ) (main (F := Ideal))) ⟨m, fun _ => 0, ρ⟩ (fun r => ∀ c : Dev nD,
      r.2.mem ((c.tc : Thread nD τ).loc main_v7) = gout m c
      ∧ r.2.mem ((c.tc : Thread nD τ).loc main_v6_1) = gk m c
      ∧ r.2.mem ((c.tc : Thread nD τ).loc main_v6_2) = gks m c
      ∧ r.2.mem ((c.tc : Thread nD τ).loc main_v6_3) = gv m c
      ∧ r.2.mem ((c.tc : Thread nD τ).loc main_v6_4) = gvs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run _ _ _).mono (fun r hr c => ?_) (run_main (F := Ideal) m ρ fun c j => ((h c).1 j).inR)
  obtain ⟨hln, hke, hve⟩ := h c
  refine ⟨?_, ((hr.1 c).1 8).trans (a8 m c hke), ((hr.1 c).1 9).trans (a9 m c hke), ((hr.1 c).1 10).trans (a10 m c hve), ((hr.1 c).1 11).trans (a11 m c hve), args_kept m r hr.1 c⟩
  refine ((hr.1 c).2 main_v7 (Pipeline.mem_restRefs_of main_v7 (by decide) (by decide))).trans (funext fun j => ?_)
  have e := ix_o j
  rw [e]
  exact v7_at m c hke hve hln (j 0) (j 2) (j 3)

end Cert.KernelIdeal.Vals

end
-- ==== Proof.RefLine.lean ====
/-
  The reference's host line after its casts, read at an index in four stretches: the masked scores and the new row's
  score; the maximum; the weights and their normaliser; the weighted sums of values.
-/
module

public import proofs.«01_k».proof.Proof.Gen.ReferenceIdeal.Frame
public import proofs.«01_k».proof.Proof.Math
public import Idealize.ShloMosaic.Lib.Pointwise
public import Idealize.ShloMosaic.Lib.StableHlo.ReadAt

@[expose] public section

set_option maxRecDepth 16384

noncomputable section

namespace Cert.ReferenceIdeal.Vals

open Cert.ReferenceIdeal Cert.ReferenceIdeal.Gen
open Idealize.ShloMosaic

variable (V : Valuation τ sig (Elt Ideal))

/-- The host line after the casts, cut in four. -/
abbrev lineA : List (HloOp τ sig (Elt Ideal)) := hostOps1 ++ (hostOps1_1 ++ (hostOps1_2 ++ hostOps1_3))
abbrev lineB : List (HloOp τ sig (Elt Ideal)) := hostOps1_4.take 7
abbrev lineC : List (HloOp τ sig (Elt Ideal)) := (hostOps1_4.drop 7).take 15
abbrev lineD : List (HloOp τ sig (Elt Ideal)) := (hostOps1_4.drop 7).drop 15

theorem after_two (l₁ l₂ : List (HloOp τ sig (Elt Ideal))) (V : Valuation τ sig (Elt Ideal)) : StableHlo.after (l₁ ++ l₂) V = StableHlo.after l₂ (StableHlo.after l₁ V) := by
  induction l₁ generalizing V with
  | nil => rfl
  | cons op l ih => exact ih _

theorem line_eq : StableHlo.after (List.flatten [hostOps1 (F := Ideal), hostOps1_1, hostOps1_2, hostOps1_3, hostOps1_4]) V = StableHlo.after lineD (StableHlo.after lineC (StableHlo.after lineB (StableHlo.after lineA V))) := by
  rw [← after_two, ← after_two, ← after_two]
  rfl

/-- The masked scores. -/
theorem scores_at (Xv2_6 : FVec Ideal S2x131072x4x64 .bf16) (hXv2_6 : V (Proc.devRef .tc main_v2_6) = Xv2_6) (Xv2_1 : FVec Ideal S1x1x4x64 .f32) (hXv2_1 : V (Proc.devRef .tc main_v2_1) = Xv2_1) (Xarg0 : FVec Ideal S2x1x32x64 .bf16) (hXarg0 : V (Proc.devRef .tc main_arg0) = Xarg0) (Xarg5 : IVec S2 32) (hXarg5 : V (Proc.devRef .tc main_arg5) = Xarg5) (b : Fin 2) (g : Fin 4) (q : Fin 8) (t : Fin 131072) :
    (StableHlo.after lineA V (Proc.devRef .tc main_v34) : FVec Ideal S2x4x8x1x131072 .f32) (ix5 b g q 0 t)
      = Scalar.select (IntOp.cmpi .slt (BitVec.ofNat 32 t.val) (Xarg5 (ix1 b))) ((∑ d : Fin 64, Xv2_6 (ix4 b t g d) * Xv2_1 (ix4 0 0 g d) * Xarg0 (ix4 b 0 ⟨g.val * 8 + q.val, by omega⟩ d)) * Ideal.ofBits .f32 0x3E000000#32) (Ideal.ofBits .f32 0xFF800000#32) := by
  simp only [lineA, hostOps1, hostOps1_1, hostOps1_2, hostOps1_3, List.cons_append, List.nil_append]
  after_reads_simp
  all_goals try simp -implicitDefEqProofs only [StableHlo.TRef.toBuf, StableHlo.TRef.ofBuf, cast_cast, cast_eq]
  simp only [hXv2_6, hXv2_1, hXarg0, hXarg5]
  clear hXv2_6 hXv2_1 hXarg0 hXarg5
  pointwise
  rfl

/-- The new row's score: its causal mask lets its one place through. -/
theorem newscore_at (Xv2_4 : FVec Ideal S2x1x4x64 .bf16) (hXv2_4 : V (Proc.devRef .tc main_v2_4) = Xv2_4) (Xv2_1 : FVec Ideal S1x1x4x64 .f32) (hXv2_1 : V (Proc.devRef .tc main_v2_1) = Xv2_1) (Xarg0 : FVec Ideal S2x1x32x64 .bf16) (hXarg0 : V (Proc.devRef .tc main_arg0) = Xarg0) (b : Fin 2) (g : Fin 4) (q : Fin 8) :
    (StableHlo.after lineA V (Proc.devRef .tc main_v35) : FVec Ideal S2x4x8x1x1 .f32) (ix5 b g q 0 0)
      = (∑ d : Fin 64, Xv2_4 (ix4 b 0 g d) * Xv2_1 (ix4 0 0 g d) * Xarg0 (ix4 b 0 ⟨g.val * 8 + q.val, by omega⟩ d)) * Ideal.ofBits .f32 0x3E000000#32 := by
  simp only [lineA, hostOps1, hostOps1_1, hostOps1_2, hostOps1_3, List.cons_append, List.nil_append]
  after_reads_simp
  all_goals try simp -implicitDefEqProofs only [StableHlo.TRef.toBuf, StableHlo.TRef.ofBuf, cast_cast, cast_eq]
  simp only [hXv2_4, hXv2_1, hXarg0]
  clear hXv2_4 hXv2_1 hXarg0
  pointwise
  rfl

/-- The scales' arrays, their unit axes dropped. -/
theorem vscale_at (g : Fin 4) : StableHlo.after lineA V (Proc.devRef .tc main_v4) (ix1 g) = V (Proc.devRef .tc main_v2_3) (ix4 0 0 g 0) := by
  simp only [lineA, hostOps1, hostOps1_1, hostOps1_2, hostOps1_3, List.cons_append, List.nil_append]
  after_reads_at
theorem kscale_at (g : Fin 4) (d : Fin 64) : StableHlo.after lineA V (Proc.devRef .tc main_v3) (ix2 g d) = V (Proc.devRef .tc main_v2_1) (ix4 0 0 g d) := by
  simp only [lineA, hostOps1, hostOps1_1, hostOps1_2, hostOps1_3, List.cons_append, List.nil_append]
  after_reads_at

/-- A maximum over the cache, and over the new row, at a row. -/
theorem red_big (X : FVec Ideal S2x4x8x1x131072 .f32) (c : FVec Ideal S_ .f32) (b : Fin 2) (g : Fin 4) (q : Fin 8) :
    Host.reduce FloatOps.maximumf X c reducesTo_S2x4x8x1x131072_S2x4x8x1_d4 h_S_ (ix4 b g q 0) = Finset.univ.fold max (c (Shape.Idx.first h_S_)) fun t : Fin 131072 => X (ix5 b g q 0 t) := by
  pointwise
theorem red_one (X : FVec Ideal S2x4x8x1x1 .f32) (c : FVec Ideal S_ .f32) (b : Fin 2) (g : Fin 4) (q : Fin 8) :
    Host.reduce FloatOps.maximumf X c reducesTo_S2x4x8x1x1_S2x4x8x1_d4 h_S_ (ix4 b g q 0) = Finset.univ.fold max (c (Shape.Idx.first h_S_)) fun t : Fin 1 => X (ix5 b g q 0 t) := by
  pointwise
/-- The larger of two arrays, each under a new unit axis, at an index. -/
theorem max_two (A B : FVec Ideal S2x4x8x1 .f32) (b : Fin 2) (g : Fin 4) (q : Fin 8) :
    (maximumf (broadcastInDim S2x4x8x1x1 ![0, 1, 2, 3] bcast_S2x4x8x1_S2x4x8x1x1_0_1_2_3 A) (broadcastInDim S2x4x8x1x1 ![0, 1, 2, 3] bcast_S2x4x8x1_S2x4x8x1x1_0_1_2_3 B) : FVec Ideal S2x4x8x1x1 .f32) (ix5 b g q 0 0)
      = max (A (ix4 b g q 0)) (B (ix4 b g q 0)) := by
  pointwise
theorem max_eq : StableHlo.after lineB V (Proc.devRef .tc main_v40)
    = (maximumf (broadcastInDim S2x4x8x1x1 ![0, 1, 2, 3] bcast_S2x4x8x1_S2x4x8x1x1_0_1_2_3 (Host.reduce FloatOps.maximumf (V (Proc.devRef .tc main_v34)) (constant S_ .f32 0xFF800000#32) reducesTo_S2x4x8x1x131072_S2x4x8x1_d4 h_S_))
      (broadcastInDim S2x4x8x1x1 ![0, 1, 2, 3] bcast_S2x4x8x1_S2x4x8x1x1_0_1_2_3 (Host.reduce FloatOps.maximumf (V (Proc.devRef .tc main_v35)) (constant S_ .f32 0xFF800000#32) reducesTo_S2x4x8x1x1_S2x4x8x1_d4 h_S_)) : FVec Ideal S2x4x8x1x1 .f32) := by
  simp only [lineB, hostOps1_4, List.take]
  after_reads_simp
/-- The maximum over the cache and the new row. -/
theorem max_at (Xv34 : FVec Ideal S2x4x8x1x131072 .f32) (hXv34 : V (Proc.devRef .tc main_v34) = Xv34) (Xv35 : FVec Ideal S2x4x8x1x1 .f32) (hXv35 : V (Proc.devRef .tc main_v35) = Xv35) (b : Fin 2) (g : Fin 4) (q : Fin 8) :
    (StableHlo.after lineB V (Proc.devRef .tc main_v40) : FVec Ideal S2x4x8x1x1 .f32) (ix5 b g q 0 0)
      = max (Finset.univ.fold max (Ideal.ofBits .f32 0xFF800000#32) fun t : Fin 131072 => Xv34 (ix5 b g q 0 t)) (Finset.univ.fold max (Ideal.ofBits .f32 0xFF800000#32) fun t : Fin 1 => Xv35 (ix5 b g q 0 t)) := by
  rw [max_eq, hXv34, hXv35, max_two, red_big, red_one]
  rfl

/-- The cache's weights. -/
theorem weight_at (Xv34 : FVec Ideal S2x4x8x1x131072 .f32) (hXv34 : V (Proc.devRef .tc main_v34) = Xv34) (Xv40 : FVec Ideal S2x4x8x1x1 .f32) (hXv40 : V (Proc.devRef .tc main_v40) = Xv40) (b : Fin 2) (g : Fin 4) (q : Fin 8) (t : Fin 131072) :
    (StableHlo.after lineC V (Proc.devRef .tc main_v43) : FVec Ideal S2x4x8x1x131072 .f32) (ix5 b g q 0 t)
      = Ideal.exp (Xv34 (ix5 b g q 0 t) - Xv40 (ix5 b g q 0 0)) := by
  simp only [lineC, hostOps1_4, List.take, List.drop]
  after_reads_simp
  all_goals try simp -implicitDefEqProofs only [StableHlo.TRef.toBuf, StableHlo.TRef.ofBuf, cast_cast, cast_eq]
  simp only [hXv34, hXv40]
  clear hXv34 hXv40
  pointwise

/-- The new row's weight. -/
theorem newweight_at (Xv35 : FVec Ideal S2x4x8x1x1 .f32) (hXv35 : V (Proc.devRef .tc main_v35) = Xv35) (Xv40 : FVec Ideal S2x4x8x1x1 .f32) (hXv40 : V (Proc.devRef .tc main_v40) = Xv40) (b : Fin 2) (g : Fin 4) (q : Fin 8) :
    (StableHlo.after lineC V (Proc.devRef .tc main_v45) : FVec Ideal S2x4x8x1x1 .f32) (ix5 b g q 0 0)
      = Ideal.exp (Xv35 (ix5 b g q 0 0) - Xv40 (ix5 b g q 0 0)) := by
  simp only [lineC, hostOps1_4, List.take, List.drop]
  after_reads_simp
  all_goals try simp -implicitDefEqProofs only [StableHlo.TRef.toBuf, StableHlo.TRef.ofBuf, cast_cast, cast_eq]
  simp only [hXv35, hXv40]
  clear hXv35 hXv40
  pointwise

/-- The normaliser. -/
theorem inv_at (Xv34 : FVec Ideal S2x4x8x1x131072 .f32) (hXv34 : V (Proc.devRef .tc main_v34) = Xv34) (Xv35 : FVec Ideal S2x4x8x1x1 .f32) (hXv35 : V (Proc.devRef .tc main_v35) = Xv35) (Xv40 : FVec Ideal S2x4x8x1x1 .f32) (hXv40 : V (Proc.devRef .tc main_v40) = Xv40) (b : Fin 2) (g : Fin 4) (q : Fin 8) :
    (StableHlo.after lineC V (Proc.devRef .tc main_v52) : FVec Ideal S2x4x8x1x1 .f32) (ix5 b g q 0 0)
      = Ideal.div 1 ((∑ t : Fin 131072, Ideal.exp (Xv34 (ix5 b g q 0 t) - Xv40 (ix5 b g q 0 0))) + ∑ t : Fin 1, Ideal.exp (Xv35 (ix5 b g q 0 t) - Xv40 (ix5 b g q 0 t))) := by
  simp only [lineC, hostOps1_4, List.take, List.drop]
  after_reads_simp
  all_goals try simp -implicitDefEqProofs only [StableHlo.TRef.toBuf, StableHlo.TRef.ofBuf, cast_cast, cast_eq]
  simp only [hXv34, hXv35, hXv40]
  clear hXv34 hXv35 hXv40
  pointwise

/-- The output. -/
theorem out_at (Xv2_7 : FVec Ideal S2x131072x4x64 .bf16) (hXv2_7 : V (Proc.devRef .tc main_v2_7) = Xv2_7) (Xv2_5 : FVec Ideal S2x1x4x64 .bf16) (hXv2_5 : V (Proc.devRef .tc main_v2_5) = Xv2_5) (Xv43 : FVec Ideal S2x4x8x1x131072 .f32) (hXv43 : V (Proc.devRef .tc main_v43) = Xv43) (Xv45 : FVec Ideal S2x4x8x1x1 .f32) (hXv45 : V (Proc.devRef .tc main_v45) = Xv45) (Xv52 : FVec Ideal S2x4x8x1x1 .f32) (hXv52 : V (Proc.devRef .tc main_v52) = Xv52) (Xv4 : FVec Ideal S4 .f32) (hXv4 : V (Proc.devRef .tc main_v4) = Xv4) (b : Fin 2) (h : Fin 32) (d : Fin 64) :
    (StableHlo.after lineD V (Proc.devRef .tc main_v69) : FVec Ideal S2x1x32x64 .bf16) (ix4 b 0 h d)
      = (∑ t : Fin 131072, Xv2_7 (ix4 b t ⟨h.val / 8, by omega⟩ d) * (Xv43 (ix5 b ⟨h.val / 8, by omega⟩ ⟨h.val % 8, by omega⟩ 0 t) * Xv52 (ix5 b ⟨h.val / 8, by omega⟩ ⟨h.val % 8, by omega⟩ 0 0) * Xv4 (ix1 ⟨h.val / 8, by omega⟩))) + ∑ t : Fin 1, Xv2_5 (ix4 b t ⟨h.val / 8, by omega⟩ d) * (Xv45 (ix5 b ⟨h.val / 8, by omega⟩ ⟨h.val % 8, by omega⟩ 0 t) * Xv52 (ix5 b ⟨h.val / 8, by omega⟩ ⟨h.val % 8, by omega⟩ 0 t) * Xv4 (ix1 ⟨h.val / 8, by omega⟩)) := by
  simp only [lineD, hostOps1_4, List.take, List.drop]
  after_reads_simp
  all_goals try simp -implicitDefEqProofs only [StableHlo.TRef.toBuf, StableHlo.TRef.ofBuf, cast_cast, cast_eq]
  simp only [hXv2_7, hXv2_5, hXv43, hXv45, hXv52, hXv4]
  clear hXv2_7 hXv2_5 hXv43 hXv45 hXv52 hXv4
  pointwise

/-! What a stretch leaves as it was. -/
theorem lineA_v2_7 : StableHlo.after lineA V (Proc.devRef .tc main_v2_7) = V (Proc.devRef .tc main_v2_7) := by
  simp only [lineA, hostOps1, hostOps1_1, hostOps1_2, hostOps1_3, List.cons_append, List.nil_append]
  after_reads_simp
theorem lineA_v2_5 : StableHlo.after lineA V (Proc.devRef .tc main_v2_5) = V (Proc.devRef .tc main_v2_5) := by
  simp only [lineA, hostOps1, hostOps1_1, hostOps1_2, hostOps1_3, List.cons_append, List.nil_append]
  after_reads_simp
theorem lineB_v34 : StableHlo.after lineB V (Proc.devRef .tc main_v34) = V (Proc.devRef .tc main_v34) := by
  simp only [lineB, hostOps1_4, List.take]
  after_reads_simp
theorem lineB_v35 : StableHlo.after lineB V (Proc.devRef .tc main_v35) = V (Proc.devRef .tc main_v35) := by
  simp only [lineB, hostOps1_4, List.take]
  after_reads_simp
theorem lineB_v2_7 : StableHlo.after lineB V (Proc.devRef .tc main_v2_7) = V (Proc.devRef .tc main_v2_7) := by
  simp only [lineB, hostOps1_4, List.take]
  after_reads_simp
theorem lineB_v2_5 : StableHlo.after lineB V (Proc.devRef .tc main_v2_5) = V (Proc.devRef .tc main_v2_5) := by
  simp only [lineB, hostOps1_4, List.take]
  after_reads_simp
theorem lineB_v4 : StableHlo.after lineB V (Proc.devRef .tc main_v4) = V (Proc.devRef .tc main_v4) := by
  simp only [lineB, hostOps1_4, List.take]
  after_reads_simp
theorem lineC_v2_7 : StableHlo.after lineC V (Proc.devRef .tc main_v2_7) = V (Proc.devRef .tc main_v2_7) := by
  simp only [lineC, hostOps1_4, List.take, List.drop]
  after_reads_simp
theorem lineC_v2_5 : StableHlo.after lineC V (Proc.devRef .tc main_v2_5) = V (Proc.devRef .tc main_v2_5) := by
  simp only [lineC, hostOps1_4, List.take, List.drop]
  after_reads_simp
theorem lineC_v4 : StableHlo.after lineC V (Proc.devRef .tc main_v4) = V (Proc.devRef .tc main_v4) := by
  simp only [lineC, hostOps1_4, List.take, List.drop]
  after_reads_simp

end Cert.ReferenceIdeal.Vals

end
-- ==== Proof.RefVals.lean ====
/-
  The reference's results at an index: its launch's arrays, then the host line over them.
-/
module

public import proofs.«01_k».proof.Proof.RefLine
public import proofs.«01_k».proof.Proof.Spec
public import Idealize.ShloMosaic.Lib.Pipeline.ValueKit

@[expose] public section

set_option maxRecDepth 16384

noncomputable section

namespace Cert.ReferenceIdeal.Vals

open Cert.ReferenceIdeal Cert.ReferenceIdeal.Gen Cert.Proof.Spec
open Idealize.ShloMosaic Idealize.ShloMosaic.Pipeline

variable (m : (ℓ : Loc nD τ sig) → Buf (Elt Ideal) ℓ) (c : Dev nD)

/-- The argument arrays, at the types that the specification reads. -/
abbrev ax : (⟨4, ![2, 1, 32, 64]⟩ : Shape).Idx → EReal := m ((c.tc : Thread nD τ).loc main_arg0)
abbrev akn : (⟨4, ![2, 1, 4, 64]⟩ : Shape).Idx → EReal := m ((c.tc : Thread nD τ).loc main_arg1)
abbrev avn : (⟨4, ![2, 1, 4, 64]⟩ : Shape).Idx → EReal := m ((c.tc : Thread nD τ).loc main_arg2)
abbrev aK : (⟨4, ![2, 131072, 4, 64]⟩ : Shape).Idx → EReal := m ((c.tc : Thread nD τ).loc main_arg3)
abbrev aV : (⟨4, ![2, 131072, 4, 64]⟩ : Shape).Idx → EReal := m ((c.tc : Thread nD τ).loc main_arg4)
abbrev aln : (⟨1, ![2]⟩ : Shape).Idx → BitVec 32 := m ((c.tc : Thread nD τ).loc main_arg5)
abbrev ake : (⟨2, ![4, 64]⟩ : Shape).Idx → BitVec 32 := m ((c.tc : Thread nD τ).loc main_arg6)
abbrev ave : (⟨1, ![4]⟩ : Shape).Idx → BitVec 32 := m ((c.tc : Thread nD τ).loc main_arg7)

theorem v0_at (g : Fin 4) (d : Fin 64) : V m c main_v0 (ix4 0 0 g d) = ake m c (ix2 g d) := by
  unfold V
  after_reads_at
theorem v1_at (g : Fin 4) : V m c main_v1 (ix4 0 0 g 0) = ave m c (ix1 g) := by
  unfold V
  after_reads_at

/-- The launch's input blocks are its whole arrays. -/
theorem i0 : ∀ a, win0_0.index t0_0 a = 0 := by decide
theorem i1 : ∀ a, win0_1.index t0_0 a = 0 := by decide
theorem i2 : ∀ a, win0_2.index t0_0 a = 0 := by decide
theorem i3 : ∀ a, win0_3.index t0_0 a = 0 := by decide
theorem i4 : ∀ a, win0_4.index t0_0 a = 0 := by decide
theorem i5 : ∀ a, win0_5.index t0_0 a = 0 := by decide
theorem b0 : iblk m c 0 t0_0 = akn m c := by funext j; blk_ext [iblk, V_main_arg1, i0]
theorem b1 : iblk m c 1 t0_0 = avn m c := by funext j; blk_ext [iblk, V_main_arg2, i1]
theorem b2 : iblk m c 2 t0_0 = V m c main_v0 := by funext j; blk_ext [iblk, i2]
theorem b3 : iblk m c 3 t0_0 = V m c main_v1 := by funext j; blk_ext [iblk, i3]
theorem b4 : iblk m c 4 t0_0 = aK m c := by funext j; blk_ext [iblk, V_main_arg3, i4]
theorem b5 : iblk m c 5 t0_0 = aV m c := by funext j; blk_ext [iblk, V_main_arg4, i5]

/-- The launch's payloads at an index. -/
theorem p6 (k v : Vec Ideal S2x1x4x64 .bf16) (e : Vec Ideal S1x1x4x64 .i32) (f : Vec Ideal S1x1x4x1 .i32) (K W : Vec Ideal S2x131072x4x64 .fp8e4m3) (b : Fin 2) (g : Fin 4) (d : Fin 64) :
    k0_pay6 (F := Ideal) (k0_pay11 k v e f K W) (ix4 b 0 g d) = clip (k (ix4 b 0 g d) * P (IntOp.subi 0#32 (e (ix4 0 0 g d)))) := by
  pointwise [k0_pay6, k0_pay11, k0_pay4, r0_0, r0_1, r0_2]
  rfl
theorem p7 (e : Vec Ideal S1x1x4x64 .i32) (g : Fin 4) (d : Fin 64) : k0_pay2 (F := Ideal) e (ix4 0 0 g d) = P (e (ix4 0 0 g d)) := by
  pointwise [k0_pay2]
  rfl
theorem p8 (k v : Vec Ideal S2x1x4x64 .bf16) (e : Vec Ideal S1x1x4x64 .i32) (f : Vec Ideal S1x1x4x1 .i32) (K W : Vec Ideal S2x131072x4x64 .fp8e4m3) (b : Fin 2) (g : Fin 4) (d : Fin 64) :
    k0_pay7 (F := Ideal) (k0_pay12 k v e f K W) (ix4 b 0 g d) = clip (v (ix4 b 0 g d) * P (IntOp.subi 0#32 (f (ix4 0 0 g 0)))) := by
  pointwise [k0_pay7, k0_pay12, k0_pay5, r0_0, r0_1, r0_2]
  rfl
theorem p9 (e : Vec Ideal S1x1x4x1 .i32) (g : Fin 4) : k0_pay3 (F := Ideal) e (ix4 0 0 g 0) = P (e (ix4 0 0 g 0)) := by
  pointwise [k0_pay3]
  rfl
theorem p10 (k v : Vec Ideal S2x1x4x64 .bf16) (e : Vec Ideal S1x1x4x64 .i32) (f : Vec Ideal S1x1x4x1 .i32) (K W : Vec Ideal S2x131072x4x64 .fp8e4m3) (b : Fin 2) (g : Fin 4) (d : Fin 64) :
    k0_pay8 (F := Ideal) (k0_pay11 k v e f K W) (ix4 b 0 g d) = clip (k (ix4 b 0 g d) * P (IntOp.subi 0#32 (e (ix4 0 0 g d)))) := by
  pointwise [k0_pay8, k0_pay6, k0_pay11, k0_pay4, r0_0, r0_1, r0_2]
  rfl
theorem p11 (k v : Vec Ideal S2x1x4x64 .bf16) (e : Vec Ideal S1x1x4x64 .i32) (f : Vec Ideal S1x1x4x1 .i32) (K W : Vec Ideal S2x131072x4x64 .fp8e4m3) (b : Fin 2) (g : Fin 4) (d : Fin 64) :
    k0_pay9 (F := Ideal) (k0_pay12 k v e f K W) (ix4 b 0 g d) = clip (v (ix4 b 0 g d) * P (IntOp.subi 0#32 (f (ix4 0 0 g 0)))) := by
  pointwise [k0_pay9, k0_pay7, k0_pay12, k0_pay5, r0_0, r0_1, r0_2]
  rfl

/-- The specification's results as arrays. -/
abbrev gk : (⟨4, ![2, 1, 4, 64]⟩ : Shape).Idx → EReal := fun j => kcode (akn m c) (ake m c) (j 0) (j 2) (j 3)
abbrev gv : (⟨4, ![2, 1, 4, 64]⟩ : Shape).Idx → EReal := fun j => vcode (avn m c) (ave m c) (j 0) (j 2) (j 3)
abbrev gks : (⟨4, ![1, 1, 4, 64]⟩ : Shape).Idx → EReal := fun j => P (ake m c (ix2 (j 2) (j 3)))
abbrev gvs : (⟨4, ![1, 1, 4, 1]⟩ : Shape).Idx → EReal := fun j => P (ave m c (ix1 (j 2)))

/-- An index of four axes, its unit axes at zero. -/
theorem ix_b (j : (⟨4, ![2, 1, 4, 64]⟩ : Shape).Idx) : j = ix4 (j 0) 0 (j 2) (j 3) := by
  conv_lhs => rw [eq_ix4 j]
  exact congrArg (fun z => ix4 (j 0) z (j 2) (j 3)) (Subsingleton.elim (α := Fin 1) _ _)
theorem ix_k (j : (⟨4, ![1, 1, 4, 64]⟩ : Shape).Idx) : j = ix4 0 0 (j 2) (j 3) := by
  conv_lhs => rw [eq_ix4 j]
  exact congrArg₂ (fun y z => ix4 y z (j 2) (j 3)) (Subsingleton.elim (α := Fin 1) _ _) (Subsingleton.elim (α := Fin 1) _ _)
theorem ix_v (j : (⟨4, ![1, 1, 4, 1]⟩ : Shape).Idx) : j = ix4 0 0 (j 2) 0 := by
  conv_lhs => rw [eq_ix4 j]
  exact (congrArg₂ (fun y z => ix4 y z (j 2) (j 3)) (Subsingleton.elim (α := Fin 1) _ _) (Subsingleton.elim (α := Fin 1) _ _)).trans (congrArg (fun z => ix4 0 0 (j 2) z) (Subsingleton.elim (α := Fin 1) _ _))

/-- The launch's output arrays. -/
theorem a6 : (dats (F := Ideal) m 0 c).arrAt 6 (cfgs 0).N = gk m c := by
  refine (dats (F := Ideal) m 0 c).arrAt_eq_of_after_last 6 t0_0 (by decide +kernel) _ fun j => ?_
  blk_simp
  rw [after0_6]
  frame_out
  rw [b0, b1, b2, b3, b4, b5]
  refine (congrArg _ (ix_b j)).trans ((p6 _ _ _ _ _ _ _ _ _).trans ?_)
  exact congrArg (fun z => clip (akn m c (ix4 (j 0) 0 (j 2) (j 3)) * P (IntOp.subi 0#32 z))) (v0_at m c _ _)
theorem a7 : (dats (F := Ideal) m 0 c).arrAt 7 (cfgs 0).N = gks m c := by
  refine (dats (F := Ideal) m 0 c).arrAt_eq_of_after_last 7 t0_0 (by decide +kernel) _ fun j => ?_
  blk_simp
  rw [after0_7]
  frame_out
  rw [b2]
  refine (congrArg _ (ix_k j)).trans ((p7 _ _ _).trans ?_)
  exact congrArg P (v0_at m c _ _)
theorem a8 : (dats (F := Ideal) m 0 c).arrAt 8 (cfgs 0).N = gv m c := by
  refine (dats (F := Ideal) m 0 c).arrAt_eq_of_after_last 8 t0_0 (by decide +kernel) _ fun j => ?_
  blk_simp
  rw [after0_8]
  frame_out
  rw [b0, b1, b2, b3, b4, b5]
  refine (congrArg _ (ix_b j)).trans ((p8 _ _ _ _ _ _ _ _ _).trans ?_)
  exact congrArg (fun z => clip (avn m c (ix4 (j 0) 0 (j 2) (j 3)) * P (IntOp.subi 0#32 z))) (v1_at m c _)
theorem a9 : (dats (F := Ideal) m 0 c).arrAt 9 (cfgs 0).N = gvs m c := by
  refine (dats (F := Ideal) m 0 c).arrAt_eq_of_after_last 9 t0_0 (by decide +kernel) _ fun j => ?_
  blk_simp
  rw [after0_9]
  frame_out
  rw [b3]
  refine (congrArg _ (ix_v j)).trans ((p9 _ _).trans ?_)
  exact congrArg P (v1_at m c _)
theorem a10 : (dats (F := Ideal) m 0 c).arrAt 10 (cfgs 0).N = gk m c := by
  refine (dats (F := Ideal) m 0 c).arrAt_eq_of_after_last 10 t0_0 (by decide +kernel) _ fun j => ?_
  blk_simp
  rw [after0_10]
  frame_out
  rw [b0, b1, b2, b3, b4, b5]
  refine (congrArg _ (ix_b j)).trans ((p10 _ _ _ _ _ _ _ _ _).trans ?_)
  exact congrArg (fun z => clip (akn m c (ix4 (j 0) 0 (j 2) (j 3)) * P (IntOp.subi 0#32 z))) (v0_at m c _ _)
theorem a11 : (dats (F := Ideal) m 0 c).arrAt 11 (cfgs 0).N = gv m c := by
  refine (dats (F := Ideal) m 0 c).arrAt_eq_of_after_last 11 t0_0 (by decide +kernel) _ fun j => ?_
  blk_simp
  rw [after0_11]
  frame_out
  rw [b0, b1, b2, b3, b4, b5]
  refine (congrArg _ (ix_b j)).trans ((p11 _ _ _ _ _ _ _ _ _).trans ?_)
  exact congrArg (fun z => clip (avn m c (ix4 (j 0) 0 (j 2) (j 3)) * P (IntOp.subi 0#32 z))) (v1_at m c _)
theorem a12 : (dats (F := Ideal) m 0 c).arrAt 12 (cfgs 0).N = aK m c := by
  refine (dats (F := Ideal) m 0 c).arrAt_eq_of_after_last 12 t0_0 (by decide +kernel) _ fun j => ?_
  blk_simp
  rw [after0_12]
  frame_out
  rw [b4]
  rfl
theorem a13 : (dats (F := Ideal) m 0 c).arrAt 13 (cfgs 0).N = aV m c := by
  refine (dats (F := Ideal) m 0 c).arrAt_eq_of_after_last 13 t0_0 (by decide +kernel) _ fun j => ?_
  blk_simp
  rw [after0_13]
  frame_out
  rw [b5]
  rfl

/-- The host line's start: the launch's arrays, the other buffers as the launch found them. -/
abbrev tl : Valuation τ sig (Elt Ideal) := withArrays (cfgs 0).spec c (V0 m c) fun w => (dats (F := Ideal) m 0 c).arrAt w (cfgs 0).N

theorem tl_arr (w : Fin 14) : tl m c (Proc.devRef .tc (arrRef spec0 w)) = (dats (F := Ideal) m 0 c).arrAt w (cfgs 0).N :=
  withArrays_arr spec0 (by decide) c (V0 m c) _ w
theorem tl_x : (tl m c (Proc.devRef .tc main_arg0) : FVec Ideal S2x1x32x64 .bf16) = ax m c :=
  (withArrays_of_ne spec0 c (V0 m c) _ main_arg0 (by exact (by decide : ∀ w, arrRef spec0 w ≠ main_arg0))).trans (V_main_arg0 m c)
theorem tl_l : (tl m c (Proc.devRef .tc main_arg5) : IVec S2 32) = aln m c :=
  (withArrays_of_ne spec0 c (V0 m c) _ main_arg5 (by exact (by decide : ∀ w, arrRef spec0 w ≠ main_arg5))).trans (V_main_arg5 m c)
theorem tl_ks : (tl m c (Proc.devRef .tc main_v2_1) : FVec Ideal S1x1x4x64 .f32) = gks m c := (tl_arr m c 7).trans (a7 m c)
theorem tl_vs : (tl m c (Proc.devRef .tc main_v2_3) : FVec Ideal S1x1x4x1 .f32) = gvs m c := (tl_arr m c 9).trans (a9 m c)
theorem tl_kc : (tl m c (Proc.devRef .tc main_v2_4) : FVec Ideal S2x1x4x64 .bf16) = gk m c := (tl_arr m c 10).trans (a10 m c)
theorem tl_vc : (tl m c (Proc.devRef .tc main_v2_5) : FVec Ideal S2x1x4x64 .bf16) = gv m c := (tl_arr m c 11).trans (a11 m c)
theorem tl_K : (tl m c (Proc.devRef .tc main_v2_6) : FVec Ideal S2x131072x4x64 .bf16) = aK m c := (tl_arr m c 12).trans (a12 m c)
theorem tl_V : (tl m c (Proc.devRef .tc main_v2_7) : FVec Ideal S2x131072x4x64 .bf16) = aV m c := (tl_arr m c 13).trans (a13 m c)

theorem sel_ofBool {α : Type} (p : Prop) [Decidable p] (a b : α) : Scalar.select (BitVec.ofBool (decide p)) a b = if p then a else b := by
  by_cases h : p
  · rw [if_pos h, decide_eq_true h]; rfl
  · rw [if_neg h, decide_eq_false h]; rfl
theorem slt_word (t : ℕ) (ht : t < 131072) (len : BitVec 32) : IntOp.cmpi .slt (BitVec.ofNat 32 t) len = BitVec.ofBool (decide ((t : ℤ) < len.toInt)) := by
  show BitVec.ofBool ((BitVec.ofNat 32 t).slt len) = _
  rw [BitVec.slt, BitVec.toInt_ofNat', Int.bmod_eq_of_le (by omega) (by omega)]

/-- The query head of a cache head and a place in its group. -/
abbrev hh (g : Fin 4) (q : Fin 8) : Fin 32 := ⟨g.val * 8 + q.val, by omega⟩
theorem hg_hh (g : Fin 4) (q : Fin 8) : hg (hh g q) = g := Fin.ext (by show (g.val * 8 + q.val) / 8 = g.val; omega)
theorem hh_split (h : Fin 32) : hh ⟨h.val / 8, by omega⟩ ⟨h.val % 8, by omega⟩ = h := Fin.ext (by show h.val / 8 * 8 + h.val % 8 = h.val; omega)

/-- What the host line's stretches leave. -/
abbrev tA := StableHlo.after lineA (tl m c)
abbrev tB := StableHlo.after lineB (tA m c)
abbrev tC := StableHlo.after lineC (tB m c)
abbrev sc : FVec Ideal S2x4x8x1x131072 .f32 := tA m c (Proc.devRef .tc main_v34)
abbrev ns : FVec Ideal S2x4x8x1x1 .f32 := tA m c (Proc.devRef .tc main_v35)
abbrev mxs : FVec Ideal S2x4x8x1x1 .f32 := tB m c (Proc.devRef .tc main_v40)

theorem sc_at (b : Fin 2) (g : Fin 4) (q : Fin 8) (t : Fin 131072) : sc m c (ix5 b g q 0 t) = score (ax m c) (aK m c) (aln m c) (ake m c) b (hh g q) t.val := by
  refine (scores_at (tl m c) _ (tl_K m c) _ (tl_ks m c) _ (tl_x m c) _ (tl_l m c) b g q t).trans ?_
  rw [slt_word t.val t.isLt, sel_ofBool, bot_word]
  unfold score
  rw [dif_pos t.isLt, hg_hh]
  refine congrArg (fun z => if (t.val : ℤ) < (aln m c (ix1 b)).toInt then z * c8 else ⊥) (Finset.sum_congr rfl fun d _ => ?_)
  exact mul_comm _ _

theorem ns_at (b : Fin 2) (g : Fin 4) (q : Fin 8) : ns m c (ix5 b g q 0 0) = newscore (ax m c) (akn m c) (ake m c) b (hh g q) := by
  refine (newscore_at (tl m c) _ (tl_kc m c) _ (tl_ks m c) _ (tl_x m c) b g q).trans ?_
  unfold newscore
  rw [hg_hh]
  refine congrArg (fun z => z * c8) (Finset.sum_congr rfl fun d _ => ?_)
  exact mul_comm _ _

theorem mxs_at (b : Fin 2) (g : Fin 4) (q : Fin 8) : mxs m c (ix5 b g q 0 0) = mx (ax m c) (akn m c) (aK m c) (aln m c) (ake m c) b (hh g q) := by
  refine (max_at (tA m c) (sc m c) rfl (ns m c) rfl b g q).trans ?_
  rw [bot_word]
  unfold mx
  refine congrArg₂ (max : EReal → EReal → EReal) (congrArg (fun f => Finset.univ.fold (max : EReal → EReal → EReal) ⊥ f) (funext fun t => sc_at m c b g q t)) ?_
  rw [Finset.univ_unique, Finset.fold_singleton]
  exact (max_eq_left bot_le).trans (ns_at m c b g q)

/-- The reference's output, as the specification has it. -/
theorem ref_out (b : Fin 2) (h : Fin 32) (d : Fin 64) :
    (StableHlo.after (List.flatten [hostOps1 (F := Ideal), hostOps1_1, hostOps1_2, hostOps1_3, hostOps1_4]) (tl m c) (Proc.devRef .tc main_v69) : FVec Ideal S2x1x32x64 .bf16) (ix4 b 0 h d)
      = out (ax m c) (akn m c) (avn m c) (aK m c) (aV m c) (aln m c) (ake m c) (ave m c) b h d := by
  rw [line_eq]
  have hV : (tC m c (Proc.devRef .tc main_v2_7) : FVec Ideal S2x131072x4x64 .bf16) = aV m c := (lineC_v2_7 _).trans ((lineB_v2_7 _).trans ((lineA_v2_7 _).trans (tl_V m c)))
  have hv : (tC m c (Proc.devRef .tc main_v2_5) : FVec Ideal S2x1x4x64 .bf16) = gv m c := (lineC_v2_5 _).trans ((lineB_v2_5 _).trans ((lineA_v2_5 _).trans (tl_vc m c)))
  have h34 : (tB m c (Proc.devRef .tc main_v34) : FVec Ideal S2x4x8x1x131072 .f32) = sc m c := lineB_v34 _
  have h35 : (tB m c (Proc.devRef .tc main_v35) : FVec Ideal S2x4x8x1x1 .f32) = ns m c := lineB_v35 _
  refine (out_at (tC m c) _ hV _ hv _ rfl _ rfl _ rfl _ rfl b h d).trans ?_
  have e4 : ∀ g, (tC m c (Proc.devRef .tc main_v4) : FVec Ideal S4 .f32) (ix1 g) = P (ave m c (ix1 g)) := fun g =>
    (congrFun (lineC_v4 _) _).trans ((congrFun (lineB_v4 _) _).trans ((vscale_at (tl m c) g).trans (congrFun (tl_vs m c) (ix4 0 0 g 0))))
  obtain ⟨g, q, rfl⟩ : ∃ g q, h = hh g q := ⟨_, _, (hh_split h).symm⟩
  have eg : (⟨(hh g q).val / 8, by omega⟩ : Fin 4) = g := Fin.ext (by show (g.val * 8 + q.val) / 8 = g.val; omega)
  have eq : (⟨(hh g q).val % 8, by omega⟩ : Fin 8) = q := Fin.ext (by show (g.val * 8 + q.val) % 8 = q.val; omega)
  rw [eg, eq]
  have e43 : ∀ t, (tC m c (Proc.devRef .tc main_v43) : FVec Ideal S2x4x8x1x131072 .f32) (ix5 b g q 0 t) = Cert.Proof.Soft.w (score (ax m c) (aK m c) (aln m c) (ake m c) b (hh g q) t.val) (mx (ax m c) (akn m c) (aK m c) (aln m c) (ake m c) b (hh g q)) := fun t => by
    refine (weight_at (tB m c) _ h34 (mxs m c) rfl b g q t).trans ?_
    rw [sc_at, mxs_at]; rfl
  have e45 : (tC m c (Proc.devRef .tc main_v45) : FVec Ideal S2x4x8x1x1 .f32) (ix5 b g q 0 0) = Cert.Proof.Soft.w (newscore (ax m c) (akn m c) (ake m c) b (hh g q)) (mx (ax m c) (akn m c) (aK m c) (aln m c) (ake m c) b (hh g q)) := by
    refine (newweight_at (tB m c) _ h35 (mxs m c) rfl b g q).trans ?_
    rw [ns_at, mxs_at]; rfl
  have e52 : (tC m c (Proc.devRef .tc main_v52) : FVec Ideal S2x4x8x1x1 .f32) (ix5 b g q 0 0) = Ideal.div 1 (den (ax m c) (akn m c) (aK m c) (aln m c) (ake m c) b (hh g q)) := by
    refine (inv_at (tB m c) _ h34 _ h35 (mxs m c) rfl b g q).trans ?_
    refine congrArg (Ideal.div 1) ?_
    unfold den
    refine congrArg₂ (· + ·) (Finset.sum_congr rfl fun t _ => ?_) ?_
    · rw [sc_at, mxs_at]; rfl
    · rw [Fin.sum_univ_one, ns_at, mxs_at]; rfl
  rw [Fin.sum_univ_one, e4, e45, e52]
  unfold out
  rw [hg_hh]
  refine congrArg₂ (· + ·) (Finset.sum_congr rfl fun t _ => ?_) ?_
  · rw [e43, mul_comm]
    unfold val
    rw [dif_pos t.isLt, hg_hh]
  · exact mul_comm _ _

end Cert.ReferenceIdeal.Vals

end
-- ==== Proof.RefRun.lean ====
/-
  The reference's run, with its results in the argument arrays.
-/
module

public import proofs.«01_k».proof.Proof.RefVals

@[expose] public section

set_option maxRecDepth 16384

noncomputable section

namespace Cert.ReferenceIdeal.Vals

open Cert.ReferenceIdeal Cert.ReferenceIdeal.Gen Cert.Proof.Spec Cert.Proof.Soft
open Idealize.ShloMosaic Idealize.SL.Sem

section Line
variable (V : Valuation τ sig (Elt Ideal))

/-- The later stretches of the host's line leave the two scales. -/
theorem lineB_v3 : StableHlo.after lineB V (Proc.devRef .tc main_v3) = V (Proc.devRef .tc main_v3) := by
  simp only [lineB, hostOps1_4, List.take]
  after_reads_simp
theorem lineC_v3 : StableHlo.after lineC V (Proc.devRef .tc main_v3) = V (Proc.devRef .tc main_v3) := by
  simp only [lineC, hostOps1_4, List.take, List.drop]
  after_reads_simp
theorem lineD_v3 : StableHlo.after lineD V (Proc.devRef .tc main_v3) = V (Proc.devRef .tc main_v3) := by
  simp only [lineD, hostOps1_4, List.take, List.drop]
  after_reads_simp
theorem lineD_v4 : StableHlo.after lineD V (Proc.devRef .tc main_v4) = V (Proc.devRef .tc main_v4) := by
  simp only [lineD, hostOps1_4, List.take, List.drop]
  after_reads_simp
end Line

variable (m : (ℓ : Loc nD τ sig) → Buf (Elt Ideal) ℓ) (c : Dev nD)

/-- The attention output's array, and the scales in their results' shapes. -/
def gout : S2x1x32x64.Idx → EReal := fun j => out (ax m c) (akn m c) (avn m c) (aK m c) (aV m c) (aln m c) (ake m c) (ave m c) (j 0) (j 2) (j 3)
def gks2 : S4x64.Idx → EReal := fun j => P (ake m c j)
def gvs1 : S4.Idx → EReal := fun j => P (ave m c j)

theorem ix_o (j : S2x1x32x64.Idx) : j = ix4 (j 0) 0 (j 2) (j 3) := by
  funext a
  fin_cases a
  · rfl
  · exact Subsingleton.elim (α := Fin 1) _ _
  · rfl
  · rfl
theorem ix2_eta (j : S4x64.Idx) : ∃ (g : Fin 4) (d : Fin 64), j = ix2 g d := ⟨j 0, j 1, by funext a; fin_cases a <;> rfl⟩
theorem ix1_eta (j : S4.Idx) : ∃ g : Fin 4, j = ix1 g := ⟨j 0, by funext a; fin_cases a; rfl⟩

theorem v3_eq : StableHlo.after (List.flatten [hostOps1 (F := Ideal), hostOps1_1, hostOps1_2, hostOps1_3, hostOps1_4]) (tl m c) (Proc.devRef .tc main_v3) = gks2 m c := by
  funext j
  obtain ⟨g, d, rfl⟩ := ix2_eta j
  rw [line_eq, lineD_v3, lineC_v3, lineB_v3]
  exact (kscale_at (tl m c) g d).trans (congrFun (tl_ks m c) (ix4 0 0 g d))
theorem v4_eq : StableHlo.after (List.flatten [hostOps1 (F := Ideal), hostOps1_1, hostOps1_2, hostOps1_3, hostOps1_4]) (tl m c) (Proc.devRef .tc main_v4) = gvs1 m c := by
  funext j
  obtain ⟨g, rfl⟩ := ix1_eta j
  rw [line_eq, lineD_v4, lineC_v4, lineB_v4]
  exact (vscale_at (tl m c) g).trans (congrFun (tl_vs m c) (ix4 0 0 g 0))

/-- The reference's run leaves the five results, as functions of its arguments, and its arguments. -/
theorem run_vals (ρ : Dev nD → PrngReg) :
    θ_run (defs (F := Ideal)) (onTc (τ := τ) (main (F := Ideal))) ⟨m, fun _ => 0, ρ⟩ (fun r => ∀ c : Dev nD,
      r.2.mem ((c.tc : Thread nD τ).loc main_v69) = gout m c
      ∧ r.2.mem ((c.tc : Thread nD τ).loc main_v2_0) = gk m c
      ∧ r.2.mem ((c.tc : Thread nD τ).loc main_v3) = gks2 m c
      ∧ r.2.mem ((c.tc : Thread nD τ).loc main_v2_2) = gv m c
      ∧ r.2.mem ((c.tc : Thread nD τ).loc main_v4) = gvs1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  run_from run_main (F := Ideal) m ρ
  · funext j
    have e := ix_o j
    rw [e]
    exact ref_out m c (j 0) (j 2) (j 3)
  · exact a6 m c
  · exact v3_eq m c
  · exact a8 m c
  · exact v4_eq m c
  · exact W_main_arg0 m (dats m) c
  · exact W_main_arg5 m (dats m) c
  · exact W_main_arg6 m (dats m) c
  · exact W_main_arg7 m (dats m) c

end Cert.ReferenceIdeal.Vals

end
-- ==== Proof.lean ====
/-
  The claim assembled: the two kernels' runs end with every semaphore counter at zero and the arguments as launched
  (Proof/Launch.lean and Proof/Bits/Launch.lean), and so does the reference's; over the extended reals the kernel's five
  results are the reference's (Proof/KRun.lean and Proof/RefRun.lean).
-/
module

public import proofs.«01_k».proof.Defs
public import proofs.«01_k».proof.Proof.Launch
public import proofs.«01_k».proof.Proof.Bits.Launch
public import proofs.«01_k».proof.Proof.PreIn
public import proofs.«01_k».proof.Proof.KRun
public import proofs.«01_k».proof.Proof.RefRun
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_in_range

@[expose] public section

noncomputable section

namespace Cert.Proof

open Idealize.ShloMosaic Idealize.SL.Sem

/-- The kernel over the extended reals ends quiescent, its arguments kept. -/
theorem quiescent_KernelIdeal : Cert.quiescent_KernelIdeal := fun m g h =>
  (θ_run _ _ _).mono (fun r hr => ⟨fun c => Cert.KernelIdeal.Run.args_kept m r hr.1 c, hr.2⟩)
    (Cert.KernelIdeal.Run.run_main (F := Ideal) m g fun c j => PreIn.lens _ _ _ _ _ _ _ _ (h c) j)

/-- So it does where the exponents too are bounded. -/
theorem quiescent_KernelIdeal_pre_in_range : Cert.quiescent_KernelIdeal_pre_in_range := fun m g h =>
  (θ_run _ _ _).mono (fun r hr => ⟨fun c => Cert.KernelIdeal.Run.args_kept m r hr.1 c, hr.2⟩)
    (Cert.KernelIdeal.Run.run_main (F := Ideal) m g fun c j => ((PreIn.all _ _ _ _ _ _ _ _ (h c)).1 j).inR)

/-- The kernel in its own formats ends quiescent, its arguments kept. -/
theorem quiescent_Kernel : Cert.quiescent_Kernel := fun m g h =>
  (θ_run _ _ _).mono (fun r hr => ⟨fun c => Cert.Kernel.Run.args_kept m r hr.1 c, hr.2⟩)
    (Cert.Kernel.Run.run_main (F := Bits) m g fun c j => PreIn.lens _ _ _ _ _ _ _ _ (h c) j)

/-- The reference ends quiescent, its arguments kept. -/
theorem quiescent_ReferenceIdeal : Cert.quiescent_ReferenceIdeal := fun m g _ => Cert.ReferenceIdeal.Gen.frame m g

/-- So it does where the lengths and exponents are bounded. -/
theorem quiescent_ReferenceIdeal_pre_in_range : Cert.quiescent_ReferenceIdeal_pre_in_range := fun m g _ => Cert.ReferenceIdeal.Gen.frame m g

/-- The kernel over the extended reals computes the reference's five results. -/
theorem algebraic_KernelIdeal_ReferenceIdeal : Cert.algebraic_KernelIdeal_ReferenceIdeal_pre_in_range := fun m g m' g' h hag => by
  refine ⟨fun c => Cert.KernelIdeal.Vals.gout m c, fun c => Cert.KernelIdeal.Vals.gk m c, fun c => Cert.KernelIdeal.Vals.gks m c,
    fun c => Cert.KernelIdeal.Vals.gv m c, fun c => Cert.KernelIdeal.Vals.gvs m c,
    Cert.KernelIdeal.Vals.run_vals m g fun c => PreIn.all _ _ _ _ _ _ _ _ (h c), ?_⟩
  refine (θ_run _ _ _).mono (fun r hr c => ?_) (Cert.ReferenceIdeal.Vals.run_vals m' g')
  obtain ⟨h0, h1, h2, h3, h4, h5, h6, h7⟩ := hag c
  obtain ⟨r0, r1, r2, r3, r4, rs⟩ := hr c
  refine ⟨r0.trans ?_, r1.trans ?_, r2.trans ?_, r3.trans ?_, r4.trans ?_, rs⟩
  · unfold Cert.ReferenceIdeal.Vals.gout Cert.ReferenceIdeal.Vals.ax Cert.ReferenceIdeal.Vals.akn Cert.ReferenceIdeal.Vals.avn Cert.ReferenceIdeal.Vals.aK
      Cert.ReferenceIdeal.Vals.aV Cert.ReferenceIdeal.Vals.aln Cert.ReferenceIdeal.Vals.ake Cert.ReferenceIdeal.Vals.ave
    rw [h0, h1, h2, h3, h4, h5, h6, h7]
    rfl
  · unfold Cert.ReferenceIdeal.Vals.gk Cert.ReferenceIdeal.Vals.akn Cert.ReferenceIdeal.Vals.ake
    rw [h1, h6]
    rfl
  · unfold Cert.ReferenceIdeal.Vals.gks2 Cert.ReferenceIdeal.Vals.ake
    rw [h6]
    rfl
  · unfold Cert.ReferenceIdeal.Vals.gv Cert.ReferenceIdeal.Vals.avn Cert.ReferenceIdeal.Vals.ave
    rw [h2, h7]
    rfl
  · unfold Cert.ReferenceIdeal.Vals.gvs1 Cert.ReferenceIdeal.Vals.ave
    rw [h7]
    rfl

theorem claim : Cert.Claim :=
  ⟨Cert.Kernel.Gen.facts, Cert.KernelIdeal.Gen.facts, Cert.ReferenceIdeal.Gen.facts, PreIn.lens_facts, Cert.Pre_in_range.Gen.facts,
    quiescent_Kernel, quiescent_KernelIdeal, quiescent_KernelIdeal_pre_in_range, quiescent_ReferenceIdeal, quiescent_ReferenceIdeal_pre_in_range, trivial,
    algebraic_KernelIdeal_ReferenceIdeal⟩

end Cert.Proof

end
